-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gain [hPre_finite_gain : Cert.Pre_finite_gain.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gain.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gain [hPre_finite_gain : Cert.Pre_finite_gain.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gain.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_gain [hKernel3Ideal : Cert.Kernel3Ideal.Facts] [hPre_finite_gain : Cert.Pre_finite_gain.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gain m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_gain [hReference3Ideal : Cert.Reference3Ideal.Facts] [hPre_finite_gain : Cert.Pre_finite_gain.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gain m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_gain [hKernel3Ideal : Cert.Kernel3Ideal.Facts] [hReference3Ideal : Cert.Reference3Ideal.Facts] [hPre_finite_gain : Cert.Pre_finite_gain.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gain m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_gain : Cert.Pre_finite_gain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gain (hKernel3Ideal := hKernel3Ideal) (hPre_finite_gain := hPre_finite_gain)
    ∧ quiescent_Reference3Ideal (hReference3Ideal := hReference3Ideal)
    ∧ quiescent_Reference3Ideal_pre_finite_gain (hReference3Ideal := hReference3Ideal) (hPre_finite_gain := hPre_finite_gain)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gain (hKernel3Ideal := hKernel3Ideal) (hReference3Ideal := hReference3Ideal) (hPre_finite_gain := hPre_finite_gain)
    ∧ preserves_Kernel4_Kernel4Ideal
    ∧ algebraic_Kernel4Ideal_Reference4Ideal (hKernel4Ideal := hKernel4Ideal) (hReference4Ideal := hReference4Ideal)
-- ==== Pre_finite.lean ====
abbrev S4x4096x16x128 : Shape := ⟨4, ![4, 4096, 16, 128]⟩
abbrev S4x16x4096x128 : Shape := ⟨4, ![4, 16, 4096, 128]⟩
abbrev S4x8x4096x256 : Shape := ⟨4, ![4, 8, 4096, 256]⟩
abbrev S128 : Shape := ⟨1, ![128]⟩
abbrev S256 : Shape := ⟨1, ![256]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S4x8x4096x256 : S_.BroadcastsInDim S4x8x4096x256 (![] : Fin 0 → Fin S4x8x4096x256.rank)
  reducesTo_S4x8x4096x256_S_d0_1_2_3 : S4x8x4096x256.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x4096x16x128 .f32) (main_arg1 : FVec F S4x16x4096x128 .f32) (main_arg2 : FVec F S4x8x4096x256 .f32) (main_arg3 : FVec F S128 .f32) (main_arg4 : FVec F S128 .f32) (main_arg5 : FVec F S128 .f32) (main_arg6 : FVec F S128 .f32) (main_arg7 : FVec F S256 .f32) (main_arg8 : FVec F S2x2048x5632 .f32) (main_arg9 : FVec F S2x2048x5632 .f32) (main_arg10 : FVec F S2x5632x2048 .f32) : IVec S_ 1 :=
  let main_v0 : FVec F S4x8x4096x256 .f32 := Host.absf main_arg2
  let main_cst : FVec F S_ .f32 := constant S_ .f32 0x7F800000#32
  let main_v1 : FVec F S4x8x4096x256 .f32 := broadcastInDim S4x8x4096x256 ![] bcast_S_S4x8x4096x256 main_cst
  let main_v2 : IVec S4x8x4096x256 1 := cmpf .olt main_v0 main_v1
  let main_c : IVec S_ 1 := constantI S_ 1 1#1
  let main_v3 : IVec S_ 1 := (fun x v => Host.reduce IntOp.andi x v reducesTo_S4x8x4096x256_S_d0_1_2_3 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Pre_finite_gain.lean ====
abbrev S4x4096x2048 : Shape := ⟨3, ![4, 4096, 2048]⟩
abbrev S2048 : Shape := ⟨1, ![2048]⟩
abbrev S4x512x512 : Shape := ⟨3, ![4, 512, 512]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : FVec F S2048 .f32) (main_arg2 : FVec F S4x512x512 .f32) (main_arg3 : FVec F S2048 .f32) (main_arg4 : FVec F S2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S4x4096x16x128 : Shape := ⟨4, ![4, 4096, 16, 128]⟩
abbrev S4x16x4096x128 : Shape := ⟨4, ![4, 16, 4096, 128]⟩
abbrev S4x8x4096x256 : Shape := ⟨4, ![4, 8, 4096, 256]⟩
abbrev S128 : Shape := ⟨1, ![128]⟩
abbrev S256 : Shape := ⟨1, ![256]⟩
abbrev S2x2048x5632 : Shape := ⟨3, ![2, 2048, 5632]⟩
abbrev S2x5632x2048 : Shape := ⟨3, ![2, 5632, 2048]⟩
abbrev S_ : Shape := ⟨0, ![]⟩
abbrev S4x4096x2048 : Shape := ⟨3, ![4, 4096, 2048]⟩
abbrev S1x4x4096x2048 : Shape := ⟨4, ![1, 4, 4096, 2048]⟩
abbrev S2x4x4096x2048 : Shape := ⟨4, ![2, 4, 4096, 2048]⟩
abbrev S8x256x4x4096 : Shape := ⟨4, ![8, 256, 4, 4096]⟩
abbrev S2048x16384 : Shape := ⟨2, ![2048, 16384]⟩
abbrev S1x128 : Shape := ⟨2, ![1, 128]⟩
abbrev S256x1 : Shape := ⟨2, ![256, 1]⟩
abbrev S2048x5632 : Shape := ⟨2, ![2048, 5632]⟩
abbrev S5632x2048 : Shape := ⟨2, ![5632, 2048]⟩
abbrev S1x1x2048x256 : Shape := ⟨4, ![1, 1, 2048, 256]⟩
abbrev S1x1x4096x256 : Shape := ⟨4, ![1, 1, 4096, 256]⟩
abbrev S256x4096 : Shape := ⟨2, ![256, 4096]⟩
abbrev S1x2048x512 : Shape := ⟨3, ![1, 2048, 512]⟩
abbrev S1x512x2048 : Shape := ⟨3, ![1, 512, 2048]⟩
abbrev S1x2048x256 : Shape := ⟨3, ![1, 2048, 256]⟩
abbrev S2048x512 : Shape := ⟨2, ![2048, 512]⟩
abbrev S512x2048 : Shape := ⟨2, ![512, 2048]⟩
abbrev S8x1x512 : Shape := ⟨3, ![8, 1, 512]⟩
abbrev S8x256x512 : Shape := ⟨3, ![8, 256, 512]⟩
abbrev S2x512x512 : Shape := ⟨3, ![2, 512, 512]⟩
abbrev S1x1x512x128 : Shape := ⟨4, ![1, 1, 512, 128]⟩
abbrev S512x128 : Shape := ⟨2, ![512, 128]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S256x512 : Shape := ⟨2, ![256, 512]⟩
abbrev S1x256x512 : Shape := ⟨3, ![1, 256, 512]⟩
abbrev S1 : Shape := ⟨1, ![1]⟩
abbrev S1x1 : Shape := ⟨2, ![1, 1]⟩
abbrev S512x256 : Shape := ⟨2, ![512, 256]⟩
abbrev S1x512x256 : Shape := ⟨3, ![1, 512, 256]⟩

abbrev nBuf : Space → Nat
  | .hbm => 37
  | .vmem => 29
  | .smem => 0
  | _ => 0

abbrev bufTy : (tb : Table) → Fin (tcTables nBuf tb) → BufTy
  | .hbm, ⟨0, _⟩ => ⟨S4x4096x16x128, .f32⟩
  | .hbm, ⟨1, _⟩ => ⟨S4x16x4096x128, .f32⟩
  | .hbm, ⟨2, _⟩ => ⟨S4x8x4096x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S2x2048x5632, .f32⟩
  | .hbm, ⟨9, _⟩ => ⟨S2x2048x5632, .f32⟩
  | .hbm, ⟨10, _⟩ => ⟨S2x5632x2048, .f32⟩
  | .hbm, ⟨11, _⟩ => ⟨S_, .f32⟩
  | .hbm, ⟨12, _⟩ => ⟨S4x4096x16x128, .f32⟩
  | .hbm, ⟨13, _⟩ => ⟨S4x4096x16x128, .f32⟩
  | .hbm, ⟨14, _⟩ => ⟨S_, .f32⟩
  | .hbm, ⟨15, _⟩ => ⟨S_, .f32⟩
  | .hbm, ⟨16, _⟩ => ⟨S4x4096x16x128, .f32⟩
  | .hbm, ⟨17, _⟩ => ⟨S4x4096x16x128, .f32⟩
  | .hbm, ⟨18, _⟩ => ⟨S4x4096x2048, .f32⟩
  | .hbm, ⟨19, _⟩ => ⟨S4x4096x16x128, .f32⟩
  | .hbm, ⟨20, _⟩ => ⟨S4x4096x2048, .f32⟩
  | .hbm, ⟨21, _⟩ => ⟨S1x4x4096x2048, .f32⟩
  | .hbm, ⟨22, _⟩ => ⟨S1x4x4096x2048, .f32⟩
  | .hbm, ⟨23, _⟩ => ⟨S2x4x4096x2048, .f32⟩
  | .hbm, ⟨24, _⟩ => ⟨S2x4x4096x2048, .bf16⟩
  | .hbm, ⟨25, _⟩ => ⟨S8x256x4x4096, .f32⟩
  | .hbm, ⟨26, _⟩ => ⟨S2048x16384, .f32⟩
  | .hbm, ⟨27, _⟩ => ⟨S2048x16384, .bf16⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S256x1, .f32⟩
  | .hbm, ⟨33, _⟩ => ⟨S4x4096x2048, .bf16⟩
  | .hbm, ⟨34, _⟩ => ⟨S2048x5632, .bf16⟩
  | .hbm, ⟨35, _⟩ => ⟨S2048x5632, .bf16⟩
  | .hbm, ⟨36, _⟩ => ⟨S5632x2048, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S256x4096, .bf16⟩
  | .local _ .vmem, ⟨5, _⟩ => ⟨S256x4096, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S256x1, .f32⟩
  | .local _ .vmem, ⟨11, _⟩ => ⟨S1x2048x512, .f32⟩
  | .local _ .vmem, ⟨12, _⟩ => ⟨S1x2048x512, .f32⟩
  | .local _ .vmem, ⟨13, _⟩ => ⟨S1x2048x512, .f32⟩
  | .local _ .vmem, ⟨14, _⟩ => ⟨S1x2048x512, .f32⟩
  | .local _ .vmem, ⟨15, _⟩ => ⟨S1x512x2048, .f32⟩
  | .local _ .vmem, ⟨16, _⟩ => ⟨S1x512x2048, .f32⟩
  | .local _ .vmem, ⟨17, _⟩ => ⟨S1x2048x256, .bf16⟩
  | .local _ .vmem, ⟨18, _⟩ => ⟨S1x2048x256, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S512x2048, .bf16⟩
  | .local _ .vmem, ⟨24, _⟩ => ⟨S512x2048, .bf16⟩
  | .local _ .vmem, ⟨25, _⟩ => ⟨S8x1x512, .f32⟩
  | .local _ .vmem, ⟨26, _⟩ => ⟨S8x1x512, .f32⟩
  | .local _ .vmem, ⟨27, _⟩ => ⟨S8x256x512, .f32⟩
  | .local _ .vmem, ⟨28, _⟩ => ⟨S2x512x512, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨3, ![4, 8, 2], ![false, false, false]⟩

def k0_mult1 : BitVec 32 :=
  let c0_i32_15 : BitVec 32 := 0#32
  c0_i32_15
@[reducible] def k0_t1_loop (i : grid0.Coords) : Scf.Loop 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_30 : BitVec 32 := 1#32
  ⟨c0_i32_29, v47, c1_i32_30⟩
def k0_mult2 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_892 : BitVec 32 := 0#32
  let v1241 : BitVec 32 := Scalar.addi v1239 c0_i32_892
  let c512_i32_908 : BitVec 32 := 512#32
  let v1257 : BitVec 32 := Scalar.muli v1241 c512_i32_908
  v1257
def k0_off1 (i : grid0.Coords) (k0_t1 : Fin (k0_t1_loop i).trips) (c0_i32_892 : BitVec 32) : Fin 4 → Nat :=
  let c0_909 : Index := 0#32
  let c0_910 : Index := 0#32
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let v1241 : BitVec 32 := Scalar.addi v1239 c0_i32_892
  let c512_i32_908 : BitVec 32 := 512#32
  let v1257 : BitVec 32 := Scalar.muli v1241 c512_i32_908
  let v1258 : BitVec 32 := v1257
  let v1259 : Index := Scalar.indexCast v1258
  let c128_911 : Index := 128#32
  ![0, 0, v1259.toNat, 128]
def k0_mult3 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_891 : BitVec 32 := 0#32
  let v1240 : BitVec 32 := Scalar.addi v1239 c0_i32_891
  let c512_i32_934 : BitVec 32 := 512#32
  let v1289 : BitVec 32 := Scalar.muli v1240 c512_i32_934
  v1289
def k0_off2 (i : grid0.Coords) (k0_t1 : Fin (k0_t1_loop i).trips) (c0_i32_891 : BitVec 32) : Fin 2 → Nat :=
  let c0_935 : Index := 0#32
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let v1240 : BitVec 32 := Scalar.addi v1239 c0_i32_891
  let c512_i32_934 : BitVec 32 := 512#32
  let v1289 : BitVec 32 := Scalar.muli v1240 c512_i32_934
  let v1290 : BitVec 32 := v1289
  let v1291 : Index := Scalar.indexCast v1290
  ![0, v1291.toNat]
def k0_mult4 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_893 : BitVec 32 := 0#32
  let v1242 : BitVec 32 := Scalar.addi v1239 c0_i32_893
  let c512_i32_946 : BitVec 32 := 512#32
  let v1307 : BitVec 32 := Scalar.muli v1242 c512_i32_946
  v1307
def k0_off3 (i : grid0.Coords) (k0_t1 : Fin (k0_t1_loop i).trips) (c0_i32_893 : BitVec 32) : Fin 4 → Nat :=
  let c0_947 : Index := 0#32
  let c0_948 : Index := 0#32
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let v1242 : BitVec 32 := Scalar.addi v1239 c0_i32_893
  let c512_i32_946 : BitVec 32 := 512#32
  let v1307 : BitVec 32 := Scalar.muli v1242 c512_i32_946
  let v1308 : BitVec 32 := v1307
  let v1309 : Index := Scalar.indexCast v1308
  let c0_949 : Index := 0#32
  ![0, 0, v1309.toNat, 0]
def k0_mult5 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_892 : BitVec 32 := 0#32
  let v1241 : BitVec 32 := Scalar.addi v1239 c0_i32_892
  let c512_i32_972 : BitVec 32 := 512#32
  let v1339 : BitVec 32 := Scalar.muli v1241 c512_i32_972
  v1339
def k0_mult6 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_894 : BitVec 32 := 0#32
  let v1243 : BitVec 32 := Scalar.addi v1239 c0_i32_894
  let c512_i32_984 : BitVec 32 := 512#32
  let v1357 : BitVec 32 := Scalar.muli v1243 c512_i32_984
  v1357
def k0_mult7 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_893 : BitVec 32 := 0#32
  let v1242 : BitVec 32 := Scalar.addi v1239 c0_i32_893
  let c512_i32_1010 : BitVec 32 := 512#32
  let v1389 : BitVec 32 := Scalar.muli v1242 c512_i32_1010
  v1389
def k0_mult8 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_895 : BitVec 32 := 0#32
  let v1244 : BitVec 32 := Scalar.addi v1239 c0_i32_895
  let c512_i32_1022 : BitVec 32 := 512#32
  let v1407 : BitVec 32 := Scalar.muli v1244 c512_i32_1022
  v1407
def k0_mult9 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_894 : BitVec 32 := 0#32
  let v1243 : BitVec 32 := Scalar.addi v1239 c0_i32_894
  let c512_i32_1048 : BitVec 32 := 512#32
  let v1439 : BitVec 32 := Scalar.muli v1243 c512_i32_1048
  v1439
def k0_mult10 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_896 : BitVec 32 := 0#32
  let v1245 : BitVec 32 := Scalar.addi v1239 c0_i32_896
  let c512_i32_1060 : BitVec 32 := 512#32
  let v1457 : BitVec 32 := Scalar.muli v1245 c512_i32_1060
  v1457
def k0_mult11 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_895 : BitVec 32 := 0#32
  let v1244 : BitVec 32 := Scalar.addi v1239 c0_i32_895
  let c512_i32_1086 : BitVec 32 := 512#32
  let v1489 : BitVec 32 := Scalar.muli v1244 c512_i32_1086
  v1489
def k0_mult12 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_897 : BitVec 32 := 0#32
  let v1246 : BitVec 32 := Scalar.addi v1239 c0_i32_897
  let c512_i32_1098 : BitVec 32 := 512#32
  let v1507 : BitVec 32 := Scalar.muli v1246 c512_i32_1098
  v1507
def k0_mult13 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_896 : BitVec 32 := 0#32
  let v1245 : BitVec 32 := Scalar.addi v1239 c0_i32_896
  let c512_i32_1124 : BitVec 32 := 512#32
  let v1539 : BitVec 32 := Scalar.muli v1245 c512_i32_1124
  v1539
def k0_mult14 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_898 : BitVec 32 := 0#32
  let v1247 : BitVec 32 := Scalar.addi v1239 c0_i32_898
  let c512_i32_1136 : BitVec 32 := 512#32
  let v1557 : BitVec 32 := Scalar.muli v1247 c512_i32_1136
  v1557
def k0_mult15 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_897 : BitVec 32 := 0#32
  let v1246 : BitVec 32 := Scalar.addi v1239 c0_i32_897
  let c512_i32_1162 : BitVec 32 := 512#32
  let v1589 : BitVec 32 := Scalar.muli v1246 c512_i32_1162
  v1589
def k0_mult16 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_899 : BitVec 32 := 1#32
  let v1248 : BitVec 32 := Scalar.addi v1239 c1_i32_899
  let c512_i32_1174 : BitVec 32 := 512#32
  let v1607 : BitVec 32 := Scalar.muli v1248 c512_i32_1174
  v1607
def k0_mult17 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c0_i32_898 : BitVec 32 := 0#32
  let v1247 : BitVec 32 := Scalar.addi v1239 c0_i32_898
  let c512_i32_1200 : BitVec 32 := 512#32
  let v1639 : BitVec 32 := Scalar.muli v1247 c512_i32_1200
  v1639
def k0_mult18 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_900 : BitVec 32 := 1#32
  let v1249 : BitVec 32 := Scalar.addi v1239 c1_i32_900
  let c512_i32_1212 : BitVec 32 := 512#32
  let v1657 : BitVec 32 := Scalar.muli v1249 c512_i32_1212
  v1657
def k0_mult19 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_899 : BitVec 32 := 1#32
  let v1248 : BitVec 32 := Scalar.addi v1239 c1_i32_899
  let c512_i32_1238 : BitVec 32 := 512#32
  let v1689 : BitVec 32 := Scalar.muli v1248 c512_i32_1238
  v1689
def k0_mult20 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_901 : BitVec 32 := 1#32
  let v1250 : BitVec 32 := Scalar.addi v1239 c1_i32_901
  let c512_i32_1250 : BitVec 32 := 512#32
  let v1707 : BitVec 32 := Scalar.muli v1250 c512_i32_1250
  v1707
def k0_mult21 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_900 : BitVec 32 := 1#32
  let v1249 : BitVec 32 := Scalar.addi v1239 c1_i32_900
  let c512_i32_1276 : BitVec 32 := 512#32
  let v1739 : BitVec 32 := Scalar.muli v1249 c512_i32_1276
  v1739
def k0_mult22 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_902 : BitVec 32 := 1#32
  let v1251 : BitVec 32 := Scalar.addi v1239 c1_i32_902
  let c512_i32_1288 : BitVec 32 := 512#32
  let v1757 : BitVec 32 := Scalar.muli v1251 c512_i32_1288
  v1757
def k0_mult23 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_901 : BitVec 32 := 1#32
  let v1250 : BitVec 32 := Scalar.addi v1239 c1_i32_901
  let c512_i32_1314 : BitVec 32 := 512#32
  let v1789 : BitVec 32 := Scalar.muli v1250 c512_i32_1314
  v1789
def k0_mult24 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_903 : BitVec 32 := 1#32
  let v1252 : BitVec 32 := Scalar.addi v1239 c1_i32_903
  let c512_i32_1326 : BitVec 32 := 512#32
  let v1807 : BitVec 32 := Scalar.muli v1252 c512_i32_1326
  v1807
def k0_mult25 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_902 : BitVec 32 := 1#32
  let v1251 : BitVec 32 := Scalar.addi v1239 c1_i32_902
  let c512_i32_1352 : BitVec 32 := 512#32
  let v1839 : BitVec 32 := Scalar.muli v1251 c512_i32_1352
  v1839
def k0_mult26 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_904 : BitVec 32 := 1#32
  let v1253 : BitVec 32 := Scalar.addi v1239 c1_i32_904
  let c512_i32_1364 : BitVec 32 := 512#32
  let v1857 : BitVec 32 := Scalar.muli v1253 c512_i32_1364
  v1857
def k0_mult27 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_903 : BitVec 32 := 1#32
  let v1252 : BitVec 32 := Scalar.addi v1239 c1_i32_903
  let c512_i32_1390 : BitVec 32 := 512#32
  let v1889 : BitVec 32 := Scalar.muli v1252 c512_i32_1390
  v1889
def k0_mult28 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_905 : BitVec 32 := 1#32
  let v1254 : BitVec 32 := Scalar.addi v1239 c1_i32_905
  let c512_i32_1402 : BitVec 32 := 512#32
  let v1907 : BitVec 32 := Scalar.muli v1254 c512_i32_1402
  v1907
def k0_mult29 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_904 : BitVec 32 := 1#32
  let v1253 : BitVec 32 := Scalar.addi v1239 c1_i32_904
  let c512_i32_1428 : BitVec 32 := 512#32
  let v1939 : BitVec 32 := Scalar.muli v1253 c512_i32_1428
  v1939
def k0_mult30 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_906 : BitVec 32 := 1#32
  let v1255 : BitVec 32 := Scalar.addi v1239 c1_i32_906
  let c512_i32_1440 : BitVec 32 := 512#32
  let v1957 : BitVec 32 := Scalar.muli v1255 c512_i32_1440
  v1957
def k0_mult31 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_905 : BitVec 32 := 1#32
  let v1254 : BitVec 32 := Scalar.addi v1239 c1_i32_905
  let c512_i32_1466 : BitVec 32 := 512#32
  let v1989 : BitVec 32 := Scalar.muli v1254 c512_i32_1466
  v1989
def k0_mult32 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c2_i32_907 : BitVec 32 := 2#32
  let v1256 : BitVec 32 := Scalar.addi v1239 c2_i32_907
  let c512_i32_1478 : BitVec 32 := 512#32
  let v2007 : BitVec 32 := Scalar.muli v1256 c512_i32_1478
  v2007
def k0_mult33 (i : grid0.Coords) (k0_t1 : Fin (k0_t1_loop i).trips) : BitVec 32 :=
  let c0_i32_29 : BitVec 32 := 0#32
  let c1_i32_30 : BitVec 32 := 1#32
  let arg22 : BitVec 32 := Scf.iv c0_i32_29 c1_i32_30 k0_t1
  let c2_i32_890 : BitVec 32 := 2#32
  let v1239 : BitVec 32 := Scalar.muli arg22 c2_i32_890
  let c1_i32_906 : BitVec 32 := 1#32
  let v1255 : BitVec 32 := Scalar.addi v1239 c1_i32_906
  let c512_i32_1504 : BitVec 32 := 512#32
  let v2039 : BitVec 32 := Scalar.muli v1255 c512_i32_1504
  v2039
@[reducible] def k0_t2_loop (i : grid0.Coords) : Scf.Loop 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let v44 : BitVec 32 := Scalar.addi c0_i32_29 v43
  let c1_i32_31 : BitVec 32 := 1#32
  ⟨v47, v44, c1_i32_31⟩
def k0_mult34 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_892 : BitVec 32 := 0#32
  let v1241 : BitVec 32 := Scalar.addi v1239 c0_i32_892
  let c512_i32_908 : BitVec 32 := 512#32
  let v1257 : BitVec 32 := Scalar.muli v1241 c512_i32_908
  v1257
def k0_off4 (i : grid0.Coords) (k0_t2 : Fin (k0_t2_loop i).trips) (c0_i32_892 : BitVec 32) : Fin 4 → Nat :=
  let c0_909 : Index := 0#32
  let c0_910 : Index := 0#32
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let v1241 : BitVec 32 := Scalar.addi v1239 c0_i32_892
  let c512_i32_908 : BitVec 32 := 512#32
  let v1257 : BitVec 32 := Scalar.muli v1241 c512_i32_908
  let v1258 : BitVec 32 := v1257
  let v1259 : Index := Scalar.indexCast v1258
  let c128_911 : Index := 128#32
  ![0, 0, v1259.toNat, 128]
def k0_mult35 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_891 : BitVec 32 := 0#32
  let v1240 : BitVec 32 := Scalar.addi v1239 c0_i32_891
  let c512_i32_934 : BitVec 32 := 512#32
  let v1289 : BitVec 32 := Scalar.muli v1240 c512_i32_934
  v1289
def k0_off5 (i : grid0.Coords) (k0_t2 : Fin (k0_t2_loop i).trips) (c0_i32_891 : BitVec 32) : Fin 2 → Nat :=
  let c0_935 : Index := 0#32
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let v1240 : BitVec 32 := Scalar.addi v1239 c0_i32_891
  let c512_i32_934 : BitVec 32 := 512#32
  let v1289 : BitVec 32 := Scalar.muli v1240 c512_i32_934
  let v1290 : BitVec 32 := v1289
  let v1291 : Index := Scalar.indexCast v1290
  ![0, v1291.toNat]
def k0_mult36 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_893 : BitVec 32 := 0#32
  let v1242 : BitVec 32 := Scalar.addi v1239 c0_i32_893
  let c512_i32_946 : BitVec 32 := 512#32
  let v1307 : BitVec 32 := Scalar.muli v1242 c512_i32_946
  v1307
def k0_off6 (i : grid0.Coords) (k0_t2 : Fin (k0_t2_loop i).trips) (c0_i32_893 : BitVec 32) : Fin 4 → Nat :=
  let c0_947 : Index := 0#32
  let c0_948 : Index := 0#32
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let v1242 : BitVec 32 := Scalar.addi v1239 c0_i32_893
  let c512_i32_946 : BitVec 32 := 512#32
  let v1307 : BitVec 32 := Scalar.muli v1242 c512_i32_946
  let v1308 : BitVec 32 := v1307
  let v1309 : Index := Scalar.indexCast v1308
  let c0_949 : Index := 0#32
  ![0, 0, v1309.toNat, 0]
def k0_mult37 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_892 : BitVec 32 := 0#32
  let v1241 : BitVec 32 := Scalar.addi v1239 c0_i32_892
  let c512_i32_972 : BitVec 32 := 512#32
  let v1339 : BitVec 32 := Scalar.muli v1241 c512_i32_972
  v1339
def k0_mult38 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_894 : BitVec 32 := 0#32
  let v1243 : BitVec 32 := Scalar.addi v1239 c0_i32_894
  let c512_i32_984 : BitVec 32 := 512#32
  let v1357 : BitVec 32 := Scalar.muli v1243 c512_i32_984
  v1357
def k0_mult39 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_893 : BitVec 32 := 0#32
  let v1242 : BitVec 32 := Scalar.addi v1239 c0_i32_893
  let c512_i32_1010 : BitVec 32 := 512#32
  let v1389 : BitVec 32 := Scalar.muli v1242 c512_i32_1010
  v1389
def k0_mult40 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_895 : BitVec 32 := 0#32
  let v1244 : BitVec 32 := Scalar.addi v1239 c0_i32_895
  let c512_i32_1022 : BitVec 32 := 512#32
  let v1407 : BitVec 32 := Scalar.muli v1244 c512_i32_1022
  v1407
def k0_mult41 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_894 : BitVec 32 := 0#32
  let v1243 : BitVec 32 := Scalar.addi v1239 c0_i32_894
  let c512_i32_1048 : BitVec 32 := 512#32
  let v1439 : BitVec 32 := Scalar.muli v1243 c512_i32_1048
  v1439
def k0_mult42 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_896 : BitVec 32 := 0#32
  let v1245 : BitVec 32 := Scalar.addi v1239 c0_i32_896
  let c512_i32_1060 : BitVec 32 := 512#32
  let v1457 : BitVec 32 := Scalar.muli v1245 c512_i32_1060
  v1457
def k0_mult43 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_895 : BitVec 32 := 0#32
  let v1244 : BitVec 32 := Scalar.addi v1239 c0_i32_895
  let c512_i32_1086 : BitVec 32 := 512#32
  let v1489 : BitVec 32 := Scalar.muli v1244 c512_i32_1086
  v1489
def k0_mult44 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_897 : BitVec 32 := 0#32
  let v1246 : BitVec 32 := Scalar.addi v1239 c0_i32_897
  let c512_i32_1098 : BitVec 32 := 512#32
  let v1507 : BitVec 32 := Scalar.muli v1246 c512_i32_1098
  v1507
def k0_mult45 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_896 : BitVec 32 := 0#32
  let v1245 : BitVec 32 := Scalar.addi v1239 c0_i32_896
  let c512_i32_1124 : BitVec 32 := 512#32
  let v1539 : BitVec 32 := Scalar.muli v1245 c512_i32_1124
  v1539
def k0_mult46 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_898 : BitVec 32 := 0#32
  let v1247 : BitVec 32 := Scalar.addi v1239 c0_i32_898
  let c512_i32_1136 : BitVec 32 := 512#32
  let v1557 : BitVec 32 := Scalar.muli v1247 c512_i32_1136
  v1557
def k0_mult47 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_897 : BitVec 32 := 0#32
  let v1246 : BitVec 32 := Scalar.addi v1239 c0_i32_897
  let c512_i32_1162 : BitVec 32 := 512#32
  let v1589 : BitVec 32 := Scalar.muli v1246 c512_i32_1162
  v1589
def k0_mult48 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_899 : BitVec 32 := 1#32
  let v1248 : BitVec 32 := Scalar.addi v1239 c1_i32_899
  let c512_i32_1174 : BitVec 32 := 512#32
  let v1607 : BitVec 32 := Scalar.muli v1248 c512_i32_1174
  v1607
def k0_mult49 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c0_i32_898 : BitVec 32 := 0#32
  let v1247 : BitVec 32 := Scalar.addi v1239 c0_i32_898
  let c512_i32_1200 : BitVec 32 := 512#32
  let v1639 : BitVec 32 := Scalar.muli v1247 c512_i32_1200
  v1639
def k0_mult50 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_900 : BitVec 32 := 1#32
  let v1249 : BitVec 32 := Scalar.addi v1239 c1_i32_900
  let c512_i32_1212 : BitVec 32 := 512#32
  let v1657 : BitVec 32 := Scalar.muli v1249 c512_i32_1212
  v1657
def k0_mult51 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_899 : BitVec 32 := 1#32
  let v1248 : BitVec 32 := Scalar.addi v1239 c1_i32_899
  let c512_i32_1238 : BitVec 32 := 512#32
  let v1689 : BitVec 32 := Scalar.muli v1248 c512_i32_1238
  v1689
def k0_mult52 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_901 : BitVec 32 := 1#32
  let v1250 : BitVec 32 := Scalar.addi v1239 c1_i32_901
  let c512_i32_1250 : BitVec 32 := 512#32
  let v1707 : BitVec 32 := Scalar.muli v1250 c512_i32_1250
  v1707
def k0_mult53 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_900 : BitVec 32 := 1#32
  let v1249 : BitVec 32 := Scalar.addi v1239 c1_i32_900
  let c512_i32_1276 : BitVec 32 := 512#32
  let v1739 : BitVec 32 := Scalar.muli v1249 c512_i32_1276
  v1739
def k0_mult54 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_902 : BitVec 32 := 1#32
  let v1251 : BitVec 32 := Scalar.addi v1239 c1_i32_902
  let c512_i32_1288 : BitVec 32 := 512#32
  let v1757 : BitVec 32 := Scalar.muli v1251 c512_i32_1288
  v1757
def k0_mult55 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_901 : BitVec 32 := 1#32
  let v1250 : BitVec 32 := Scalar.addi v1239 c1_i32_901
  let c512_i32_1314 : BitVec 32 := 512#32
  let v1789 : BitVec 32 := Scalar.muli v1250 c512_i32_1314
  v1789
def k0_mult56 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_903 : BitVec 32 := 1#32
  let v1252 : BitVec 32 := Scalar.addi v1239 c1_i32_903
  let c512_i32_1326 : BitVec 32 := 512#32
  let v1807 : BitVec 32 := Scalar.muli v1252 c512_i32_1326
  v1807
def k0_mult57 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_902 : BitVec 32 := 1#32
  let v1251 : BitVec 32 := Scalar.addi v1239 c1_i32_902
  let c512_i32_1352 : BitVec 32 := 512#32
  let v1839 : BitVec 32 := Scalar.muli v1251 c512_i32_1352
  v1839
def k0_mult58 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_904 : BitVec 32 := 1#32
  let v1253 : BitVec 32 := Scalar.addi v1239 c1_i32_904
  let c512_i32_1364 : BitVec 32 := 512#32
  let v1857 : BitVec 32 := Scalar.muli v1253 c512_i32_1364
  v1857
def k0_mult59 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_903 : BitVec 32 := 1#32
  let v1252 : BitVec 32 := Scalar.addi v1239 c1_i32_903
  let c512_i32_1390 : BitVec 32 := 512#32
  let v1889 : BitVec 32 := Scalar.muli v1252 c512_i32_1390
  v1889
def k0_mult60 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_905 : BitVec 32 := 1#32
  let v1254 : BitVec 32 := Scalar.addi v1239 c1_i32_905
  let c512_i32_1402 : BitVec 32 := 512#32
  let v1907 : BitVec 32 := Scalar.muli v1254 c512_i32_1402
  v1907
def k0_mult61 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_904 : BitVec 32 := 1#32
  let v1253 : BitVec 32 := Scalar.addi v1239 c1_i32_904
  let c512_i32_1428 : BitVec 32 := 512#32
  let v1939 : BitVec 32 := Scalar.muli v1253 c512_i32_1428
  v1939
def k0_mult62 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_906 : BitVec 32 := 1#32
  let v1255 : BitVec 32 := Scalar.addi v1239 c1_i32_906
  let c512_i32_1440 : BitVec 32 := 512#32
  let v1957 : BitVec 32 := Scalar.muli v1255 c512_i32_1440
  v1957
def k0_mult63 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_905 : BitVec 32 := 1#32
  let v1254 : BitVec 32 := Scalar.addi v1239 c1_i32_905
  let c512_i32_1466 : BitVec 32 := 512#32
  let v1989 : BitVec 32 := Scalar.muli v1254 c512_i32_1466
  v1989
def k0_mult64 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c2_i32_907 : BitVec 32 := 2#32
  let v1256 : BitVec 32 := Scalar.addi v1239 c2_i32_907
  let c512_i32_1478 : BitVec 32 := 512#32
  let v2007 : BitVec 32 := Scalar.muli v1256 c512_i32_1478
  v2007
def k0_mult65 (i : grid0.Coords) (k0_t2 : Fin (k0_t2_loop i).trips) : BitVec 32 :=
  let c0_i32_29 : BitVec 32 := 0#32
  let arg2 : BitVec 32 := BitVec.ofNat 32 (i 2).val
  let c2_i32_27 : BitVec 32 := 2#32
  let v42 : BitVec 32 := Scalar.muli arg2 c2_i32_27
  let v43 : BitVec 32 := Scalar.subi v42 c0_i32_29
  let c1_i32 : BitVec 32 := 1#32
  let v45 : BitVec 32 := Scalar.divsi v43 c1_i32
  let v46 : BitVec 32 := Scalar.muli v45 c1_i32
  let v47 : BitVec 32 := Scalar.addi c0_i32_29 v46
  let c1_i32_31 : BitVec 32 := 1#32
  let arg22 : BitVec 32 := Scf.iv v47 c1_i32_31 k0_t2
  let c2_i32_890 : BitVec 32 := 2#32
  let v1239 : BitVec 32 := Scalar.muli arg22 c2_i32_890
  let c1_i32_906 : BitVec 32 := 1#32
  let v1255 : BitVec 32 := Scalar.addi v1239 c1_i32_906
  let c512_i32_1504 : BitVec 32 := 512#32
  let v2039 : BitVec 32 := Scalar.muli v1255 c512_i32_1504
  v2039
def k0_mult66 (i : grid0.Coords) : BitVec 32 :=
  let arg2 : BitVec 32 := BitVec.ofNat 32 (i 2).val
  let c4_i32 : BitVec 32 := 4#32
  let v31 : BitVec 32 := Scalar.muli arg2 c4_i32
  let c0_i32_33 : BitVec 32 := 0#32
  let v52 : BitVec 32 := Scalar.addi v31 c0_i32_33
  let c512_i32 : BitVec 32 := 512#32
  let v71 : BitVec 32 := Scalar.muli v52 c512_i32
  v71
def k0_off7 (i : grid0.Coords) (c0_i32_33 : BitVec 32) : Fin 4 → Nat :=
  let c0_51 : Index := 0#32
  let c0_52 : Index := 0#32
  let arg2 : BitVec 32 := BitVec.ofNat 32 (i 2).val
  let c4_i32 : BitVec 32 := 4#32
  let v31 : BitVec 32 := Scalar.muli arg2 c4_i32
  let v52 : BitVec 32 := Scalar.addi v31 c0_i32_33
  let c512_i32 : BitVec 32 := 512#32
  let v71 : BitVec 32 := Scalar.muli v52 c512_i32
  let v72 : BitVec 32 := v71
  let v73 : Index := Scalar.indexCast v72
  let c128 : Index := 128#32
  ![0, 0, v73.toNat, 128]
def k0_mult67 (i : grid0.Coords) : BitVec 32 :=
  let arg2 : BitVec 32 := BitVec.ofNat 32 (i 2).val
  let c4_i32 : BitVec 32 := 4#32
  let v31 : BitVec 32 := Scalar.muli arg2 c4_i32
  let c0_i32_32 : BitVec 32 := 0#32
  let v51 : BitVec 32 := Scalar.addi v31 c0_i32_32
  let c512_i32_75 : BitVec 32 := 512#32
  let v105 : BitVec 32 := Scalar.muli v51 c512_i32_75
  v105
def k0_off8 (i : grid0.Coords) (c0_i32_32 : BitVec 32) : Fin 2 → Nat :=
  let c0_76 : Index := 0#32
  let arg2 : BitVec 32 := BitVec.ofNat 32 (i 2).val
  let c4_i32 : BitVec 32 := 4#32
  let v31 : BitVec 32 := Scalar.muli arg2 c4_i32
  let v51 : BitVec 32 := Scalar.addi v31 c0_i32_32
  let c512_i32_75 : BitVec 32 := 512#32
  let v105 : BitVec 32 := Scalar.muli v51 c512_i32_75
  let v106 : BitVec 32 := v105
  let v107 : Index := Scalar.indexCast v106
  ![0, v107.toNat]
def k0_mult68 (i : grid0.Coords) : BitVec 32 :=
  let arg2 : BitVec 32 := BitVec.ofNat 32 (i 2).val
  let c4_i32 : BitVec 32 := 4#32
  let v31 : BitVec 32 := Scalar.muli arg2 c4_i32
  let c0_i32_34 : BitVec 32 := 0#32
  let v53 : BitVec 32 := Scalar.addi v31 c0_i32_34
  let c512_i32_87 : BitVec 32 := 512#32
  let v123 : BitVec 32 := Scalar.muli v53 c512_i32_87
  v123
def k0_off9 (i : grid0.Coords) (c0_i32_34 : BitVec 32) : Fin 4 → Nat :=
  let c0_88 : Index := 0#32
  let c0_89 : Index := 0#32
  let arg2 : BitVec 32 := BitVec.ofNat 32 (i 2).val
  let c4_i32 : BitVec 32 := 4#32
  let v31 : BitVec 32 := Scalar.muli arg2 c4_i32
  let v53 : BitVec 32 := Scalar.addi v31 c0_i32_34
  let c512_i32_87 : BitVec 32 := 512#32
  let v123 : BitVec 32 := Scalar.muli v53 c512_i32_87
  let v124 : BitVec 32 := v123
  let v125 : Index := Scalar.indexCast v124
  let c0_90 : Index := 0#32
  ![0, 0, v125.toNat, 0]
def k0_mult69 (i : grid0.Coords) : BitVec 32 :=
  let arg2 : BitVec 32 := BitVec.ofNat 32 (i 2).val
  let c4_i32 : BitVec 32 := 4#32
  let v31 : BitVec 32 := Scalar.muli arg2 c4_i32
  let c0_i32_33 : BitVec 32 := 0#32
  let v52 : BitVec 32 := Scalar.addi v31 c0_i32_33
  let c512_i32_113 : BitVec 32 := 512#32
  let v157 : BitVec 32 := Scalar.muli v52 c512_i32_113
  v157
def k0_mult70 (i : grid0.Coords) : BitVec 32 :=
  let arg2 : BitVec 32 := BitVec.ofNat 32 (i 2).val
  let c4_i32 : BitVec 32 := 4#32
  let v31 : BitVec 32 := Scalar.muli arg2 c4_i32
  let c0_i32_35 : BitVec 32 := 0#32
  let v54 : BitVec 32 := Scalar.addi v31 c0_i32_35
  let c512_i32_125 : BitVec 32 := 512#32
  let v175 : BitVec 32 := Scalar.muli v54 c512_i32_125
  v175
def k0_mult71 (i : grid0.Coords) : BitVec 32 :=
  let arg2 : BitVec 32 := BitVec.ofNat 32 (i 2).val
  let c4_i32 : BitVec 32 := 4#32
  let v31 : BitVec 32 := Scalar.muli arg2 c4_i32
  let c0_i32_34 : BitVec 32 := 0#32
  let v53 : BitVec 32 := Scalar.addi v31 c0_i32_34
  let c512_i32_150 : BitVec 32 := 512#32
  let v207 : BitVec 32 := Scalar.muli v53 c512_i32_150
  v207
def k0_mult72 (i : grid0.Coords) : BitVec 32 :=
  let arg2 : BitVec 32 := BitVec.ofNat 32 (i 2).val
  let c4_i32 : BitVec 32 := 4#32
  let v31 : BitVec 32 := Scalar.muli arg2 c4_i32
  let c0_i32_36 : BitVec 32 := 0#32
  let v55 : BitVec 32 := Scalar.addi v31 c0_i32_36
  let c512_i32_162 : BitVec 32 := 512#32
  let v225 : BitVec 32 := Scalar.muli v55 c512_i32_162
  v225
def k0_mult73 (i : grid0.Coords) : BitVec 32 :=
  let arg2 : BitVec 32 := BitVec.ofNat 32 (i 2).val
  let c4_i32 : BitVec 32 := 4#32
  let v31 : BitVec 32 := Scalar.muli arg2 c4_i32
  let c0_i32_35 : BitVec 32 := 0#32
  let v54 : BitVec 32 := Scalar.addi v31 c0_i32_35
  let c512_i32_186 : BitVec 32 := 512#32
  let v257 : BitVec 32 := Scalar.muli v54 c512_i32_186
  v257
def k0_mult74 (i : grid0.Coords) : BitVec 32 :=
  let arg2 : BitVec 32 := BitVec.ofNat 32 (i 2).val
  let c4_i32 : BitVec 32 := 4#32
  let v31 : BitVec 32 := Scalar.muli arg2 c4_i32
  let c0_i32_37 : BitVec 32 := 0#32
  let v56 : BitVec 32 := Scalar.addi v31 c0_i32_37
  let c512_i32_198 : BitVec 32 := 512#32
  let v275 : BitVec 32 := Scalar.muli v56 c512_i32_198
  v275
def k0_mult75 (i : grid0.Coords) : BitVec 32 :=
  let arg2 : BitVec 32 := BitVec.ofNat 32 (i 2).val
  let c4_i32 : BitVec 32 := 4#32
  let v31 : BitVec 32 := Scalar.muli arg2 c4_i32
  let c0_i32_36 : BitVec 32 := 0#32
  let v55 : BitVec 32 := Scalar.addi v31 c0_i32_36
  let c512_i32_223 : BitVec 32 := 512#32
  let v307 : BitVec 32 := Scalar.muli v55 c512_i32_223
  v307
def k0_mult76 (i : grid0.Coords) : BitVec 32 :=
  let arg2 : BitVec 32 := BitVec.ofNat 32 (i 2).val
  let c4_i32 : BitVec 32 := 4#32
  let v31 : BitVec 32 := Scalar.muli arg2 c4_i32
  let c0_i32_38 : BitVec 32 := 0#32
  let v57 : BitVec 32 := Scalar.addi v31 c0_i32_38
  let c512_i32_235 : BitVec 32 := 512#32
  let v325 : BitVec 32 := Scalar.muli v57 c512_i32_235
  v325
def k0_mult77 (i : grid0.Coords) : BitVec 32 :=
  let arg2 : BitVec 32 := BitVec.ofNat 32 (i 2).val
  let c4_i32 : BitVec 32 := 4#32
  let v31 : BitVec 32 := Scalar.muli arg2 c4_i32
  let c0_i32_37 : BitVec 32 := 0#32
  let v56 : BitVec 32 := Scalar.addi v31 c0_i32_37
  let c512_i32_259 : BitVec 32 := 512#32
  let v357 : BitVec 32 := Scalar.muli v56 c512_i32_259
  v357
def k0_mult78 (i : grid0.Coords) : BitVec 32 :=
  let arg2 : BitVec 32 := BitVec.ofNat 32 (i 2).val
  let c4_i32 : BitVec 32 := 4#32
  let v31 : BitVec 32 := Scalar.muli arg2 c4_i32
  let c0_i32_39 : BitVec 32 := 0#32
  let v58 : BitVec 32 := Scalar.addi v31 c0_i32_39
  let c512_i32_271 : BitVec 32 := 512#32
  let v375 : BitVec 32 := Scalar.muli v58 c512_i32_271
  v375
def k0_mult79 (i : grid0.Coords) : BitVec 32 :=
  let arg2 : BitVec 32 := BitVec.ofNat 32 (i 2).val
  let c4_i32 : BitVec 32 := 4#32
  let v31 : BitVec 32 := Scalar.muli arg2 c4_i32
  let c0_i32_38 : BitVec 32 := 0#32
  let v57 : BitVec 32 := Scalar.addi v31 c0_i32_38
  let c512_i32_296 : BitVec 32 := 512#32
  let v407 : BitVec 32 := Scalar.muli v57 c512_i32_296
  v407
def k0_mult80 (i : grid0.Coords) : BitVec 32 :=
  let arg2 : BitVec 32 := BitVec.ofNat 32 (i 2).val
  let c4_i32 : BitVec 32 := 4#32
  let v31 : BitVec 32 := Scalar.muli arg2 c4_i32
  let c1_i32_40 : BitVec 32 := 1#32
  let v59 : BitVec 32 := Scalar.addi v31 c1_i32_40
  let c512_i32_308 : BitVec 32 := 512#32
  let v425 : BitVec 32 := Scalar.muli v59 c512_i32_308
  v425
def k0_mult81 (i : grid0.Coords) : BitVec 32 :=
  let arg2 : BitVec 32 := BitVec.ofNat 32 (i 2).val
  let c4_i32 : BitVec 32 := 4#32
  let v31 : BitVec 32 := Scalar.muli arg2 c4_i32
  let c0_i32_39 : BitVec 32 := 0#32
  let v58 : BitVec 32 := Scalar.addi v31 c0_i32_39
  let c512_i32_333 : BitVec 32 := 512#32
  let v457 : BitVec 32 := Scalar.muli v58 c512_i32_333
  v457
def k0_mult82 (i : grid0.Coords) : BitVec 32 :=
  let arg2 : BitVec 32 := BitVec.ofNat 32 (i 2).val
  let c4_i32 : BitVec 32 := 4#32
  let v31 : BitVec 32 := Scalar.muli arg2 c4_i32
  let c1_i32_41 : BitVec 32 := 1#32
  let v60 : BitVec 32 := Scalar.addi v31 c1_i32_41
  let c512_i32_345 : BitVec 32 := 512#32
  let v475 : BitVec 32 := Scalar.muli v60 c512_i32_345
  v475
def k0_mult83 (i : grid0.Coords) : BitVec 32 :=
  let arg2 : BitVec 32 := BitVec.ofNat 32 (i 2).val
  let c4_i32 : BitVec 32 := 4#32
  let v31 : BitVec 32 := Scalar.muli arg2 c4_i32
  let c1_i32_40 : BitVec 32 := 1#32
  let v59 : BitVec 32 := Scalar.addi v31 c1_i32_40
  let c512_i32_372 : BitVec 32 := 512#32
  let v509 : BitVec 32 := Scalar.muli v59 c512_i32_372
  v509
def k0_mult84 (i : grid0.Coords) : BitVec 32 :=
  let arg2 : BitVec 32 := BitVec.ofNat 32 (i 2).val
  let c4_i32 : BitVec 32 := 4#32
  let v31 : BitVec 32 := Scalar.muli arg2 c4_i32
  let c1_i32_42 : BitVec 32 := 1#32
  let v61 : BitVec 32 := Scalar.addi v31 c1_i32_42
  let c512_i32_384 : BitVec 32 := 512#32
  let v527 : BitVec 32 := Scalar.muli v61 c512_i32_384
  v527
def k0_mult85 (i : grid0.Coords) : BitVec 32 :=
  let arg2 : BitVec 32 := BitVec.ofNat 32 (i 2).val
  let c4_i32 : BitVec 32 := 4#32
  let v31 : BitVec 32 := Scalar.muli arg2 c4_i32
  let c1_i32_41 : BitVec 32 := 1#32
  let v60 : BitVec 32 := Scalar.addi v31 c1_i32_41
  let c512_i32_411 : BitVec 32 := 512#32
  let v561 : BitVec 32 := Scalar.muli v60 c512_i32_411
  v561
def k0_mult86 (i : grid0.Coords) : BitVec 32 :=
  let arg2 : BitVec 32 := BitVec.ofNat 32 (i 2).val
  let c4_i32 : BitVec 32 := 4#32
  let v31 : BitVec 32 := Scalar.muli arg2 c4_i32
  let c1_i32_43 : BitVec 32 := 1#32
  let v62 : BitVec 32 := Scalar.addi v31 c1_i32_43
  let c512_i32_423 : BitVec 32 := 512#32
  let v579 : BitVec 32 := Scalar.muli v62 c512_i32_423
  v579
def k0_mult87 (i : grid0.Coords) : BitVec 32 :=
  let arg2 : BitVec 32 := BitVec.ofNat 32 (i 2).val
  let c4_i32 : BitVec 32 := 4#32
  let v31 : BitVec 32 := Scalar.muli arg2 c4_i32
  let c1_i32_42 : BitVec 32 := 1#32
  let v61 : BitVec 32 := Scalar.addi v31 c1_i32_42
  let c512_i32_449 : BitVec 32 := 512#32
  let v611 : BitVec 32 := Scalar.muli v61 c512_i32_449
  v611
def k0_mult88 (i : grid0.Coords) : BitVec 32 :=
  let arg2 : BitVec 32 := BitVec.ofNat 32 (i 2).val
  let c4_i32 : BitVec 32 := 4#32
  let v31 : BitVec 32 := Scalar.muli arg2 c4_i32
  let c1_i32_44 : BitVec 32 := 1#32
  let v63 : BitVec 32 := Scalar.addi v31 c1_i32_44
  let c512_i32_461 : BitVec 32 := 512#32
  let v629 : BitVec 32 := Scalar.muli v63 c512_i32_461
  v629
def k0_mult89 (i : grid0.Coords) : BitVec 32 :=
  let arg2 : BitVec 32 := BitVec.ofNat 32 (i 2).val
  let c4_i32 : BitVec 32 := 4#32
  let v31 : BitVec 32 := Scalar.muli arg2 c4_i32
  let c1_i32_43 : BitVec 32 := 1#32
  let v62 : BitVec 32 := Scalar.addi v31 c1_i32_43
  let c512_i32_487 : BitVec 32 := 512#32
  let v661 : BitVec 32 := Scalar.muli v62 c512_i32_487
  v661
def k0_mult90 (i : grid0.Coords) : BitVec 32 :=
  let arg2 : BitVec 32 := BitVec.ofNat 32 (i 2).val
  let c4_i32 : BitVec 32 := 4#32
  let v31 : BitVec 32 := Scalar.muli arg2 c4_i32
  let c1_i32_45 : BitVec 32 := 1#32
  let v64 : BitVec 32 := Scalar.addi v31 c1_i32_45
  let c512_i32_499 : BitVec 32 := 512#32
  let v679 : BitVec 32 := Scalar.muli v64 c512_i32_499
  v679
def k0_mult91 (i : grid0.Coords) : BitVec 32 :=
  let arg2 : BitVec 32 := BitVec.ofNat 32 (i 2).val
  let c4_i32 : BitVec 32 := 4#32
  let v31 : BitVec 32 := Scalar.muli arg2 c4_i32
  let c1_i32_44 : BitVec 32 := 1#32
  let v63 : BitVec 32 := Scalar.addi v31 c1_i32_44
  let c512_i32_525 : BitVec 32 := 512#32
  let v711 : BitVec 32 := Scalar.muli v63 c512_i32_525
  v711
def k0_mult92 (i : grid0.Coords) : BitVec 32 :=
  let arg2 : BitVec 32 := BitVec.ofNat 32 (i 2).val
  let c4_i32 : BitVec 32 := 4#32
  let v31 : BitVec 32 := Scalar.muli arg2 c4_i32
  let c2_i32_46 : BitVec 32 := 2#32
  let v65 : BitVec 32 := Scalar.addi v31 c2_i32_46
  let c512_i32_537 : BitVec 32 := 512#32
  let v729 : BitVec 32 := Scalar.muli v65 c512_i32_537
  v729
def k0_mult93 (i : grid0.Coords) : BitVec 32 :=
  let arg2 : BitVec 32 := BitVec.ofNat 32 (i 2).val
  let c4_i32 : BitVec 32 := 4#32
  let v31 : BitVec 32 := Scalar.muli arg2 c4_i32
  let c1_i32_45 : BitVec 32 := 1#32
  let v64 : BitVec 32 := Scalar.addi v31 c1_i32_45
  let c512_i32_563 : BitVec 32 := 512#32
  let v761 : BitVec 32 := Scalar.muli v64 c512_i32_563
  v761
def k0_mult94 (i : grid0.Coords) : BitVec 32 :=
  let arg2 : BitVec 32 := BitVec.ofNat 32 (i 2).val
  let c4_i32 : BitVec 32 := 4#32
  let v31 : BitVec 32 := Scalar.muli arg2 c4_i32
  let c2_i32_47 : BitVec 32 := 2#32
  let v66 : BitVec 32 := Scalar.addi v31 c2_i32_47
  let c512_i32_575 : BitVec 32 := 512#32
  let v779 : BitVec 32 := Scalar.muli v66 c512_i32_575
  v779
def k0_mult95 (i : grid0.Coords) : BitVec 32 :=
  let arg2 : BitVec 32 := BitVec.ofNat 32 (i 2).val
  let c4_i32 : BitVec 32 := 4#32
  let v31 : BitVec 32 := Scalar.muli arg2 c4_i32
  let c2_i32_46 : BitVec 32 := 2#32
  let v65 : BitVec 32 := Scalar.addi v31 c2_i32_46
  let c512_i32_602 : BitVec 32 := 512#32
  let v813 : BitVec 32 := Scalar.muli v65 c512_i32_602
  v813
def k0_mult96 (i : grid0.Coords) : BitVec 32 :=
  let arg2 : BitVec 32 := BitVec.ofNat 32 (i 2).val
  let c4_i32 : BitVec 32 := 4#32
  let v31 : BitVec 32 := Scalar.muli arg2 c4_i32
  let c2_i32_48 : BitVec 32 := 2#32
  let v67 : BitVec 32 := Scalar.addi v31 c2_i32_48
  let c512_i32_614 : BitVec 32 := 512#32
  let v831 : BitVec 32 := Scalar.muli v67 c512_i32_614
  v831
def k0_mult97 (i : grid0.Coords) : BitVec 32 :=
  let arg2 : BitVec 32 := BitVec.ofNat 32 (i 2).val
  let c4_i32 : BitVec 32 := 4#32
  let v31 : BitVec 32 := Scalar.muli arg2 c4_i32
  let c2_i32_47 : BitVec 32 := 2#32
  let v66 : BitVec 32 := Scalar.addi v31 c2_i32_47
  let c512_i32_641 : BitVec 32 := 512#32
  let v865 : BitVec 32 := Scalar.muli v66 c512_i32_641
  v865
def k0_mult98 (i : grid0.Coords) : BitVec 32 :=
  let arg2 : BitVec 32 := BitVec.ofNat 32 (i 2).val
  let c4_i32 : BitVec 32 := 4#32
  let v31 : BitVec 32 := Scalar.muli arg2 c4_i32
  let c2_i32_49 : BitVec 32 := 2#32
  let v68 : BitVec 32 := Scalar.addi v31 c2_i32_49
  let c512_i32_653 : BitVec 32 := 512#32
  let v883 : BitVec 32 := Scalar.muli v68 c512_i32_653
  v883
def k0_mult99 (i : grid0.Coords) : BitVec 32 :=
  let arg2 : BitVec 32 := BitVec.ofNat 32 (i 2).val
  let c4_i32 : BitVec 32 := 4#32
  let v31 : BitVec 32 := Scalar.muli arg2 c4_i32
  let c2_i32_48 : BitVec 32 := 2#32
  let v67 : BitVec 32 := Scalar.addi v31 c2_i32_48
  let c512_i32_679 : BitVec 32 := 512#32
  let v915 : BitVec 32 := Scalar.muli v67 c512_i32_679
  v915
def k0_mult100 (i : grid0.Coords) : BitVec 32 :=
  let arg2 : BitVec 32 := BitVec.ofNat 32 (i 2).val
  let c4_i32 : BitVec 32 := 4#32
  let v31 : BitVec 32 := Scalar.muli arg2 c4_i32
  let c3_i32 : BitVec 32 := 3#32
  let v69 : BitVec 32 := Scalar.addi v31 c3_i32
  let c512_i32_691 : BitVec 32 := 512#32
  let v933 : BitVec 32 := Scalar.muli v69 c512_i32_691
  v933
def k0_mult101 (i : grid0.Coords) : BitVec 32 :=
  let arg2 : BitVec 32 := BitVec.ofNat 32 (i 2).val
  let c4_i32 : BitVec 32 := 4#32
  let v31 : BitVec 32 := Scalar.muli arg2 c4_i32
  let c2_i32_49 : BitVec 32 := 2#32
  let v68 : BitVec 32 := Scalar.addi v31 c2_i32_49
  let c512_i32_717 : BitVec 32 := 512#32
  let v965 : BitVec 32 := Scalar.muli v68 c512_i32_717
  v965
def k0_mult102 (i : grid0.Coords) : BitVec 32 :=
  let arg2 : BitVec 32 := BitVec.ofNat 32 (i 2).val
  let c4_i32 : BitVec 32 := 4#32
  let v31 : BitVec 32 := Scalar.muli arg2 c4_i32
  let c3_i32_50 : BitVec 32 := 3#32
  let v70 : BitVec 32 := Scalar.addi v31 c3_i32_50
  let c512_i32_729 : BitVec 32 := 512#32
  let v983 : BitVec 32 := Scalar.muli v70 c512_i32_729
  v983
def k0_mult103 (i : grid0.Coords) : BitVec 32 :=
  let arg2 : BitVec 32 := BitVec.ofNat 32 (i 2).val
  let c4_i32 : BitVec 32 := 4#32
  let v31 : BitVec 32 := Scalar.muli arg2 c4_i32
  let c3_i32 : BitVec 32 := 3#32
  let v69 : BitVec 32 := Scalar.addi v31 c3_i32
  let c512_i32_756 : BitVec 32 := 512#32
  let v1017 : BitVec 32 := Scalar.muli v69 c512_i32_756
  v1017
def k0_mult104 (i : grid0.Coords) : BitVec 32 :=
  let arg2 : BitVec 32 := BitVec.ofNat 32 (i 2).val
  let c4_i32 : BitVec 32 := 4#32
  let v31 : BitVec 32 := Scalar.muli arg2 c4_i32
  let c3_i32_50 : BitVec 32 := 3#32
  let v70 : BitVec 32 := Scalar.addi v31 c3_i32_50
  let c512_i32_783 : BitVec 32 := 512#32
  let v1058 : BitVec 32 := Scalar.muli v70 c512_i32_783
  v1058
def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c0_i32 : BitVec 32 := 0#32
  let v4 : BitVec 1 := Scalar.cmpi .sge v3 c0_i32
  let c11_i32 : BitVec 32 := 11#32
  let v5 : BitVec 1 := Scalar.cmpi .slt v3 c11_i32
  let v6 : BitVec 1 := Scalar.andi v4 v5
  let v7 : BitVec 32 := Scalar.extui v6
  let c0_i32_0 : BitVec 32 := 0#32
  let v8 : BitVec 1 := Scalar.cmpi .ne v7 c0_i32_0
  v8

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c11_i32_1 : BitVec 32 := 11#32
  let v9 : BitVec 1 := Scalar.cmpi .sge v3 c11_i32_1
  let c22_i32 : BitVec 32 := 22#32
  let v10 : BitVec 1 := Scalar.cmpi .slt v3 c22_i32
  let v11 : BitVec 1 := Scalar.andi v9 v10
  let v12 : BitVec 32 := Scalar.extui v11
  let c0_i32_2 : BitVec 32 := 0#32
  let v13 : BitVec 1 := Scalar.cmpi .ne v12 c0_i32_2
  v13

def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c22_i32_3 : BitVec 32 := 22#32
  let v14 : BitVec 1 := Scalar.cmpi .sge v3 c22_i32_3
  let c33_i32 : BitVec 32 := 33#32
  let v15 : BitVec 1 := Scalar.cmpi .slt v3 c33_i32
  let v16 : BitVec 1 := Scalar.andi v14 v15
  let v17 : BitVec 32 := Scalar.extui v16
  let c0_i32_4 : BitVec 32 := 0#32
  let v18 : BitVec 1 := Scalar.cmpi .ne v17 c0_i32_4
  v18

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 32 := Scalar.subi v3 c0_i32
  let c0_i32_0 : BitVec 32 := 0#32
  let c10_i32 : BitVec 32 := 10#32
  let v5 : BitVec 32 := Scalar.maxsi c0_i32_0 v4
  let v6 : BitVec 32 := Scalar.minsi c10_i32 v5
  let c1_i32 : BitVec 32 := 1#32
  let c0_i32_1 : BitVec 32 := 0#32
  let c0_i32_2 : BitVec 32 := 0#32
  ![c1_i32.toNat, c0_i32_1.toNat, v6.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c11_i32 : BitVec 32 := 11#32
  let v4 : BitVec 32 := Scalar.subi v3 c11_i32
  let c0_i32 : BitVec 32 := 0#32
  let c10_i32 : BitVec 32 := 10#32
  let v5 : BitVec 32 := Scalar.maxsi c0_i32 v4
  let v6 : BitVec 32 := Scalar.minsi c10_i32 v5
  let c1_i32 : BitVec 32 := 1#32
  let c0_i32_0 : BitVec 32 := 0#32
  let c0_i32_1 : BitVec 32 := 0#32
  ![c1_i32.toNat, c0_i32_0.toNat, v6.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c22_i32 : BitVec 32 := 22#32
  let v4 : BitVec 32 := Scalar.subi v3 c22_i32
  let c0_i32 : BitVec 32 := 0#32
  let c10_i32 : BitVec 32 := 10#32
  let v5 : BitVec 32 := Scalar.maxsi c0_i32 v4
  let v6 : BitVec 32 := Scalar.minsi c10_i32 v5
  let c1_i32 : BitVec 32 := 1#32
  let c0_i32_0 : BitVec 32 := 0#32
  let c0_i32_1 : BitVec 32 := 0#32
  ![c1_i32.toNat, v6.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 32 := Scalar.subi v3 c0_i32
  let c0_i32_0 : BitVec 32 := 0#32
  let c10_i32 : BitVec 32 := 10#32
  let v5 : BitVec 32 := Scalar.maxsi c0_i32_0 v4
  let v6 : BitVec 32 := Scalar.minsi c10_i32 v5
  let c0_i32_1 : BitVec 32 := 0#32
  let c0_i32_2 : BitVec 32 := 0#32
  ![c0_i32_1.toNat, v6.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c11_i32 : BitVec 32 := 11#32
  let v4 : BitVec 32 := Scalar.subi v3 c11_i32
  let c0_i32 : BitVec 32 := 0#32
  let c10_i32 : BitVec 32 := 10#32
  let v5 : BitVec 32 := Scalar.maxsi c0_i32 v4
  let v6 : BitVec 32 := Scalar.minsi c10_i32 v5
  let c0_i32_0 : BitVec 32 := 0#32
  let c0_i32_1 : BitVec 32 := 0#32
  ![c0_i32_0.toNat, v6.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c22_i32 : BitVec 32 := 22#32
  let v4 : BitVec 32 := Scalar.subi v3 c22_i32
  let c0_i32 : BitVec 32 := 0#32
  let c10_i32 : BitVec 32 := 10#32
  let v5 : BitVec 32 := Scalar.maxsi c0_i32 v4
  let v6 : BitVec 32 := Scalar.minsi c10_i32 v5
  let c0_i32_0 : BitVec 32 := 0#32
  let c0_i32_1 : BitVec 32 := 0#32
  ![v6.toNat, c0_i32_0.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x16x128 : Shape := ⟨4, ![4, 4096, 16, 128]⟩
abbrev S4x16x4096x128 : Shape := ⟨4, ![4, 16, 4096, 128]⟩
abbrev S4x8x4096x256 : Shape := ⟨4, ![4, 8, 4096, 256]⟩
abbrev S128 : Shape := ⟨1, ![128]⟩
abbrev S256 : Shape := ⟨1, ![256]⟩
abbrev S2x2048x5632 : Shape := ⟨3, ![2, 2048, 5632]⟩
abbrev S2x5632x2048 : Shape := ⟨3, ![2, 5632, 2048]⟩
abbrev S_ : Shape := ⟨0, ![]⟩
abbrev S4x16x4096x4096 : Shape := ⟨4, ![4, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x256x4096 : Shape := ⟨4, ![4, 8, 256, 4096]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S1x1x1x256 : Shape := ⟨4, ![1, 1, 1, 256]⟩
abbrev S4x4096x2048 : Shape := ⟨3, ![4, 4096, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x16x4096x128, .f32⟩
  | .hbm, ⟨2, _⟩ => ⟨S4x8x4096x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S2x2048x5632, .f32⟩
  | .hbm, ⟨9, _⟩ => ⟨S2x2048x5632, .f32⟩
  | .hbm, ⟨10, _⟩ => ⟨S2x5632x2048, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x16x4096x4096, .f32⟩
  | .hbm, ⟨23, _⟩ => ⟨S_, .f32⟩
  | .hbm, ⟨24, _⟩ => ⟨S4x16x4096x4096, .f32⟩
  | .hbm, ⟨25, _⟩ => ⟨S4x16x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x16x4096x4096, .i1⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S4x16x4096, .f32⟩
  | .hbm, ⟨39, _⟩ => ⟨S_, .f32⟩
  | .hbm, ⟨40, _⟩ => ⟨S4x16x4096, .f32⟩
  | .hbm, ⟨41, _⟩ => ⟨S4x16x4096, .f32⟩
  | .hbm, ⟨42, _⟩ => ⟨S4x16x4096x1, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S_, .f32⟩
  | .hbm, ⟨47, _⟩ => ⟨S4x16x4096, .f32⟩
  | .hbm, ⟨48, _⟩ => ⟨S4x16x4096x1, .f32⟩
  | .hbm, ⟨49, _⟩ => ⟨S4x16x4096x4096, .f32⟩
  | .hbm, ⟨50, _⟩ => ⟨S4x16x4096x4096, .f32⟩
  | .hbm, ⟨51, _⟩ => ⟨S4x8x2x4096x4096, .f32⟩
  | .hbm, ⟨52, _⟩ => ⟨S4x8x1x4096x4096, .f32⟩
  | .hbm, ⟨53, _⟩ => ⟨S4x8x4096x4096, .f32⟩
  | .hbm, ⟨54, _⟩ => ⟨S4x8x1x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x256x4096, .f32⟩
  | .hbm, ⟨60, _⟩ => ⟨S4x4096x8x256, .f32⟩
  | .hbm, ⟨61, _⟩ => ⟨S4x4096x8x256, .f32⟩
  | .hbm, ⟨62, _⟩ => ⟨S_, .f32⟩
  | .hbm, ⟨63, _⟩ => ⟨S4x4096x8, .f32⟩
  | .hbm, ⟨64, _⟩ => ⟨S4x4096x8x1, .f32⟩
  | .hbm, ⟨65, _⟩ => ⟨S_, .f32⟩
  | .hbm, ⟨66, _⟩ => ⟨S4x4096x8x1, .f32⟩
  | .hbm, ⟨67, _⟩ => ⟨S4x4096x8x1, .f32⟩
  | .hbm, ⟨68, _⟩ => ⟨S_, .f32⟩
  | .hbm, ⟨69, _⟩ => ⟨S4x4096x8x1, .f32⟩
  | .hbm, ⟨70, _⟩ => ⟨S4x4096x8x1, .f32⟩
  | .hbm, ⟨71, _⟩ => ⟨S4x4096x8x1, .f32⟩
  | .hbm, ⟨72, _⟩ => ⟨S4x4096x8x256, .f32⟩
  | .hbm, ⟨73, _⟩ => ⟨S4x4096x8x256, .f32⟩
  | .hbm, ⟨74, _⟩ => ⟨S1x1x1x256, .f32⟩
  | .hbm, ⟨75, _⟩ => ⟨S4x4096x8x256, .f32⟩
  | .hbm, ⟨76, _⟩ => ⟨S4x4096x8x256, .f32⟩
  | .hbm, ⟨77, _⟩ => ⟨S_, .f32⟩
  | .hbm, ⟨78, _⟩ => ⟨S4x4096x8x256, .f32⟩
  | .hbm, ⟨79, _⟩ => ⟨S4x4096x8x256, .f32⟩
  | .hbm, ⟨80, _⟩ => ⟨S4x4096x2048, .f32⟩
  | .hbm, ⟨81, _⟩ => ⟨S1x2048x5632, .f32⟩
  | .hbm, ⟨82, _⟩ => ⟨S2048x5632, .f32⟩
  | .hbm, ⟨83, _⟩ => ⟨S1x2048x5632, .f32⟩
  | .hbm, ⟨84, _⟩ => ⟨S2048x5632, .f32⟩
  | .hbm, ⟨85, _⟩ => ⟨S1x5632x2048, .f32⟩
  | .hbm, ⟨86, _⟩ => ⟨S5632x2048, .f32⟩
  | .hbm, ⟨87, _⟩ => ⟨S4x4096x2048, .bf16⟩
  | .hbm, ⟨88, _⟩ => ⟨S2048x5632, .bf16⟩
  | .hbm, ⟨89, _⟩ => ⟨S2048x5632, .bf16⟩
  | .hbm, ⟨90, _⟩ => ⟨S5632x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x4096x5632, .f32⟩
  | .hbm, ⟨23, _⟩ => ⟨S4x4096x5632, .f32⟩
  | .hbm, ⟨24, _⟩ => ⟨S4x4096x5632, .f32⟩
  | .hbm, ⟨25, _⟩ => ⟨S_, .f32⟩
  | .hbm, ⟨26, _⟩ => ⟨S4x4096x5632, .f32⟩
  | .hbm, ⟨27, _⟩ => ⟨S4x4096x5632, .f32⟩
  | .hbm, ⟨28, _⟩ => ⟨S_, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S4x512x512 : Shape := ⟨3, ![4, 512, 512]⟩
abbrev S1x2048 : Shape := ⟨2, ![1, 2048]⟩
abbrev S1x512x2048 : Shape := ⟨3, ![1, 512, 2048]⟩
abbrev S1x16x2048 : Shape := ⟨3, ![1, 16, 2048]⟩
abbrev S528x2048 : Shape := ⟨2, ![528, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S4x512x512, .bf16⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x2048, .f32⟩
  | .local _ .vmem, ⟨5, _⟩ => ⟨S4x512x512, .bf16⟩
  | .local _ .vmem, ⟨6, _⟩ => ⟨S1x2048, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | .local _ .vmem, ⟨10, _⟩ => ⟨S528x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x2048 : Shape := ⟨3, ![4, 4096, 2048]⟩
abbrev S2048 : Shape := ⟨1, ![2048]⟩
abbrev S4x512x512 : Shape := ⟨3, ![4, 512, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4x512 : Shape := ⟨4, ![4, 4096, 4, 512]⟩
abbrev S4096 : Shape := ⟨1, ![4096]⟩
abbrev S4x4096x1x512 : Shape := ⟨4, ![4, 4096, 1, 512]⟩
abbrev S4x4096x512 : Shape := ⟨3, ![4, 4096, 512]⟩
abbrev S4x4098x512 : Shape := ⟨3, ![4, 4098, 512]⟩
abbrev S1x4096x1 : Shape := ⟨3, ![1, 4096, 1]⟩
abbrev S4x4100x512 : Shape := ⟨3, ![4, 4100, 512]⟩
abbrev S4x4104x512 : Shape := ⟨3, ![4, 4104, 512]⟩
abbrev S4x4112x512 : Shape := ⟨3, ![4, 4112, 512]⟩
abbrev S4x512x4x4096 : Shape := ⟨4, ![4, 512, 4, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x4x512, .f32⟩
  | .hbm, ⟨22, _⟩ => ⟨S_, .f32⟩
  | .hbm, ⟨23, _⟩ => ⟨S_, .f32⟩
  | .hbm, ⟨24, _⟩ => ⟨S4x4096x4x512, .f32⟩
  | .hbm, ⟨25, _⟩ => ⟨S4096, .i32⟩
  | .hbm, ⟨26, _⟩ => ⟨S4x4096x1x512, .f32⟩
  | .hbm, ⟨27, _⟩ => ⟨S4x4096x512, .f32⟩
  | .hbm, ⟨28, _⟩ => ⟨S_, .i32⟩
  | .hbm, ⟨29, _⟩ => ⟨S_, .f32⟩
  | .hbm, ⟨30, _⟩ => ⟨S4x4098x512, .f32⟩
  | .hbm, ⟨31, _⟩ => ⟨S4x4096x512, .f32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .f32⟩
  | .hbm, ⟨39, _⟩ => ⟨S1x4096x1, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x1x512, .f32⟩
  | .hbm, ⟨44, _⟩ => ⟨S4x4096x512, .f32⟩
  | .hbm, ⟨45, _⟩ => ⟨S_, .i32⟩
  | .hbm, ⟨46, _⟩ => ⟨S_, .f32⟩
  | .hbm, ⟨47, _⟩ => ⟨S4x4100x512, .f32⟩
  | .hbm, ⟨48, _⟩ => ⟨S4x4096x512, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S1x4096x1, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S4x4096x1x512, .f32⟩
  | .hbm, ⟨61, _⟩ => ⟨S4x4096x512, .f32⟩
  | .hbm, ⟨62, _⟩ => ⟨S_, .i32⟩
  | .hbm, ⟨63, _⟩ => ⟨S_, .f32⟩
  | .hbm, ⟨64, _⟩ => ⟨S4x4104x512, .f32⟩
  | .hbm, ⟨65, _⟩ => ⟨S4x4096x512, .f32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .f32⟩
  | .hbm, ⟨73, _⟩ => ⟨S1x4096x1, .f32⟩
  | .hbm, ⟨74, _⟩ => ⟨S4x4096x512, .f32⟩
  | .hbm, ⟨75, _⟩ => ⟨S4x4096x512, .f32⟩
  | .hbm, ⟨76, _⟩ => ⟨S4x4096x512, .f32⟩
  | .hbm, ⟨77, _⟩ => ⟨S4x4096x1x512, .f32⟩
  | .hbm, ⟨78, _⟩ => ⟨S4x4096x512, .f32⟩
  | .hbm, ⟨79, _⟩ => ⟨S_, .i32⟩
  | .hbm, ⟨80, _⟩ => ⟨S_, .f32⟩
  | .hbm, ⟨81, _⟩ => ⟨S4x4112x512, .f32⟩
  | .hbm, ⟨82, _⟩ => ⟨S4x4096x512, .f32⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .f32⟩
  | .hbm, ⟨90, _⟩ => ⟨S1x4096x1, .f32⟩
  | .hbm, ⟨91, _⟩ => ⟨S4x4096x512, .f32⟩
  | .hbm, ⟨92, _⟩ => ⟨S4x4096x512, .f32⟩
  | .hbm, ⟨93, _⟩ => ⟨S4x4096x512, .f32⟩
  | .hbm, ⟨94, _⟩ => ⟨S4x4096x1x512, .f32⟩
  | .hbm, ⟨95, _⟩ => ⟨S4x4096x1x512, .f32⟩
  | .hbm, ⟨96, _⟩ => ⟨S4x4096x1x512, .f32⟩
  | .hbm, ⟨97, _⟩ => ⟨S4x4096x1x512, .f32⟩
  | .hbm, ⟨98, _⟩ => ⟨S4x4096x4x512, .f32⟩
  | .hbm, ⟨99, _⟩ => ⟨S4x4096x4x512, .f32⟩
  | .hbm, ⟨100, _⟩ => ⟨S4x512x4x4096, .f32⟩
  | .hbm, ⟨101, _⟩ => ⟨S4x4096x4x512, .f32⟩
  | .hbm, ⟨102, _⟩ => ⟨S4x4096x2048, .f32⟩
  | .hbm, ⟨103, _⟩ => ⟨S1x1x2048, .f32⟩
  | .hbm, ⟨104, _⟩ => ⟨S4x4096x2048, .f32⟩
  | .hbm, ⟨105, _⟩ => ⟨S4x4096x2048, .f32⟩
  | .hbm, ⟨106, _⟩ => ⟨S4x4096x2048, .f32⟩
  | .hbm, ⟨107, _⟩ => ⟨S_, .f32⟩
  | .hbm, ⟨108, _⟩ => ⟨S4x4096, .f32⟩
  | .hbm, ⟨109, _⟩ => ⟨S4x4096x1, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S_, .f32⟩
  | .hbm, ⟨114, _⟩ => ⟨S4x4096x1, .f32⟩
  | .hbm, ⟨115, _⟩ => ⟨S4x4096x1, .f32⟩
  | .hbm, ⟨116, _⟩ => ⟨S4x4096x1, .f32⟩
  | .hbm, ⟨117, _⟩ => ⟨S4x4096x2048, .f32⟩
  | .hbm, ⟨118, _⟩ => ⟨S4x4096x2048, .f32⟩
  | .hbm, ⟨119, _⟩ => ⟨S1x1x2048, .f32⟩
  | .hbm, ⟨120, _⟩ => ⟨S4x4096x2048, .f32⟩
  | .hbm, ⟨121, _⟩ => ⟨S4x4096x2048, .f32⟩
  | .hbm, ⟨122, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_call3_v0 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_call4_v0 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048, .f32⟩
  | .hbm, ⟨4, _⟩ => ⟨S4x4096x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Attn.Whole.lean ====
module

public import Idealize.ShloMosaic.Lib.Memref
public import Idealize.ShloMosaic.Rules.Step

@[expose] public section

noncomputable section

namespace Cert.Whole

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

/-! Loads and stores stated over the whole contents of a memref: a load reads the part under its
    rectangle, a store replaces that part. -/

section Parts
variable {α : Type} {s : Shape}

/-- The part of `X` under the rectangle. -/
def rd (r : Rect s) (X : s.Idx → α) : r.shape.Idx → α := fun j => X (r.emb j)

open Classical in
/-- `X` with the part under the rectangle replaced by `v`. -/
def wr (r : Rect s) (v : r.shape.Idx → α) (X : s.Idx → α) : s.Idx → α :=
  fun x => if h : ∃ j, r.emb j = x then v h.choose else X x

theorem wr_emb (r : Rect s) (v : r.shape.Idx → α) (X : s.Idx → α) (j : r.shape.Idx) :
    wr r v X (r.emb j) = v j := by
  have h : ∃ i, r.emb i = r.emb j := ⟨j, rfl⟩
  exact (dif_pos h).trans (congrArg v (r.emb.injective h.choose_spec))

theorem wr_off (r : Rect s) (v : r.shape.Idx → α) (X : s.Idx → α) (x : s.Idx) (h : ∀ j, r.emb j ≠ x) :
    wr r v X x = X x := dif_neg fun ⟨j, hj⟩ => h j hj

/-- Reading back the part just written. -/
theorem rd_wr (r : Rect s) (v : r.shape.Idx → α) (X : s.Idx → α) : rd r (wr r v X) = v :=
  funext fun j => wr_emb r v X j

/-- Two rectangles that start at different multiples along some axis share no element. -/
theorem rd_wr_ne (r r' : Rect s) (v : r'.shape.Idx → α) (X : s.Idx → α)
    (h : ∀ i j, r'.emb j ≠ r.emb i) : rd r (wr r' v X) = rd r X :=
  funext fun i => wr_off r' v X _ fun j => h i j

/-- A rectangle that is the whole shape. -/
theorem emb_whole {o : Fin s.rank → ℕ} (h : ∀ a, o a + s.size a ≤ s.size a) (j : s.Idx) :
    (Rect.unit (s := s) o s.size h).emb j = j := by
  refine funext fun a => Fin.ext (a := (Rect.unit (s := s) o s.size h).emb j a) (b := j a) ?_
  have h0 : o a = 0 := by have := h a; omega
  have h1 : ((Rect.unit (s := s) o s.size h).emb j a).val = o a + 1 * (j a).val := rfl
  omega

theorem wr_whole {o : Fin s.rank → ℕ} (h : ∀ a, o a + s.size a ≤ s.size a) (v X : s.Idx → α) :
    wr (Rect.unit (s := s) o s.size h) v X = v :=
  funext fun x => (congrArg (wr (Rect.unit (s := s) o s.size h) v X) (emb_whole h x).symm).trans (wr_emb (Rect.unit (s := s) o s.size h) v X x)

theorem rd_whole {o : Fin s.rank → ℕ} (h : ∀ a, o a + s.size a ≤ s.size a) (X : s.Idx → α) :
    rd (Rect.unit (s := s) o s.size h) X = X :=
  funext fun x => congrArg X (emb_whole h x)

end Parts

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ)
  (bd : Option 𝒱.V) {Γ : PendingWaitsCtx sig Ix} (E : Set Name)
variable {α : Type} {Q : α → sProp (MT nD τ sig Ix Val Name U Lvl)}

theorem read_store {cs : CoreSpace} {s : Shape} {e : EltTy} (m : Memref sig c.2.kind cs s e) (r : Rect s)
    (w : r.shape.Idx → Val e) (f : m.view.ty.Contents Val) :
    m.view.read Val ((m.view.slice r).write Val f w Finset.univ) = wr r w (m.view.read Val f) := by
  funext x
  by_cases h : ∃ j, r.emb j = x
  · obtain ⟨j, rfl⟩ := h
    rw [View.read_slice_write_emb r f w (Finset.mem_univ j), wr_emb]
  · rw [View.read_slice_write_of_not_mem r f w Finset.univ (by simpa using h), wr_off _ _ _ _ (by simpa using h)]

/-- A load at the head of a program, over whole contents. -/
theorem load_whole {cs : CoreSpace} {s : Shape} {e : EltTy} {m : Memref sig c.2.kind cs s e} {r : Rect s}
    {hl : m.view.LoadsAt r.toLoadRect} {k : (r.shape.Idx → Val e) → Prog (TpuEff nD τ sig Val Λ c.2) α}
    {q : PosShare TreeShare} {X : s.Idx → Val e} :
    owns c m q X
      ⊢ iprop((owns c m q X -∗ wp frame (wpE' defs 𝒱 c bd Γ) E (k (rd r X)) Q)
        -∗ wp frame (wpE' defs 𝒱 c bd Γ) E (.op (.load m r.toLoadRect hl) k) Q) := by
  unfold owns
  iintro ⟨%f, %hf, H⟩ Hk
  subst hf
  iapply (wp_load 𝒱 c bd E (S := m.view.set) (View.setOn_subset_set _ _)) $$ H
  iintro H
  iapply Hk
  iexists f
  isplitr
  · ipureintro; rfl
  iexact H

/-- A store of every element under its rectangle, over whole contents. -/
theorem store_whole {cs : CoreSpace} {s : Shape} {e : EltTy} {m : Memref sig c.2.kind cs s e} {r : Rect s}
    {w : r.shape.Idx → Val e} {hx : (m.access r).Stores Finset.univ}
    {hm : Finset.univ = Finset.univ ∨ ∀ a, r.stride a = 1}
    {k : PUnit → Prog (TpuEff nD τ sig Val Λ c.2) α} {X : s.Idx → Val e} :
    owns c m fullShare X
      ⊢ iprop((owns c m fullShare (wr r w X) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  subst hf
  iapply (wp_store 𝒱 c bd E (m := m) (r := r) (S := m.view.set)
    ((View.setOn_subset_set _ _).trans (View.set_slice_subset _ _))) $$ H
  iintro H
  iapply Hk
  iexists _
  isplitr
  · ipureintro; exact read_store c m r w f
  iexact H

end Cert.Whole
-- ==== Proof.Attn.Step.lean ====
module

public import proofs.«01_k».proof.Proof.Gen.KernelIdeal.Skeleton
public import proofs.«01_k».proof.Proof.Attn.Whole

@[expose] public section

noncomputable section

namespace Cert.KernelIdeal.Attn

open Idealize.ShloMosaic Idealize.SL.Sem Cert.KernelIdeal Cert.KernelIdeal.Gen

variable {F : FTy → Type} [FloatOps F] [Named F]

/-! One step of the sweep over key blocks, as a program of its own. -/

section
variable (arg3 : Memref sig .tc .vmem S1x1x2048x256 .bf16) (arg4 : Memref sig .tc .vmem S1x1x4096x256 .bf16)
  (arg5 : Memref sig .tc .vmem S256x4096 .bf16) (arg18 arg19 : Memref sig .tc .vmem S8x1x512 .f32)
  (arg20 : Memref sig .tc .vmem S8x256x512 .f32) (arg21 : Memref sig .tc .vmem S2x512x512 .f32)

/-- Scores of one key block against one query block, left in one slot. -/
def sc (ok : Fin 4 → ℕ) (hk : ∀ a, ok a + S1x1x512x128.size a ≤ S1x1x4096x256.size a)
    (oq : Fin 4 → ℕ) (hq : ∀ a, oq a + S1x1x512x128.size a ≤ S1x1x2048x256.size a)
    (os : Fin 3 → ℕ) (hs : ∀ a, os a + S1x512x512.size a ≤ S2x512x512.size a) :
    Prog (TpuEff nD τ sig (Elt F) Λ₀ .tc) PUnit := do
  let k : Vec F S1x1x512x128 .bf16 ← Prog.lift (.load arg4 (Rect.unit (s := S1x1x4096x256) ok S1x1x512x128.size hk).toLoadRect (View.loadsAt_vmem h_S1x1x512x128))
  let q : Vec F S1x1x512x128 .bf16 ← Prog.lift (.load arg3 (Rect.unit (s := S1x1x2048x256) oq S1x1x512x128.size hq).toLoadRect (View.loadsAt_vmem h_S1x1x512x128))
  let _s : Vec F S1x512x512 .f32 ← Prog.lift (.load arg21 (Rect.unit (s := S2x512x512) os S1x512x512.size hs).toLoadRect (View.loadsAt_vmem h_S1x512x512))
  Prog.lift (.store arg21 (Rect.unit (s := S2x512x512) os S1x512x512.size hs) (k0_pay2 k q) Finset.univ (View.stores_vmem_bits_univ h_S1x512x512 rfl) (.inl rfl))

/-- One slot's scores, changed by `msk`, taken into the running maximum, sum and weighted values of
    one chain. -/
def ab (msk : FVec F S512x512 .f32 → FVec F S512x512 .f32)
    (os : Fin 3 → ℕ) (hs : ∀ a, os a + S1x512x512.size a ≤ S2x512x512.size a)
    (on : Fin 3 → ℕ) (h1 : ∀ a, on a + S1x1x512.size a ≤ S8x1x512.size a)
    (h2 : ∀ a, on a + S1x256x512.size a ≤ S8x256x512.size a)
    (ov : Fin 2 → ℕ) (hv : ∀ a, ov a + S256x512.size a ≤ S256x4096.size a) :
    Prog (TpuEff nD τ sig (Elt F) Λ₀ .tc) PUnit := do
  let s : Vec F S1x512x512 .f32 ← Prog.lift (.load arg21 (Rect.unit (s := S2x512x512) os S1x512x512.size hs).toLoadRect (View.loadsAt_vmem h_S1x512x512))
  let m : Vec F S1x1x512 .f32 ← Prog.lift (.load arg18 (Rect.unit (s := S8x1x512) on S1x1x512.size h1).toLoadRect (View.loadsAt_vmem h_S1x1x512))
  let l : Vec F S1x1x512 .f32 ← Prog.lift (.load arg19 (Rect.unit (s := S8x1x512) on S1x1x512.size h1).toLoadRect (View.loadsAt_vmem h_S1x1x512))
  let _l : Vec F S1x1x512 .f32 ← Prog.lift (.load arg19 (Rect.unit (s := S8x1x512) on S1x1x512.size h1).toLoadRect (View.loadsAt_vmem h_S1x1x512))
  Prog.lift (.store arg19 (Rect.unit (s := S8x1x512) on S1x1x512.size h1) (k0_pay337 (msk (k0_pay3 s)) m l) Finset.univ (View.stores_vmem_bits_univ h_S1x1x512 rfl) (.inl rfl))
  let v : Vec F S256x512 .bf16 ← Prog.lift (.load arg5 (Rect.unit (s := S256x4096) ov S256x512.size hv).toLoadRect (View.loadsAt_vmem h_S256x512))
  let a : Vec F S1x256x512 .f32 ← Prog.lift (.load arg20 (Rect.unit (s := S8x256x512) on S1x256x512.size h2).toLoadRect (View.loadsAt_vmem h_S1x256x512))
  let _a : Vec F S1x256x512 .f32 ← Prog.lift (.load arg20 (Rect.unit (s := S8x256x512) on S1x256x512.size h2).toLoadRect (View.loadsAt_vmem h_S1x256x512))
  Prog.lift (.store arg20 (Rect.unit (s := S8x256x512) on S1x256x512.size h2) (k0_pay338 (msk (k0_pay3 s)) m v a) Finset.univ (View.stores_vmem_bits_univ h_S1x256x512 rfl) (.inl rfl))
  let _m : Vec F S1x1x512 .f32 ← Prog.lift (.load arg18 (Rect.unit (s := S8x1x512) on S1x1x512.size h1).toLoadRect (View.loadsAt_vmem h_S1x1x512))
  Prog.lift (.store arg18 (Rect.unit (s := S8x1x512) on S1x1x512.size h1) (k0_pay339 (msk (k0_pay3 s)) m) Finset.univ (View.stores_vmem_bits_univ h_S1x1x512 rfl) (.inl rfl))

end

end Cert.KernelIdeal.Attn
-- ==== Proof.Attn.Body.lean ====
module

public import proofs.«01_k».proof.Proof.Attn.Step
public import Idealize.ShloMosaic.Lib.Tactic.ProgEq
public import Mathlib.Tactic.IntervalCases

@[expose] public section

noncomputable section

namespace Cert.KernelIdeal.Attn

open Idealize.ShloMosaic Idealize.SL.Sem Cert.KernelIdeal Cert.KernelIdeal.Gen

variable {F : FTy → Type} [FloatOps F] [Named F]

/-- The two score slots. -/
def slot : Bool → { o : Fin 3 → ℕ // ∀ a, o a + S1x512x512.size a ≤ S2x512x512.size a }
  | false => ⟨![0, 0, 0], inb_S2x512x512_S1x512x512_0_0_0⟩
  | true => ⟨![1, 0, 0], inb_S2x512x512_S1x512x512_1_0_0⟩

theorem inb18 {n : ℕ} (h : n < 8) : ∀ a, (![n, 0, 0] : Fin 3 → ℕ) a + S1x1x512.size a ≤ S8x1x512.size a := by
  interval_cases n <;> decide
theorem inb20 {n : ℕ} (h : n < 8) : ∀ a, (![n, 0, 0] : Fin 3 → ℕ) a + S1x256x512.size a ≤ S8x256x512.size a := by
  interval_cases n <;> decide
theorem inb3 {n : ℕ} (h : n < 8) : ∀ a, (![0, 0, 512 * (n / 2), 128 * (n % 2)] : Fin 4 → ℕ) a + S1x1x512x128.size a ≤ S1x1x2048x256.size a := by
  interval_cases n <;> decide

/-- Where a step finds the next scores' keys and queries, which chain it advances, and the values. -/
structure Stp (F : FTy → Type) [FloatOps F] where
  /-- the keys of the scores computed -/
  ok : { o : Fin 4 → ℕ // ∀ a, o a + S1x1x512x128.size a ≤ S1x1x4096x256.size a }
  /-- the chain of the scores computed -/
  nn : ℕ
  hnn : nn < 8
  /-- the slot read -/
  sl : Bool
  /-- the chain advanced -/
  n : ℕ
  hn : n < 8
  /-- what the scores read go through -/
  msk : FVec F S512x512 .f32 → FVec F S512x512 .f32
  /-- the values -/
  ov : { o : Fin 2 → ℕ // ∀ a, o a + S256x512.size a ≤ S256x4096.size a }

section
variable (arg3 : Memref sig .tc .vmem S1x1x2048x256 .bf16) (arg4 : Memref sig .tc .vmem S1x1x4096x256 .bf16)
  (arg5 : Memref sig .tc .vmem S256x4096 .bf16) (arg18 arg19 : Memref sig .tc .vmem S8x1x512 .f32)
  (arg20 : Memref sig .tc .vmem S8x256x512 .f32) (arg21 : Memref sig .tc .vmem S2x512x512 .f32)

/-- One step: the next scores into the other slot, then this slot's into its chain. -/
def stepP (s : Stp F) : Prog (TpuEff nD τ sig (Elt F) Λ₀ .tc) PUnit := do
  sc arg3 arg4 arg21 s.ok.1 s.ok.2 ![0, 0, 512 * (s.nn / 2), 128 * (s.nn % 2)] (inb3 s.hnn) (slot (!s.sl)).1 (slot (!s.sl)).2
  ab arg5 arg18 arg19 arg20 arg21 s.msk (slot s.sl).1 (slot s.sl).2 ![s.n, 0, 0] (inb18 s.hn) (inb20 s.hn) s.ov.1 s.ov.2

/-- Steps in order. -/
def runP : List (Stp F) → Prog (TpuEff nD τ sig (Elt F) Λ₀ .tc) PUnit
  | [] => pure ⟨⟩
  | s :: l => do stepP arg3 arg4 arg5 arg18 arg19 arg20 arg21 s; runP l

end

/-- A step at an even chain of trip `t`, on the trip's key block `w`. -/
def ev (i : grid0.Coords) (t : Fin (k0_t1_loop i).trips) (w : Fin 2) (n nn : ℕ) (hn : n < 8 := by decide) (hnn : nn < 8 := by decide) : Stp F :=
  ⟨⟨k0_off1 i t (BitVec.ofNat 32 w.val), k0_off1_inb i t w⟩, nn, hnn, false, n, hn, id,
    ⟨k0_off2 i t (BitVec.ofNat 32 w.val), k0_off2_inb i t w⟩⟩

/-- A step at an odd chain of trip `t`, on the trip's key block `w`, the next scores' being `w'`. -/
def od (i : grid0.Coords) (t : Fin (k0_t1_loop i).trips) (w : Fin 2) (w' : Fin 3) (n nn : ℕ) (hn : n < 8 := by decide) (hnn : nn < 8 := by decide) : Stp F :=
  ⟨⟨k0_off3 i t (BitVec.ofNat 32 w'.val), k0_off3_inb i t w'⟩, nn, hnn, true, n, hn, id,
    ⟨k0_off2 i t (BitVec.ofNat 32 w.val), k0_off2_inb i t w⟩⟩

/-- The sixteen steps of one trip. -/
def lps (i : grid0.Coords) (t : Fin (k0_t1_loop i).trips) : List (Stp F) :=
  [ev i t 0 0 1, od i t 0 0 1 2, ev i t 0 2 3, od i t 0 0 3 4, ev i t 0 4 5, od i t 0 0 5 6, ev i t 0 6 7, od i t 0 1 7 0,
   ev i t 1 0 1, od i t 1 1 1 2, ev i t 1 2 3, od i t 1 1 3 4, ev i t 1 4 5, od i t 1 1 5 6, ev i t 1 6 7, od i t 1 2 7 0]

set_option maxRecDepth 65536 in
/-- A trip of the printed loop is its sixteen steps. -/
theorem body1_eq (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S256x4096 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .f32) (harg10 : arg10.IsWhole) (arg11 : Memref sig .tc .vmem S1x2048x512 .f32) (harg11 : arg11.IsWhole) (arg12 : Memref sig .tc .vmem S1x2048x512 .f32) (harg12 : arg12.IsWhole) (arg13 : Memref sig .tc .vmem S1x512x2048 .f32) (harg13 : arg13.IsWhole) (arg14 : Memref sig .tc .vmem S1x2048x256 .bf16) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S512x2048 .bf16) (harg17 : arg17.IsWhole) (arg18 : Memref sig .tc .vmem S8x1x512 .f32) (harg18 : arg18.IsWhole) (arg19 : Memref sig .tc .vmem S8x1x512 .f32) (harg19 : arg19.IsWhole) (arg20 : Memref sig .tc .vmem S8x256x512 .f32) (harg20 : arg20.IsWhole) (arg21 : Memref sig .tc .vmem S2x512x512 .f32) (harg21 : arg21.IsWhole) (arg2 : BitVec 32) (v27 : FVec F S8x256x512 .f32) (v28 : Vec F S8x256x512 .f32)
    (t : Fin (k0_t1_loop i).trips) :
    k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v27 v28 t ⟨⟩
      = runP arg3 arg4 arg5 arg18 arg19 arg20 arg21 (lps i t) := by
  simp only [k0_t1_body, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, runP, lps, stepP, sc, ab, ev, od, Prog.bind_ret, Prog.bind_op, Prog.bind_lift, bind_assoc, pure_bind, slot, Bool.not_true, Bool.not_false, id]
  repeat (refine (Idealize.ShloMosaic.ProgEq.op_congr _ _ _ _ _ _ _ rfl (fun x => ?_)))
  rfl

/-- Scores of the diagonal block: a key past its query is masked. -/
def msk (s : FVec F S512x512 .f32) : FVec F S512x512 .f32 :=
  select k0_pay330 s (broadcast S512x512 (Named.named κ "mask" 0xF149F2CA#32))

/-- A step of the tail at an even chain, on the tail's key block `w`. -/
def te (i : grid0.Coords) (f : FVec F S512x512 .f32 → FVec F S512x512 .f32) (w : Fin 4) (n nn : ℕ)
    (hn : n < 8 := by decide) (hnn : nn < 8 := by decide) : Stp F :=
  ⟨⟨k0_off7 i (BitVec.ofNat 32 w.val), k0_off7_inb i w⟩, nn, hnn, false, n, hn, f,
    ⟨k0_off8 i (BitVec.ofNat 32 w.val), k0_off8_inb i w⟩⟩

/-- A step of the tail at an odd chain, on the tail's key block `w`, the next scores' being `w'`. -/
def tO (i : grid0.Coords) (f : FVec F S512x512 .f32 → FVec F S512x512 .f32) (w w' : Fin 4) (n nn : ℕ)
    (hn : n < 8 := by decide) (hnn : nn < 8 := by decide) : Stp F :=
  ⟨⟨k0_off9 i (BitVec.ofNat 32 w'.val), k0_off9_inb i w'⟩, nn, hnn, true, n, hn, f,
    ⟨k0_off8 i (BitVec.ofNat 32 w.val), k0_off8_inb i w⟩⟩

/-- The tail's steps but the last. -/
def tls (i : grid0.Coords) : List (Stp F) :=
  [te i msk 0 0 1, tO i msk 0 0 1 2, te i id 0 2 3, tO i id 0 0 3 4, te i id 0 4 5,
   tO i id 0 0 5 6, te i id 0 6 7, tO i id 0 1 7 2, te i msk 1 2 3, tO i msk 1 1 3 4,
   te i id 1 4 5, tO i id 1 1 5 6, te i id 1 6 7, tO i id 1 2 7 4, te i msk 2 4 5,
   tO i msk 2 2 5 6, te i id 2 6 7, tO i id 2 3 7 6, te i msk 3 6 7]

/-- One weight cast of a point, done where `p` holds. -/
def castG (p : Prop) [Decidable p] {s t : Shape} (a : Memref sig .tc .vmem s .f32) (b : Memref sig .tc .vmem t .bf16) (r : Rect s) (r' : Rect t)
    (hl : a.view.LoadsAt r.toLoadRect) (hl' : b.view.LoadsAt r'.toLoadRect) (hx : (b.access r').Stores Finset.univ)
    (f : (r.shape.Idx → Elt F .f32) → (r'.shape.Idx → Elt F .bf16)) : Prog (TpuEff nD τ sig (Elt F) Λ₀ .tc) PUnit :=
  if h : p then do
    let v ← Prog.lift (.load a r.toLoadRect hl)
    let _v ← Prog.lift (.load b r'.toLoadRect hl')
    Prog.lift (.store b r' (f v) Finset.univ hx (.inl rfl))
    pure ⟨⟩
  else pure ⟨⟩

section
variable (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S256x4096 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .f32) (harg10 : arg10.IsWhole) (arg11 : Memref sig .tc .vmem S1x2048x512 .f32) (harg11 : arg11.IsWhole) (arg12 : Memref sig .tc .vmem S1x2048x512 .f32) (harg12 : arg12.IsWhole) (arg13 : Memref sig .tc .vmem S1x512x2048 .f32) (harg13 : arg13.IsWhole) (arg14 : Memref sig .tc .vmem S1x2048x256 .bf16) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S512x2048 .bf16) (harg17 : arg17.IsWhole) (arg18 : Memref sig .tc .vmem S8x1x512 .f32) (harg18 : arg18.IsWhole) (arg19 : Memref sig .tc .vmem S8x1x512 .f32) (harg19 : arg19.IsWhole) (arg20 : Memref sig .tc .vmem S8x256x512 .f32) (harg20 : arg20.IsWhole) (arg21 : Memref sig .tc .vmem S2x512x512 .f32) (harg21 : arg21.IsWhole)

/-- The weight casts of a point. -/
def castP : Prog (TpuEff nD τ sig (Elt F) Λ₀ .tc) PUnit := do
  castG (k0_cond1 i = 1#1) arg11 arg15 (Rect.unit (s := S1x2048x512) ![0, 0, 0] S1x2048x512.size inb_S1x2048x512_S1x2048x512_0_0_0) (Rect.unit (s := S2048x512) ![0, 0] S2048x512.size inb_S2048x512_S2048x512_0_0)
    (View.loadsAt_vmem h_S1x2048x512) (View.loadsAt_vmem h_S2048x512) (View.stores_vmem h_S2048x512 (harg15.storeExact_slice rfl _ packedbf16_S2048x512_S2048x512_0_0) (fun _ => rfl)) k0_pay318
  castG (k0_cond2 i = 1#1) arg12 arg16 (Rect.unit (s := S1x2048x512) ![0, 0, 0] S1x2048x512.size inb_S1x2048x512_S1x2048x512_0_0_0) (Rect.unit (s := S2048x512) ![0, 0] S2048x512.size inb_S2048x512_S2048x512_0_0)
    (View.loadsAt_vmem h_S1x2048x512) (View.loadsAt_vmem h_S2048x512) (View.stores_vmem h_S2048x512 (harg16.storeExact_slice rfl _ packedbf16_S2048x512_S2048x512_0_0) (fun _ => rfl)) k0_pay319
  castG (k0_cond3 i = 1#1) arg13 arg17 (Rect.unit (s := S1x512x2048) ![0, 0, 0] S1x512x2048.size inb_S1x512x2048_S1x512x2048_0_0_0) (Rect.unit (s := S512x2048) ![0, 0] S512x2048.size inb_S512x2048_S512x2048_0_0)
    (View.loadsAt_vmem h_S1x512x2048) (View.loadsAt_vmem h_S512x2048) (View.stores_vmem h_S512x2048 (harg17.storeExact_slice rfl _ packedbf16_S512x2048_S512x2048_0_0) (fun _ => rfl)) k0_pay320

/-- The start of a point: chains empty, and the first scores. -/
def headP : Prog (TpuEff nD τ sig (Elt F) Λ₀ .tc) (Vec F S8x256x512 .f32) := do
  let _m : Vec F S8x1x512 .f32 ← Prog.lift (.load arg18 (Rect.unit (s := S8x1x512) ![0, 0, 0] S8x1x512.size inb_S8x1x512_S8x1x512_0_0_0).toLoadRect (View.loadsAt_vmem h_S8x1x512))
  Prog.lift (.store arg18 (Rect.unit (s := S8x1x512) ![0, 0, 0] S8x1x512.size inb_S8x1x512_S8x1x512_0_0_0) (k0_pay321 (F := F)) Finset.univ (View.stores_vmem_bits_univ h_S8x1x512 rfl) (.inl rfl))
  let _l : Vec F S8x1x512 .f32 ← Prog.lift (.load arg19 (Rect.unit (s := S8x1x512) ![0, 0, 0] S8x1x512.size inb_S8x1x512_S8x1x512_0_0_0).toLoadRect (View.loadsAt_vmem h_S8x1x512))
  Prog.lift (.store arg19 (Rect.unit (s := S8x1x512) ![0, 0, 0] S8x1x512.size inb_S8x1x512_S8x1x512_0_0_0) (k0_pay322 (F := F)) Finset.univ (View.stores_vmem_bits_univ h_S8x1x512 rfl) (.inl rfl))
  let a : Vec F S8x256x512 .f32 ← Prog.lift (.load arg20 (Rect.unit (s := S8x256x512) ![0, 0, 0] S8x256x512.size inb_S8x256x512_S8x256x512_0_0_0).toLoadRect (View.loadsAt_vmem h_S8x256x512))
  Prog.lift (.store arg20 (Rect.unit (s := S8x256x512) ![0, 0, 0] S8x256x512.size inb_S8x256x512_S8x256x512_0_0_0) (k0_pay324 (k0_pay323 (F := F))) Finset.univ (View.stores_vmem_bits_univ h_S8x256x512 rfl) (.inl rfl))
  sc arg3 arg4 arg21 ![0, 0, 0, 0] inb_S1x1x4096x256_S1x1x512x128_0_0_0_0 ![0, 0, 0, 0] inb_S1x1x2048x256_S1x1x512x128_0_0_0_0 (slot false).1 (slot false).2
  pure a

/-- One query block's rows of the result, from its two chains. -/
def finR (lam : FVec F S1x1 .f32) (n n' : ℕ) (hn : n < 8) (hn' : n' < 8) (oo : Fin 3 → ℕ) (ho : ∀ a, oo a + S1x512x256.size a ≤ S1x2048x256.size a)
    (hx : (arg14.access (Rect.unit (s := S1x2048x256) oo S1x512x256.size ho)).Stores Finset.univ) :
    Prog (TpuEff nD τ sig (Elt F) Λ₀ .tc) PUnit := do
  let a0 : Vec F S1x256x512 .f32 ← Prog.lift (.load arg20 (Rect.unit (s := S8x256x512) ![n, 0, 0] S1x256x512.size (inb20 hn)).toLoadRect (View.loadsAt_vmem h_S1x256x512))
  let l0 : Vec F S1x1x512 .f32 ← Prog.lift (.load arg19 (Rect.unit (s := S8x1x512) ![n, 0, 0] S1x1x512.size (inb18 hn)).toLoadRect (View.loadsAt_vmem h_S1x1x512))
  let a1 : Vec F S1x256x512 .f32 ← Prog.lift (.load arg20 (Rect.unit (s := S8x256x512) ![n', 0, 0] S1x256x512.size (inb20 hn')).toLoadRect (View.loadsAt_vmem h_S1x256x512))
  let l1 : Vec F S1x1x512 .f32 ← Prog.lift (.load arg19 (Rect.unit (s := S8x1x512) ![n', 0, 0] S1x1x512.size (inb18 hn')).toLoadRect (View.loadsAt_vmem h_S1x1x512))
  let g : Vec F S256x1 .f32 ← Prog.lift (.load arg10 (Rect.unit (s := S256x1) ![0, 0] S256x1.size inb_S256x1_S256x1_0_0).toLoadRect (View.loadsAt_vmem h_S256x1))
  let _o : Vec F S1x512x256 .bf16 ← Prog.lift (.load arg14 (Rect.unit (s := S1x2048x256) oo S1x512x256.size ho).toLoadRect (View.loadsAt_vmem h_S1x512x256))
  Prog.lift (.store arg14 (Rect.unit (s := S1x2048x256) oo S1x512x256.size ho) (k0_pay536 (k0_pay535 lam a0 l0 a1 l1) g) Finset.univ hx (.inl rfl))

/-- The four blocks of rows. -/
def fin4P (lam : FVec F S1x1 .f32) : Prog (TpuEff nD τ sig (Elt F) Λ₀ .tc) PUnit := do
  finR arg10 arg14 arg19 arg20 lam 0 1 (by decide) (by decide) ![0, 0, 0] inb_S1x2048x256_S1x512x256_0_0_0 (View.stores_vmem h_S1x512x256 (harg14.storeExact_slice rfl _ packedbf16_S1x2048x256_S1x512x256_0_0_0) (fun _ => rfl))
  finR arg10 arg14 arg19 arg20 lam 2 3 (by decide) (by decide) ![0, 512, 0] inb_S1x2048x256_S1x512x256_0_512_0 (View.stores_vmem h_S1x512x256 (harg14.storeExact_slice rfl _ packedbf16_S1x2048x256_S1x512x256_0_512_0) (fun _ => rfl))
  finR arg10 arg14 arg19 arg20 lam 4 5 (by decide) (by decide) ![0, 1024, 0] inb_S1x2048x256_S1x512x256_0_1024_0 (View.stores_vmem h_S1x512x256 (harg14.storeExact_slice rfl _ packedbf16_S1x2048x256_S1x512x256_0_1024_0) (fun _ => rfl))
  finR arg10 arg14 arg19 arg20 lam 6 7 (by decide) (by decide) ![0, 1536, 0] inb_S1x2048x256_S1x512x256_0_1536_0 (View.stores_vmem h_S1x512x256 (harg14.storeExact_slice rfl _ packedbf16_S1x2048x256_S1x512x256_0_1536_0) (fun _ => rfl))

/-- The end of a point: the last scores taken in, then the four blocks of rows. -/
def finP : Prog (TpuEff nD τ sig (Elt F) Λ₀ .tc) PUnit := do
  ab arg5 arg18 arg19 arg20 arg21 msk (slot true).1 (slot true).2 ![7, 0, 0] (inb18 (by decide : 7 < 8)) (inb20 (by decide : 7 < 8)) (k0_off8 i (BitVec.ofNat 32 (3 : Fin 4).val)) (k0_off8_inb i 3)
  let a : Vec F S1x128 .f32 ← Prog.lift (.load arg6 (Rect.unit (s := S1x128) ![0, 0] S1x128.size inb_S1x128_S1x128_0_0).toLoadRect (View.loadsAt_vmem h_S1x128))
  let b : Vec F S1x128 .f32 ← Prog.lift (.load arg7 (Rect.unit (s := S1x128) ![0, 0] S1x128.size inb_S1x128_S1x128_0_0).toLoadRect (View.loadsAt_vmem h_S1x128))
  let c : Vec F S1x128 .f32 ← Prog.lift (.load arg8 (Rect.unit (s := S1x128) ![0, 0] S1x128.size inb_S1x128_S1x128_0_0).toLoadRect (View.loadsAt_vmem h_S1x128))
  let d : Vec F S1x128 .f32 ← Prog.lift (.load arg9 (Rect.unit (s := S1x128) ![0, 0] S1x128.size inb_S1x128_S1x128_0_0).toLoadRect (View.loadsAt_vmem h_S1x128))
  fin4P arg10 arg14 harg14 arg19 arg20 (k0_pay530 a b c d)

end

end Cert.KernelIdeal.Attn
-- ==== Proof.Attn.Chain.lean ====
module

public import proofs.«01_k».proof.Proof.Attn.Body
public import proofs.«01_k».proof.Proof.Gen.KernelIdeal.Frame

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Whole

variable {F : FTy → Type} [FloatOps F] [Named F]

local notation "𝕄" => MT nD τ sig Unit (Elt F) ℕ (UR sig nD τ) ℕ

/-! What the steps leave, as functions, and the triples of the steps. -/

/-- What the steps carry: maxima, sums, weighted values, and the scores not yet taken in. -/
structure St (F : FTy → Type) [FloatOps F] where
  /-- running maxima -/
  m : Vec F S8x1x512 .f32
  /-- running sums -/
  l : Vec F S8x1x512 .f32
  /-- running weighted values -/
  a : Vec F S8x256x512 .f32
  /-- the scores not yet taken in -/
  s : Vec F S1x512x512 .f32

/-- Chain `n`'s row of maxima or sums. -/
abbrev r18 {n : ℕ} (h : n < 8) : Rect S8x1x512 := Rect.unit (s := S8x1x512) ![n, 0, 0] S1x1x512.size (inb18 h)
/-- Chain `n`'s weighted values. -/
abbrev r20 {n : ℕ} (h : n < 8) : Rect S8x256x512 := Rect.unit (s := S8x256x512) ![n, 0, 0] S1x256x512.size (inb20 h)
/-- Chain `n`'s queries. -/
abbrev r3 {n : ℕ} (h : n < 8) : Rect S1x1x2048x256 := Rect.unit (s := S1x1x2048x256) ![0, 0, 512 * (n / 2), 128 * (n % 2)] S1x1x512x128.size (inb3 h)
/-- A slot's scores. -/
abbrev r21 (b : Bool) : Rect S2x512x512 := Rect.unit (s := S2x512x512) (slot b).1 S1x512x512.size (slot b).2
/-- Keys at an offset. -/
abbrev r4 (o : { o : Fin 4 → ℕ // ∀ a, o a + S1x1x512x128.size a ≤ S1x1x4096x256.size a }) : Rect S1x1x4096x256 :=
  Rect.unit (s := S1x1x4096x256) o.1 S1x1x512x128.size o.2
/-- Values at an offset. -/
abbrev r5 (o : { o : Fin 2 → ℕ // ∀ a, o a + S256x512.size a ≤ S256x4096.size a }) : Rect S256x4096 :=
  Rect.unit (s := S256x4096) o.1 S256x512.size o.2

/-- Scores `p` and values `v` taken into chain `n`. -/
def abF {n : ℕ} (hn : n < 8) (p : FVec F S512x512 .f32) (v : Vec F S256x512 .bf16) (s' : Vec F S1x512x512 .f32) (z : St F) : St F where
  m := wr (r18 hn) (k0_pay339 p (rd (r18 hn) z.m)) z.m
  l := wr (r18 hn) (k0_pay337 p (rd (r18 hn) z.m) (rd (r18 hn) z.l)) z.l
  a := wr (r20 hn) (k0_pay338 p (rd (r18 hn) z.m) v (rd (r20 hn) z.a)) z.a
  s := s'

/-- One step, as a function. -/
def stepF (x3 : Vec F S1x1x2048x256 .bf16) (x4 : Vec F S1x1x4096x256 .bf16) (x5 : Vec F S256x4096 .bf16) (s : Stp F) (z : St F) : St F :=
  abF s.hn (s.msk (k0_pay3 z.s)) (rd (r5 s.ov) x5) (k0_pay2 (rd (r4 s.ok) x4) (rd (r3 s.hnn) x3)) z

/-- The two slots share no element. -/
theorem slot_ne (b : Bool) : ∀ i j, (r21 (!b)).emb j ≠ (r21 b).emb i := by
  intro i j h
  have h0 := congrArg (fun x : S2x512x512.Idx => (x 0).val) h
  have hi : (i 0).val < 1 := (i 0).isLt
  have hj : (j 0).val < 1 := (j 0).isLt
  cases b
  · have h1 : 1 + 1 * (j 0).val = 0 + 1 * (i 0).val := h0
    omega
  · have h1 : 0 + 1 * (j 0).val = 1 + 1 * (i 0).val := h0
    omega

section
variable (c : Dev nD) (arg3 : Memref sig .tc .vmem S1x1x2048x256 .bf16) (arg4 : Memref sig .tc .vmem S1x1x4096x256 .bf16)
  (arg5 : Memref sig .tc .vmem S256x4096 .bf16) (arg18 arg19 : Memref sig .tc .vmem S8x1x512 .f32)
  (arg20 : Memref sig .tc .vmem S8x256x512 .f32) (arg21 : Memref sig .tc .vmem S2x512x512 .f32)
  (x3 : Vec F S1x1x2048x256 .bf16) (x4 : Vec F S1x1x4096x256 .bf16) (x5 : Vec F S256x4096 .bf16)

/-- The queries, keys and values, and the carried contents with the pending scores in slot `b`. -/
def held (b : Bool) (z : St F) : sProp 𝕄 :=
  iprop(owns (c : Thread nD τ) arg3 fullShare x3 ∗ owns (c : Thread nD τ) arg4 fullShare x4 ∗ owns (c : Thread nD τ) arg5 fullShare x5
    ∗ owns (c : Thread nD τ) arg18 fullShare z.m ∗ owns (c : Thread nD τ) arg19 fullShare z.l ∗ owns (c : Thread nD τ) arg20 fullShare z.a
    ∗ (∃ X : Vec F S2x512x512 .f32, ⌜rd (r21 b) X = z.s⌝ ∗ owns (c : Thread nD τ) arg21 fullShare X))

theorem step_wp (E : Set ℕ) (s : Stp F) (z : St F) (Q : PUnit → sProp 𝕄) :
    held c arg3 arg4 arg5 arg18 arg19 arg20 arg21 x3 x4 x5 s.sl z
      ⊢ iprop((held c arg3 arg4 arg5 arg18 arg19 arg20 arg21 x3 x4 x5 (!s.sl) (stepF x3 x4 x5 s z) -∗ Q ⟨⟩)
        -∗ wp frame (wpE (defs₀ (F := F)) Variants.none c none) E (stepP arg3 arg4 arg5 arg18 arg19 arg20 arg21 s) Q) := by
  simp only [held, stepF, abF]
  simp only [stepP, sc, ab, Prog.bind_ret, Prog.bind_op, Prog.bind_lift, bind_assoc, pure_bind]
  iintro ⟨H3, H4, H5, Hm, Hl, Ha, ⟨%X, %hX, Hs⟩⟩ Hk
  iapply (load_whole Variants.none (c : Thread nD τ) none E) $$ H4
  iintro H4
  iapply (load_whole Variants.none (c : Thread nD τ) none E) $$ H3
  iintro H3
  iapply (load_whole Variants.none (c : Thread nD τ) none E) $$ Hs
  iintro Hs
  iapply (store_whole Variants.none (c : Thread nD τ) none E) $$ Hs
  iintro Hs
  iapply (load_whole Variants.none (c : Thread nD τ) none E) $$ Hs
  iintro Hs
  rw [rd_wr_ne (r21 s.sl) (r21 (!s.sl)) _ X (slot_ne s.sl), hX]
  iapply (load_whole Variants.none (c : Thread nD τ) none E) $$ Hm
  iintro Hm
  iapply (load_whole Variants.none (c : Thread nD τ) none E) $$ Hl
  iintro Hl
  iapply (load_whole Variants.none (c : Thread nD τ) none E) $$ Hl
  iintro Hl
  iapply (store_whole Variants.none (c : Thread nD τ) none E) $$ Hl
  iintro Hl
  iapply (load_whole Variants.none (c : Thread nD τ) none E) $$ H5
  iintro H5
  iapply (load_whole Variants.none (c : Thread nD τ) none E) $$ Ha
  iintro Ha
  iapply (load_whole Variants.none (c : Thread nD τ) none E) $$ Ha
  iintro Ha
  iapply (store_whole Variants.none (c : Thread nD τ) none E) $$ Ha
  iintro Ha
  iapply (load_whole Variants.none (c : Thread nD τ) none E) $$ Hm
  iintro Hm
  iapply (store_whole Variants.none (c : Thread nD τ) none E) $$ Hm
  iintro Hm
  sl_step
  iapply Hk
  isplitl [H3]; · iexact H3
  isplitl [H4]; · iexact H4
  isplitl [H5]; · iexact H5
  isplitl [Hm]; · iexact Hm
  isplitl [Hl]; · iexact Hl
  isplitl [Ha]; · iexact Ha
  iexists _
  isplitr
  swap
  · iexact Hs
  ipureintro
  exact rd_wr _ _ _

/-- Steps in order, as a function. -/
def runF : List (Stp F) → St F → St F
  | [], z => z
  | s :: l, z => runF l (stepF x3 x4 x5 s z)

/-- The steps read the slots in turn, from `b` on, `b'` being next. -/
def alt : Bool → List (Stp F) → Bool → Prop
  | b, [], b' => b = b'
  | b, s :: l, b' => s.sl = b ∧ alt (!b) l b'

theorem run_wp (E : Set ℕ) : ∀ (l : List (Stp F)) (b b' : Bool) (z : St F) (Q : PUnit → sProp 𝕄), alt b l b' →
    (held c arg3 arg4 arg5 arg18 arg19 arg20 arg21 x3 x4 x5 b z
      ⊢ iprop((held c arg3 arg4 arg5 arg18 arg19 arg20 arg21 x3 x4 x5 b' (runF x3 x4 x5 l z) -∗ Q ⟨⟩)
        -∗ wp frame (wpE (defs₀ (F := F)) Variants.none c none) E (runP arg3 arg4 arg5 arg18 arg19 arg20 arg21 l) Q))
  | [], b, b', z, Q, h => by
      have h : b = b' := h
      subst h
      unfold runP
      iintro H Hk
      sl_step
      iapply Hk
      iexact H
  | s :: l, b, b', z, Q, h => by
      obtain ⟨h1, h2⟩ := h
      subst h1
      unfold runP
      rw [wp_bind]
      iintro H Hk
      iapply (step_wp c arg3 arg4 arg5 arg18 arg19 arg20 arg21 x3 x4 x5 E s z) $$ H
      iintro H
      iapply (run_wp E l (!s.sl) b' (stepF x3 x4 x5 s z) Q h2) $$ H
      iexact Hk

end

end Cert.KernelIdeal.Attn
-- ==== Proof.Attn.Text.lean ====
module

public import proofs.«01_k».proof.Proof.Attn.Body
public import Idealize.ShloMosaic.Lib.Tactic.ProgEq

@[expose] public section

noncomputable section

namespace Cert.KernelIdeal.Attn

open Idealize.ShloMosaic Idealize.SL.Sem Cert.KernelIdeal Cert.KernelIdeal.Gen

variable {F : FTy → Type} [FloatOps F] [Named F]

section
variable (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S256x4096 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .f32) (harg10 : arg10.IsWhole) (arg11 : Memref sig .tc .vmem S1x2048x512 .f32) (harg11 : arg11.IsWhole) (arg12 : Memref sig .tc .vmem S1x2048x512 .f32) (harg12 : arg12.IsWhole) (arg13 : Memref sig .tc .vmem S1x512x2048 .f32) (harg13 : arg13.IsWhole) (arg14 : Memref sig .tc .vmem S1x2048x256 .bf16) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S512x2048 .bf16) (harg17 : arg17.IsWhole) (arg18 : Memref sig .tc .vmem S8x1x512 .f32) (harg18 : arg18.IsWhole) (arg19 : Memref sig .tc .vmem S8x1x512 .f32) (harg19 : arg19.IsWhole) (arg20 : Memref sig .tc .vmem S8x256x512 .f32) (harg20 : arg20.IsWhole) (arg21 : Memref sig .tc .vmem S2x512x512 .f32) (harg21 : arg21.IsWhole)

/-- The printed start of a point: the casts, then the chains emptied. -/
theorem part51_eq : k0_part51_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (do
    castP i arg11 arg12 arg13 arg15 harg15 arg16 harg16 arg17 harg17
    let _m : Vec F S8x1x512 .f32 ← Prog.lift (.load arg18 (Rect.unit (s := S8x1x512) ![0, 0, 0] S8x1x512.size inb_S8x1x512_S8x1x512_0_0_0).toLoadRect (View.loadsAt_vmem h_S8x1x512))
    Prog.lift (.store arg18 (Rect.unit (s := S8x1x512) ![0, 0, 0] S8x1x512.size inb_S8x1x512_S8x1x512_0_0_0) (k0_pay321 (F := F)) Finset.univ (View.stores_vmem_bits_univ h_S8x1x512 rfl) (.inl rfl))
    let _l : Vec F S8x1x512 .f32 ← Prog.lift (.load arg19 (Rect.unit (s := S8x1x512) ![0, 0, 0] S8x1x512.size inb_S8x1x512_S8x1x512_0_0_0).toLoadRect (View.loadsAt_vmem h_S8x1x512))
    Prog.lift (.store arg19 (Rect.unit (s := S8x1x512) ![0, 0, 0] S8x1x512.size inb_S8x1x512_S8x1x512_0_0_0) (k0_pay322 (F := F)) Finset.univ (View.stores_vmem_bits_univ h_S8x1x512 rfl) (.inl rfl))
    let a : Vec F S8x256x512 .f32 ← Prog.lift (.load arg20 (Rect.unit (s := S8x256x512) ![0, 0, 0] S8x256x512.size inb_S8x256x512_S8x256x512_0_0_0).toLoadRect (View.loadsAt_vmem h_S8x256x512))
    pure ⟨BitVec.ofNat 32 (i 2).val, k0_pay323 (F := F), a⟩) := by
  unfold k0_part51_skel castP castG
  by_cases h1 : k0_cond1 i = 1#1 <;> by_cases h2 : k0_cond2 i = 1#1 <;> by_cases h3 : k0_cond3 i = 1#1 <;>
    simp only [h1, h2, h3, dite_true, dite_false, ↓reduceDIte, Prog.bind_ret, Prog.bind_op, Prog.bind_lift, bind_assoc, pure_bind] <;>
    rfl

set_option maxRecDepth 65536 in
/-- The printed body is: the casts, the start, the loop, the remainder loop, the tail, the end. -/
theorem cc0_eq : cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (do
    castP i arg11 arg12 arg13 arg15 harg15 arg16 harg16 arg17 harg17
    let v ← headP arg3 arg4 arg18 arg19 arg20 arg21
    let _ ← Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 2).val) (k0_pay323 (F := F)) v)
    let _ ← Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 2).val) (k0_pay323 (F := F)) v (Scalar.addi 0#32 (Scalar.muli (Scalar.divsi (Scalar.subi (Scalar.muli (BitVec.ofNat 32 (i 2).val) 2#32) 0#32) 1#32) 1#32)))
    runP arg3 arg4 arg5 arg18 arg19 arg20 arg21 (tls i)
    finP i arg5 arg6 arg7 arg8 arg9 arg10 arg14 harg14 arg18 arg19 arg20 arg21) := by
  simp only [cc0_diff_attention_eq_skeleton, cc0_diff_attention_skel, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, part51_eq, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, headP, finP, fin4P, finR, runP, tls, stepP, sc, ab, te, tO, Prog.bind_ret, Prog.bind_op, Prog.bind_lift, bind_assoc, pure_bind, slot, Bool.not_true, Bool.not_false, id]
  refine Idealize.ShloMosaic.ProgEq.bind_congr _ _ _ _ _ _ _ rfl (fun _ => ?_)
  iterate 10 refine Idealize.ShloMosaic.ProgEq.op_congr _ _ _ _ _ _ _ rfl (fun _ => ?_)
  iterate 2 refine Idealize.ShloMosaic.ProgEq.bind_congr _ _ _ _ _ _ _ rfl (fun _ => ?_)
  repeat (refine Idealize.ShloMosaic.ProgEq.op_congr _ _ _ _ _ _ _ rfl (fun _ => ?_))
  rfl

end

end Cert.KernelIdeal.Attn
-- ==== Proof.Attn.Parts.lean ====
module

public import proofs.«01_k».proof.Proof.Attn.Chain
public import proofs.«01_k».proof.Proof.Attn.Text

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Whole

variable {F : FTy → Type} [FloatOps F] [Named F]

local notation "𝕄" => MT nD τ sig Unit (Elt F) ℕ (UR sig nD τ) ℕ

/-! The triple of one point's body. -/

section
variable (c : Dev nD)

theorem cast_wp (E : Set ℕ) (p : Prop) [Decidable p] {s t : Shape} (a : Memref sig .tc .vmem s .f32) (b : Memref sig .tc .vmem t .bf16) (r : Rect s) (r' : Rect t)
    (hl : a.view.LoadsAt r.toLoadRect) (hl' : b.view.LoadsAt r'.toLoadRect) (hx : (b.access r').Stores Finset.univ)
    (f : (r.shape.Idx → Elt F .f32) → (r'.shape.Idx → Elt F .bf16)) (X : s.Idx → Elt F .f32) (Y : t.Idx → Elt F .bf16) (Q : PUnit → sProp 𝕄) :
    iprop(owns (c : Thread nD τ) a fullShare X ∗ owns (c : Thread nD τ) b fullShare Y)
      ⊢ iprop((owns (c : Thread nD τ) a fullShare X -∗ owns (c : Thread nD τ) b fullShare (if p then wr r' (f (rd r X)) Y else Y) -∗ Q ⟨⟩)
        -∗ wp frame (wpE (defs₀ (F := F)) Variants.none c none) E (castG p a b r r' hl hl' hx f) Q) := by
  unfold castG
  by_cases h : p
  · simp only [h, if_true, dite_true, Prog.bind_ret, Prog.bind_op, Prog.bind_lift, bind_assoc, pure_bind]
    iintro ⟨Ha, Hb⟩ Hk
    iapply (load_whole Variants.none (c : Thread nD τ) none E) $$ Ha
    iintro Ha
    iapply (load_whole Variants.none (c : Thread nD τ) none E) $$ Hb
    iintro Hb
    iapply (store_whole Variants.none (c : Thread nD τ) none E) $$ Hb
    iintro Hb
    sl_step
    iapply Hk $$ Ha
    iexact Hb
  · simp only [h, if_false, dite_false]
    iintro ⟨Ha, Hb⟩ Hk
    sl_step
    iapply Hk $$ Ha
    iexact Hb

variable (arg3 : Memref sig .tc .vmem S1x1x2048x256 .bf16) (arg4 : Memref sig .tc .vmem S1x1x4096x256 .bf16)
  (arg5 : Memref sig .tc .vmem S256x4096 .bf16) (arg10 : Memref sig .tc .vmem S256x1 .f32) (arg14 : Memref sig .tc .vmem S1x2048x256 .bf16)
  (arg18 arg19 : Memref sig .tc .vmem S8x1x512 .f32)
  (arg20 : Memref sig .tc .vmem S8x256x512 .f32) (arg21 : Memref sig .tc .vmem S2x512x512 .f32)
  (x3 : Vec F S1x1x2048x256 .bf16) (x4 : Vec F S1x1x4096x256 .bf16) (x5 : Vec F S256x4096 .bf16)

/-- The pending scores taken in, no new ones computed. -/
theorem ab_wp (E : Set ℕ) (b : Bool) (f : FVec F S512x512 .f32 → FVec F S512x512 .f32) {n : ℕ} (hn : n < 8)
    (ov : { o : Fin 2 → ℕ // ∀ a, o a + S256x512.size a ≤ S256x4096.size a }) (z : St F) (Q : PUnit → sProp 𝕄) :
    held c arg3 arg4 arg5 arg18 arg19 arg20 arg21 x3 x4 x5 b z
      ⊢ iprop((held c arg3 arg4 arg5 arg18 arg19 arg20 arg21 x3 x4 x5 b (abF hn (f (k0_pay3 z.s)) (rd (r5 ov) x5) z.s z) -∗ Q ⟨⟩)
        -∗ wp frame (wpE (defs₀ (F := F)) Variants.none c none) E (ab arg5 arg18 arg19 arg20 arg21 f (slot b).1 (slot b).2 ![n, 0, 0] (inb18 hn) (inb20 hn) ov.1 ov.2) Q) := by
  simp only [held, abF]
  simp only [ab, Prog.bind_ret, Prog.bind_op, Prog.bind_lift, bind_assoc, pure_bind]
  iintro ⟨H3, H4, H5, Hm, Hl, Ha, ⟨%X, %hX, Hs⟩⟩ Hk
  iapply (load_whole Variants.none (c : Thread nD τ) none E) $$ Hs
  iintro Hs
  rw [hX]
  iapply (load_whole Variants.none (c : Thread nD τ) none E) $$ Hm
  iintro Hm
  iapply (load_whole Variants.none (c : Thread nD τ) none E) $$ Hl
  iintro Hl
  iapply (load_whole Variants.none (c : Thread nD τ) none E) $$ Hl
  iintro Hl
  iapply (store_whole Variants.none (c : Thread nD τ) none E) $$ Hl
  iintro Hl
  iapply (load_whole Variants.none (c : Thread nD τ) none E) $$ H5
  iintro H5
  iapply (load_whole Variants.none (c : Thread nD τ) none E) $$ Ha
  iintro Ha
  iapply (load_whole Variants.none (c : Thread nD τ) none E) $$ Ha
  iintro Ha
  iapply (store_whole Variants.none (c : Thread nD τ) none E) $$ Ha
  iintro Ha
  iapply (load_whole Variants.none (c : Thread nD τ) none E) $$ Hm
  iintro Hm
  iapply (store_whole Variants.none (c : Thread nD τ) none E) $$ Hm
  iintro Hm
  sl_step
  iapply Hk
  isplitl [H3]; · iexact H3
  isplitl [H4]; · iexact H4
  isplitl [H5]; · iexact H5
  isplitl [Hm]; · iexact Hm
  isplitl [Hl]; · iexact Hl
  isplitl [Ha]; · iexact Ha
  iexists X
  isplitr
  · ipureintro; exact hX
  iexact Hs

/-- One query block's rows of the result, from its two chains. -/
def rowsF (lam : FVec F S1x1 .f32) {n n' : ℕ} (hn : n < 8) (hn' : n' < 8) (l : Vec F S8x1x512 .f32) (a : Vec F S8x256x512 .f32) (g : Vec F S256x1 .f32) : Vec F S1x512x256 .bf16 :=
  k0_pay536 (k0_pay535 lam (rd (r20 hn) a) (rd (r18 hn) l) (rd (r20 hn') a) (rd (r18 hn') l)) g

theorem fin_wp (E : Set ℕ) (lam : FVec F S1x1 .f32) {n n' : ℕ} (hn : n < 8) (hn' : n' < 8) (oo : Fin 3 → ℕ) (ho : ∀ a, oo a + S1x512x256.size a ≤ S1x2048x256.size a)
    (hx : (arg14.access (Rect.unit (s := S1x2048x256) oo S1x512x256.size ho)).Stores Finset.univ)
    (l : Vec F S8x1x512 .f32) (a : Vec F S8x256x512 .f32) (g : Vec F S256x1 .f32) (X : Vec F S1x2048x256 .bf16) (Q : PUnit → sProp 𝕄) :
    iprop(owns (c : Thread nD τ) arg10 fullShare g ∗ owns (c : Thread nD τ) arg14 fullShare X ∗ owns (c : Thread nD τ) arg19 fullShare l ∗ owns (c : Thread nD τ) arg20 fullShare a)
      ⊢ iprop((iprop(owns (c : Thread nD τ) arg10 fullShare g ∗ owns (c : Thread nD τ) arg14 fullShare (wr (Rect.unit (s := S1x2048x256) oo S1x512x256.size ho) (rowsF lam hn hn' l a g) X) ∗ owns (c : Thread nD τ) arg19 fullShare l ∗ owns (c : Thread nD τ) arg20 fullShare a) -∗ Q ⟨⟩)
        -∗ wp frame (wpE (defs₀ (F := F)) Variants.none c none) E (finR arg10 arg14 arg19 arg20 lam n n' hn hn' oo ho hx) Q) := by
  simp only [finR, rowsF, Prog.bind_ret, Prog.bind_op, Prog.bind_lift, bind_assoc, pure_bind]
  iintro ⟨Hg, Ho, Hl, Ha⟩ Hk
  iapply (load_whole Variants.none (c : Thread nD τ) none E) $$ Ha
  iintro Ha
  iapply (load_whole Variants.none (c : Thread nD τ) none E) $$ Hl
  iintro Hl
  iapply (load_whole Variants.none (c : Thread nD τ) none E) $$ Ha
  iintro Ha
  iapply (load_whole Variants.none (c : Thread nD τ) none E) $$ Hl
  iintro Hl
  iapply (load_whole Variants.none (c : Thread nD τ) none E) $$ Hg
  iintro Hg
  rw [rd_whole inb_S256x1_S256x1_0_0 g]
  iapply (load_whole Variants.none (c : Thread nD τ) none E) $$ Ho
  iintro Ho
  iapply (store_whole Variants.none (c : Thread nD τ) none E) $$ Ho
  iintro Ho
  sl_step
  iapply Hk
  isplitl [Hg]; · iexact Hg
  isplitl [Ho]; · iexact Ho
  isplitl [Hl]; · iexact Hl
  iexact Ha

end

end Cert.KernelIdeal.Attn
-- ==== Proof.Attn.Point.lean ====
module

public import proofs.«01_k».proof.Proof.Attn.Parts

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Whole

variable {F : FTy → Type} [FloatOps F] [Named F]

local notation "𝕄" => MT nD τ sig Unit (Elt F) ℕ (UR sig nD τ) ℕ

/-! What one point leaves, and the triple of its body. -/

/-- The contents before the sweep: empty chains, and the first scores. -/
def z0 (x3 : Vec F S1x1x2048x256 .bf16) (x4 : Vec F S1x1x4096x256 .bf16) : St F where
  m := k0_pay321
  l := k0_pay322
  a := k0_pay324 k0_pay323
  s := k0_pay2 (rd (Rect.unit (s := S1x1x4096x256) ![0, 0, 0, 0] S1x1x512x128.size inb_S1x1x4096x256_S1x1x512x128_0_0_0_0) x4)
    (rd (Rect.unit (s := S1x1x2048x256) ![0, 0, 0, 0] S1x1x512x128.size inb_S1x1x2048x256_S1x1x512x128_0_0_0_0) x3)

/-- The contents after `k` trips. -/
def loopF (i : grid0.Coords) (x3 : Vec F S1x1x2048x256 .bf16) (x4 : Vec F S1x1x4096x256 .bf16) (x5 : Vec F S256x4096 .bf16) : ℕ → St F
  | 0 => z0 x3 x4
  | k + 1 => if h : k < (k0_t1_loop i).trips then runF x3 x4 x5 (lps i ⟨k, h⟩) (loopF i x3 x4 x5 k) else loopF i x3 x4 x5 k

/-- The contents after the tail's steps but the last. -/
def tailZ (i : grid0.Coords) (x3 : Vec F S1x1x2048x256 .bf16) (x4 : Vec F S1x1x4096x256 .bf16) (x5 : Vec F S256x4096 .bf16) : St F := runF x3 x4 x5 (tls i) (loopF i x3 x4 x5 (k0_t1_loop i).trips)

/-- The contents after the sweep. -/
def endZ (i : grid0.Coords) (x3 : Vec F S1x1x2048x256 .bf16) (x4 : Vec F S1x1x4096x256 .bf16) (x5 : Vec F S256x4096 .bf16) : St F :=
  abF (by decide : 7 < 8) (msk (k0_pay3 (tailZ i x3 x4 x5).s)) (rd (r5 ⟨k0_off8 i (BitVec.ofNat 32 (3 : Fin 4).val), k0_off8_inb i 3⟩) x5) (tailZ i x3 x4 x5).s (tailZ i x3 x4 x5)

/-- Row `x 1` of the result is row `x 1 % 512` of its query block. -/
def rowIx (x : S1x2048x256.Idx) : S1x512x256.Idx
  | ⟨0, _⟩ => ⟨0, Nat.one_pos⟩
  | ⟨1, _⟩ => ⟨(x 1).val % 512, Nat.mod_lt _ (Nat.succ_pos 511)⟩
  | ⟨2, _⟩ => ⟨(x 2).val, (x 2).isLt⟩

/-- The result of a point from the rows of its query blocks. -/
def glue (f : ℕ → Vec F S1x512x256 .bf16) : Vec F S1x2048x256 .bf16 := fun x => f ((x 1).val / 512) (rowIx x)

/-- The rows of query block `k`. -/
def blkF (lam : FVec F S1x1 .f32) (g : Vec F S256x1 .f32) (z : St F) : ℕ → Vec F S1x512x256 .bf16
  | 0 => rowsF lam (by decide : 0 < 8) (by decide : 1 < 8) z.l z.a g
  | 1 => rowsF lam (by decide : 2 < 8) (by decide : 3 < 8) z.l z.a g
  | 2 => rowsF lam (by decide : 4 < 8) (by decide : 5 < 8) z.l z.a g
  | _ => rowsF lam (by decide : 6 < 8) (by decide : 7 < 8) z.l z.a g

/-- What a point leaves in its block of the result. -/
def outF (i : grid0.Coords) (x3 : Vec F S1x1x2048x256 .bf16) (x4 : Vec F S1x1x4096x256 .bf16) (x5 : Vec F S256x4096 .bf16) (x6 : Vec F S1x128 .f32) (x7 : Vec F S1x128 .f32) (x8 : Vec F S1x128 .f32) (x9 : Vec F S1x128 .f32) (x10 : Vec F S256x1 .f32) : Vec F S1x2048x256 .bf16 :=
  glue (blkF (k0_pay530 x6 x7 x8 x9) x10 (endZ i x3 x4 x5))

/-- Query block `o / 512`'s rows of the result. -/
abbrev r14 (o : ℕ) (h : ∀ a, (![0, o, 0] : Fin 3 → ℕ) a + S1x512x256.size a ≤ S1x2048x256.size a) : Rect S1x2048x256 :=
  Rect.unit (s := S1x2048x256) ![0, o, 0] S1x512x256.size h

theorem emb_row (k : ℕ) (h : ∀ a, (![0, 512 * k, 0] : Fin 3 → ℕ) a + S1x512x256.size a ≤ S1x2048x256.size a) (x : S1x2048x256.Idx)
    (hk : (x 1).val / 512 = k) : (r14 (512 * k) h).emb (rowIx x) = x := by
  refine funext fun a => Fin.ext (a := (r14 (512 * k) h).emb (rowIx x) a) (b := x a) ?_
  match a with
  | ⟨0, _⟩ =>
    have h1 : (x 0).val < 1 := (x 0).isLt
    show 0 + 1 * 0 = (x 0).val
    omega
  | ⟨1, _⟩ =>
    show 512 * k + 1 * ((x 1).val % 512) = (x 1).val
    omega
  | ⟨2, _⟩ =>
    show 0 + 1 * (x 2).val = (x 2).val
    omega

theorem emb_row_ne (k : ℕ) (h : ∀ a, (![0, 512 * k, 0] : Fin 3 → ℕ) a + S1x512x256.size a ≤ S1x2048x256.size a) (x : S1x2048x256.Idx)
    (hk : (x 1).val / 512 ≠ k) : ∀ j, (r14 (512 * k) h).emb j ≠ x := by
  intro j e
  have h1 := congrArg (fun x : S1x2048x256.Idx => (x 1).val) e
  have h2 : 512 * k + 1 * (j 1).val = (x 1).val := h1
  have h3 : (j 1).val < 512 := (j 1).isLt
  omega

/-- The four blocks of rows cover the result. -/
theorem glue_eq (f : ℕ → Vec F S1x512x256 .bf16) (X : Vec F S1x2048x256 .bf16) :
    wr (r14 1536 inb_S1x2048x256_S1x512x256_0_1536_0) (f 3) (wr (r14 1024 inb_S1x2048x256_S1x512x256_0_1024_0) (f 2)
      (wr (r14 512 inb_S1x2048x256_S1x512x256_0_512_0) (f 1) (wr (r14 0 inb_S1x2048x256_S1x512x256_0_0_0) (f 0) X))) = glue f := by
  funext x
  have hx : (x 1).val < 2048 := (x 1).isLt
  have hit : ∀ (k : ℕ) (h : ∀ a, (![0, 512 * k, 0] : Fin 3 → ℕ) a + S1x512x256.size a ≤ S1x2048x256.size a) (Y : Vec F S1x2048x256 .bf16),
      (x 1).val / 512 = k → wr (r14 (512 * k) h) (f k) Y x = glue f x := fun k h Y hk =>
    (congrArg (wr (r14 (512 * k) h) (f k) Y) (emb_row k h x hk).symm).trans ((wr_emb _ _ _ _).trans (by rw [glue, hk]))
  have miss : ∀ (k : ℕ) (h : ∀ a, (![0, 512 * k, 0] : Fin 3 → ℕ) a + S1x512x256.size a ≤ S1x2048x256.size a) (Y : Vec F S1x2048x256 .bf16),
      (x 1).val / 512 ≠ k → wr (r14 (512 * k) h) (f k) Y x = Y x := fun k h Y hk => wr_off _ _ _ _ (emb_row_ne k h x hk)
  by_cases h3 : (x 1).val / 512 = 3
  · exact hit 3 _ _ h3
  refine (miss 3 _ _ h3).trans ?_
  by_cases h2 : (x 1).val / 512 = 2
  · exact hit 2 _ _ h2
  refine (miss 2 _ _ h2).trans ?_
  by_cases h1 : (x 1).val / 512 = 1
  · exact hit 1 _ _ h1
  refine (miss 1 _ _ h1).trans ?_
  exact hit 0 _ _ (by omega)

theorem alt_lps (i : grid0.Coords) (t : Fin (k0_t1_loop i).trips) : alt false (lps (F := F) i t) false := by
  simp only [lps, alt, ev, od, Bool.not_true, Bool.not_false, and_self]

theorem alt_tls (i : grid0.Coords) : alt false (tls (F := F) i) true := by
  simp only [tls, alt, te, tO, Bool.not_true, Bool.not_false, and_self]

section
variable (c : Dev nD)
variable (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S256x4096 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .f32) (harg10 : arg10.IsWhole) (arg11 : Memref sig .tc .vmem S1x2048x512 .f32) (harg11 : arg11.IsWhole) (arg12 : Memref sig .tc .vmem S1x2048x512 .f32) (harg12 : arg12.IsWhole) (arg13 : Memref sig .tc .vmem S1x512x2048 .f32) (harg13 : arg13.IsWhole) (arg14 : Memref sig .tc .vmem S1x2048x256 .bf16) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S512x2048 .bf16) (harg17 : arg17.IsWhole) (arg18 : Memref sig .tc .vmem S8x1x512 .f32) (harg18 : arg18.IsWhole) (arg19 : Memref sig .tc .vmem S8x1x512 .f32) (harg19 : arg19.IsWhole) (arg20 : Memref sig .tc .vmem S8x256x512 .f32) (harg20 : arg20.IsWhole) (arg21 : Memref sig .tc .vmem S2x512x512 .f32) (harg21 : arg21.IsWhole)
  (x3 : Vec F S1x1x2048x256 .bf16) (x4 : Vec F S1x1x4096x256 .bf16) (x5 : Vec F S256x4096 .bf16) (x6 : Vec F S1x128 .f32) (x7 : Vec F S1x128 .f32) (x8 : Vec F S1x128 .f32) (x9 : Vec F S1x128 .f32) (x10 : Vec F S256x1 .f32) (x11 : Vec F S1x2048x512 .f32) (x12 : Vec F S1x2048x512 .f32) (x13 : Vec F S1x512x2048 .f32) (x14 : Vec F S1x2048x256 .bf16) (x15 : Vec F S2048x512 .bf16) (x16 : Vec F S2048x512 .bf16) (x17 : Vec F S512x2048 .bf16)

theorem head_wp (E : Set ℕ) (Q : Vec F S8x256x512 .f32 → sProp 𝕄) :
    iprop(owns (c : Thread nD τ) arg3 fullShare x3 ∗ owns (c : Thread nD τ) arg4 fullShare x4 ∗ owns (c : Thread nD τ) arg5 fullShare x5 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))
      ⊢ iprop((∀ v, held c arg3 arg4 arg5 arg18 arg19 arg20 arg21 x3 x4 x5 false (z0 x3 x4) -∗ Q v) -∗ wp frame (wpE (defs₀ (F := F)) Variants.none c none) E (headP arg3 arg4 arg18 arg19 arg20 arg21) Q) := by
  simp only [headP, sc, held, z0, Prog.bind_ret, Prog.bind_op, Prog.bind_lift, bind_assoc, pure_bind]
  iintro ⟨H3, H4, H5, ⟨%d0, Hm⟩, ⟨%d1, Hl⟩, ⟨%d2, Ha⟩, ⟨%d3, Hs⟩⟩ Hk
  iapply (load_whole Variants.none (c : Thread nD τ) none E) $$ Hm
  iintro Hm
  iapply (store_whole Variants.none (c : Thread nD τ) none E) $$ Hm
  iintro Hm
  iapply (load_whole Variants.none (c : Thread nD τ) none E) $$ Hl
  iintro Hl
  iapply (store_whole Variants.none (c : Thread nD τ) none E) $$ Hl
  iintro Hl
  iapply (load_whole Variants.none (c : Thread nD τ) none E) $$ Ha
  iintro Ha
  iapply (store_whole Variants.none (c : Thread nD τ) none E) $$ Ha
  iintro Ha
  iapply (load_whole Variants.none (c : Thread nD τ) none E) $$ H4
  iintro H4
  iapply (load_whole Variants.none (c : Thread nD τ) none E) $$ H3
  iintro H3
  iapply (load_whole Variants.none (c : Thread nD τ) none E) $$ Hs
  iintro Hs
  iapply (store_whole Variants.none (c : Thread nD τ) none E) $$ Hs
  iintro Hs
  rw [wr_whole inb_S8x1x512_S8x1x512_0_0_0, wr_whole inb_S8x1x512_S8x1x512_0_0_0, wr_whole inb_S8x256x512_S8x256x512_0_0_0]
  sl_step
  iapply Hk
  isplitl [H3]; · iexact H3
  isplitl [H4]; · iexact H4
  isplitl [H5]; · iexact H5
  isplitl [Hm]; · iexact Hm
  isplitl [Hl]; · iexact Hl
  isplitl [Ha]; · iexact Ha
  iexists _
  isplitr
  swap
  · iexact Hs
  ipureintro
  exact rd_wr _ _ _

theorem loop_wp (E : Set ℕ) (a2 : BitVec 32) (v27 : FVec F S8x256x512 .f32) (v28 : Vec F S8x256x512 .f32) (Q : PUnit → sProp 𝕄) :
    held c arg3 arg4 arg5 arg18 arg19 arg20 arg21 x3 x4 x5 false (z0 x3 x4)
      ⊢ iprop((held c arg3 arg4 arg5 arg18 arg19 arg20 arg21 x3 x4 x5 false (loopF i x3 x4 x5 (k0_t1_loop i).trips) -∗ Q ⟨⟩)
        -∗ wp frame (wpE (defs₀ (F := F)) Variants.none c none) E (Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a2 v27 v28)) Q) := by
  iintro H Hk
  iapply (Scf.wp_for frame (wpE (defs₀ (F := F)) Variants.none c none) E _ _ _ _ _ _ (fun k _ => held c arg3 arg4 arg5 arg18 arg19 arg20 arg21 x3 x4 x5 false (loopF i x3 x4 x5 k)) (fun k acc => ?hb))
  case hb =>
    obtain ⟨⟩ := acc
    rw [body1_eq, show loopF i x3 x4 x5 (k.val + 1) = runF x3 x4 x5 (lps i k) (loopF i x3 x4 x5 k.val) from dif_pos k.isLt]
    iintro H
    iapply (run_wp c arg3 arg4 arg5 arg18 arg19 arg20 arg21 x3 x4 x5 E (lps i k) false false _ _ (alt_lps i k)) $$ H
    iintro H
    iexact H
  isplitl [H]
  · iexact H
  iintro %a H
  obtain ⟨⟩ := a
  iapply Hk
  iexact H

theorem loop2_wp (E : Set ℕ) (a2 : BitVec 32) (v27 : FVec F S8x256x512 .f32) (v28 : Vec F S8x256x512 .f32) (w : BitVec 32) (Q : PUnit → sProp 𝕄) :
    Q ⟨⟩ ⊢ wp frame (wpE (defs₀ (F := F)) Variants.none c none) E (Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a2 v27 v28 w)) Q := by
  iintro H
  iapply (Scf.wp_for frame (wpE (defs₀ (F := F)) Variants.none c none) E _ _ _ _ _ _ (fun k _ => Q ⟨⟩) (fun k acc => ?hb))
  case hb => exact absurd k.isLt (Nat.not_lt.2 (Nat.le_trans (k0_t2_abs i).2.1 (Nat.zero_le _)))
  isplitl [H]
  · iexact H
  iintro %a H
  obtain ⟨⟩ := a
  iexact H

end

end Cert.KernelIdeal.Attn
-- ==== Proof.Attn.Triple.lean ====
module

public import proofs.«01_k».proof.Proof.Attn.Point

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Whole

variable {F : FTy → Type} [FloatOps F] [Named F]

local notation "𝕄" => MT nD τ sig Unit (Elt F) ℕ (UR sig nD τ) ℕ

section
variable (c : Dev nD)
variable (i : grid0.Coords) (arg3 : Memref sig .tc .vmem S1x1x2048x256 .bf16) (harg3 : arg3.IsWhole) (arg4 : Memref sig .tc .vmem S1x1x4096x256 .bf16) (harg4 : arg4.IsWhole) (arg5 : Memref sig .tc .vmem S256x4096 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .f32) (harg10 : arg10.IsWhole) (arg11 : Memref sig .tc .vmem S1x2048x512 .f32) (harg11 : arg11.IsWhole) (arg12 : Memref sig .tc .vmem S1x2048x512 .f32) (harg12 : arg12.IsWhole) (arg13 : Memref sig .tc .vmem S1x512x2048 .f32) (harg13 : arg13.IsWhole) (arg14 : Memref sig .tc .vmem S1x2048x256 .bf16) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S512x2048 .bf16) (harg17 : arg17.IsWhole) (arg18 : Memref sig .tc .vmem S8x1x512 .f32) (harg18 : arg18.IsWhole) (arg19 : Memref sig .tc .vmem S8x1x512 .f32) (harg19 : arg19.IsWhole) (arg20 : Memref sig .tc .vmem S8x256x512 .f32) (harg20 : arg20.IsWhole) (arg21 : Memref sig .tc .vmem S2x512x512 .f32) (harg21 : arg21.IsWhole)
  (x3 : Vec F S1x1x2048x256 .bf16) (x4 : Vec F S1x1x4096x256 .bf16) (x5 : Vec F S256x4096 .bf16) (x6 : Vec F S1x128 .f32) (x7 : Vec F S1x128 .f32) (x8 : Vec F S1x128 .f32) (x9 : Vec F S1x128 .f32) (x10 : Vec F S256x1 .f32) (x11 : Vec F S1x2048x512 .f32) (x12 : Vec F S1x2048x512 .f32) (x13 : Vec F S1x512x2048 .f32) (x14 : Vec F S1x2048x256 .bf16) (x15 : Vec F S2048x512 .bf16) (x16 : Vec F S2048x512 .bf16) (x17 : Vec F S512x2048 .bf16)

theorem castP_wp (E : Set ℕ) (Q : PUnit → sProp 𝕄) :
    iprop(owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg16 fullShare x16 ∗ owns (c : Thread nD τ) arg17 fullShare x17)
      ⊢ iprop((iprop(owns (c : Thread nD τ) arg11 fullShare x11 ∗ owns (c : Thread nD τ) arg12 fullShare x12 ∗ owns (c : Thread nD τ) arg13 fullShare x13 ∗ owns (c : Thread nD τ) arg15 fullShare (if k0_cond1 i = 1#1 then k0_pay318 x11 else x15) ∗ owns (c : Thread nD τ) arg16 fullShare (if k0_cond2 i = 1#1 then k0_pay319 x12 else x16) ∗ owns (c : Thread nD τ) arg17 fullShare (if k0_cond3 i = 1#1 then k0_pay320 x13 else x17)) -∗ Q ⟨⟩)
        -∗ wp frame (wpE (defs₀ (F := F)) Variants.none c none) E (castP i arg11 arg12 arg13 arg15 harg15 arg16 harg16 arg17 harg17) Q) := by
  unfold castP
  simp only [wp_bind]
  iintro ⟨H11, H12, H13, H15, H16, H17⟩ Hk
  iapply (cast_wp c E) $$ [H11 H15]
  · isplitl [H11]
    · iexact H11
    iexact H15
  iintro H11 H15
  iapply (cast_wp c E) $$ [H12 H16]
  · isplitl [H12]
    · iexact H12
    iexact H16
  iintro H12 H16
  iapply (cast_wp c E) $$ [H13 H17]
  · isplitl [H13]
    · iexact H13
    iexact H17
  iintro H13 H17
  rw [wr_whole inb_S2048x512_S2048x512_0_0, wr_whole inb_S2048x512_S2048x512_0_0, wr_whole inb_S512x2048_S512x2048_0_0,
    rd_whole inb_S1x2048x512_S1x2048x512_0_0_0, rd_whole inb_S1x2048x512_S1x2048x512_0_0_0, rd_whole inb_S1x512x2048_S1x512x2048_0_0_0]
  iapply Hk
  isplitl [H11]; · iexact H11
  isplitl [H12]; · iexact H12
  isplitl [H13]; · iexact H13
  isplitl [H15]; · iexact H15
  isplitl [H16]; · iexact H16
  iexact H17

theorem fin4_wp (E : Set ℕ) (lam : FVec F S1x1 .f32) (Z : St F) (Q : PUnit → sProp 𝕄) :
    iprop(owns (c : Thread nD τ) arg10 fullShare x10 ∗ owns (c : Thread nD τ) arg14 fullShare x14 ∗ owns (c : Thread nD τ) arg19 fullShare Z.l ∗ owns (c : Thread nD τ) arg20 fullShare Z.a)
      ⊢ iprop((iprop(owns (c : Thread nD τ) arg10 fullShare x10 ∗ owns (c : Thread nD τ) arg14 fullShare (glue (blkF lam x10 Z)) ∗ owns (c : Thread nD τ) arg19 fullShare Z.l ∗ owns (c : Thread nD τ) arg20 fullShare Z.a) -∗ Q ⟨⟩)
        -∗ wp frame (wpE (defs₀ (F := F)) Variants.none c none) E (fin4P arg10 arg14 harg14 arg19 arg20 lam) Q) := by
  unfold fin4P
  rw [← glue_eq _ x14]
  simp only [wp_bind]
  iintro ⟨H10, Ho, Hl, Ha⟩ Hk
  iapply (fin_wp c arg10 arg14 arg19 arg20 E) $$ [H10 Ho Hl Ha]
  · isplitl [H10]
    · iexact H10
    isplitl [Ho]
    · iexact Ho
    isplitl [Hl]
    · iexact Hl
    iexact Ha
  iintro ⟨H10, Ho, Hl, Ha⟩
  iapply (fin_wp c arg10 arg14 arg19 arg20 E) $$ [H10 Ho Hl Ha]
  · isplitl [H10]
    · iexact H10
    isplitl [Ho]
    · iexact Ho
    isplitl [Hl]
    · iexact Hl
    iexact Ha
  iintro ⟨H10, Ho, Hl, Ha⟩
  iapply (fin_wp c arg10 arg14 arg19 arg20 E) $$ [H10 Ho Hl Ha]
  · isplitl [H10]
    · iexact H10
    isplitl [Ho]
    · iexact Ho
    isplitl [Hl]
    · iexact Hl
    iexact Ha
  iintro ⟨H10, Ho, Hl, Ha⟩
  iapply (fin_wp c arg10 arg14 arg19 arg20 E) $$ [H10 Ho Hl Ha]
  · isplitl [H10]
    · iexact H10
    isplitl [Ho]
    · iexact Ho
    isplitl [Hl]
    · iexact Hl
    iexact Ha
  iintro ⟨H10, Ho, Hl, Ha⟩
  iapply Hk
  isplitl [H10]; · iexact H10
  isplitl [Ho]; · iexact Ho
  isplitl [Hl]; · iexact Hl
  iexact Ha

theorem finP_wp (E : Set ℕ) (Q : PUnit → sProp 𝕄) :
    iprop(held c arg3 arg4 arg5 arg18 arg19 arg20 arg21 x3 x4 x5 true (tailZ i x3 x4 x5) ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare x14)
      ⊢ iprop((iprop(held c arg3 arg4 arg5 arg18 arg19 arg20 arg21 x3 x4 x5 true (endZ i x3 x4 x5) ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare (outF i x3 x4 x5 x6 x7 x8 x9 x10)) -∗ Q ⟨⟩)
        -∗ wp frame (wpE (defs₀ (F := F)) Variants.none c none) E (finP i arg5 arg6 arg7 arg8 arg9 arg10 arg14 harg14 arg18 arg19 arg20 arg21) Q) := by
  unfold finP
  simp only [Prog.bind_ret, Prog.bind_op, Prog.bind_lift, bind_assoc, pure_bind, wp_bind]
  iintro ⟨H, H6, H7, H8, H9, H10, Ho⟩ Hk
  iapply (ab_wp c arg3 arg4 arg5 arg18 arg19 arg20 arg21 x3 x4 x5 E true msk (by decide : 7 < 8) ⟨k0_off8 i (BitVec.ofNat 32 (3 : Fin 4).val), k0_off8_inb i 3⟩ (tailZ i x3 x4 x5)) $$ H
  iintro H
  iapply (load_whole Variants.none (c : Thread nD τ) none E) $$ H6
  iintro H6
  iapply (load_whole Variants.none (c : Thread nD τ) none E) $$ H7
  iintro H7
  iapply (load_whole Variants.none (c : Thread nD τ) none E) $$ H8
  iintro H8
  iapply (load_whole Variants.none (c : Thread nD τ) none E) $$ H9
  iintro H9
  rw [rd_whole inb_S1x128_S1x128_0_0 x6, rd_whole inb_S1x128_S1x128_0_0 x7, rd_whole inb_S1x128_S1x128_0_0 x8, rd_whole inb_S1x128_S1x128_0_0 x9]
  unfold held
  icases H with ⟨H3, H4, H5, Hm, Hl, Ha, Hs⟩
  iapply (fin4_wp c arg10 arg14 harg14 arg19 arg20 x10 x14 E (k0_pay530 x6 x7 x8 x9) (endZ i x3 x4 x5)) $$ [H10 Ho Hl Ha]
  · isplitl [H10]
    · iexact H10
    isplitl [Ho]
    · iexact Ho
    isplitl [Hl]
    · iexact Hl
    iexact Ha
  iintro ⟨H10, Ho, Hl, Ha⟩
  iapply Hk
  isplitl [H3 H4 H5 Hm Hl Ha Hs]
  · isplitl [H3]; · iexact H3
    isplitl [H4]; · iexact H4
    isplitl [H5]; · iexact H5
    isplitl [Hm]; · iexact Hm
    isplitl [Hl]; · iexact Hl
    isplitl [Ha]; · iexact Ha
    iexact Hs
  isplitl [H6]; · iexact H6
  isplitl [H7]; · iexact H7
  isplitl [H8]; · iexact H8
  isplitl [H9]; · iexact H9
  isplitl [H10]; · iexact H10
  iexact Ho

/-- One point's body, from its inputs' blocks and any scratch. -/
theorem point_wp (E : Set ℕ) (Q : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))
      ⊢ iprop((iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (outF i x3 x4 x5 x6 x7 x8 x9 x10) ∗ owns (c : Thread nD τ) arg15 fullShare (if k0_cond1 i = 1#1 then k0_pay318 x11 else x15) ∗ owns (c : Thread nD τ) arg16 fullShare (if k0_cond2 i = 1#1 then k0_pay319 x12 else x16) ∗ owns (c : Thread nD τ) arg17 fullShare (if k0_cond3 i = 1#1 then k0_pay320 x13 else x17) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ Q ⟨⟩)
        -∗ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  rw [cc0_eq]
  simp only [wp_bind]
  iintro ⟨H3, H4, H5, H6, H7, H8, H9, H10, H11, H12, H13, H14, H15, H16, H17, S0, S1, S2, S3⟩ Hk
  iapply (castP_wp c i) $$ [H11 H12 H13 H15 H16 H17]
  · isplitl [H11]; · iexact H11
    isplitl [H12]; · iexact H12
    isplitl [H13]; · iexact H13
    isplitl [H15]; · iexact H15
    isplitl [H16]; · iexact H16
    iexact H17
  iintro ⟨H11, H12, H13, H15, H16, H17⟩
  iapply (head_wp c) $$ [H3 H4 H5 S0 S1 S2 S3]
  · isplitl [H3]; · iexact H3
    isplitl [H4]; · iexact H4
    isplitl [H5]; · iexact H5
    isplitl [S0]; · iexact S0
    isplitl [S1]; · iexact S1
    isplitl [S2]; · iexact S2
    iexact S3
  iintro %v H
  iapply (loop_wp c i) $$ H
  iintro H
  iapply (loop2_wp c i)
  iapply (run_wp c arg3 arg4 arg5 arg18 arg19 arg20 arg21 x3 x4 x5 E (tls i) false true _ _ (alt_tls i)) $$ H
  iintro H
  iapply (finP_wp c i) $$ [H H6 H7 H8 H9 H10 H14]
  · isplitl [H]; · iexact H
    isplitl [H6]; · iexact H6
    isplitl [H7]; · iexact H7
    isplitl [H8]; · iexact H8
    isplitl [H9]; · iexact H9
    isplitl [H10]; · iexact H10
    iexact H14
  unfold held
  iintro ⟨⟨H3, H4, H5, S0, S1, S2, ⟨%X, %hX, S3⟩⟩, H6, H7, H8, H9, H10, H14⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexists _; iexact S0
  isplitl [S1]; · iexists _; iexact S1
  isplitl [S2]; · iexists _; iexact S2
  iexists _; iexact S3

end

end Cert.KernelIdeal.Attn
-- ==== Proof.Attn.Run.lean ====
module

public import proofs.«01_k».proof.Proof.Attn.Triple
public import Idealize.ShloMosaic.Lib.Pipeline.TableIdle
public import Idealize.ShloMosaic.Lib.Claim

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Whole

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The frame: what each window's buffer holds after each point. -/

/-- Point `t` moved into the eleven points from `lo`. -/
def cl (lo : ℕ) (h : lo + 10 < 64) (t : Fin cfg0.N) : Fin cfg0.N :=
  ⟨max lo (min t.val (lo + 10)), lt_of_lt_of_eq (by omega : max lo (min t.val (lo + 10)) < 64) N_0.symm⟩

theorem cl_of (lo : ℕ) (h : lo + 10 < 64) (t : Fin cfg0.N) (ht : lo ≤ t.val ∧ t.val ≤ lo + 10) : cl lo h t = t :=
  Fin.ext (a := cl lo h t) (b := t) (by show max lo (min t.val (lo + 10)) = t.val; omega)

theorem cl_eq (lo : ℕ) (h : lo + 10 < 64) (t : Fin cfg0.N) (h0 : t.val ≠ 0) (ht : ¬(lo ≤ t.val ∧ t.val ≤ lo + 10)) :
    cl lo h t = cl lo h ⟨t.val - 1, by omega⟩ :=
  Fin.ext (a := cl lo h t) (b := cl lo h ⟨t.val - 1, by omega⟩)
    (by show max lo (min t.val (lo + 10)) = max lo (min (t.val - 1) (lo + 10)); omega)

/-- The arrays as found; after each point, each input at its block, the result at the point's own, a cast at its last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outF (grid0.coords t) (iblk m c 0 t) (iblk m c 1 t) (iblk m c 2 t) (iblk m c 3 t) (iblk m c 4 t) (iblk m c 5 t) (iblk m c 6 t) (iblk m c 7 t)
    | ⟨12, _⟩ => k0_pay318 (iblk m c 8 (cl 0 (by decide) t))
    | ⟨13, _⟩ => k0_pay319 (iblk m c 9 (cl 11 (by decide) t))
    | ⟨14, _⟩ => k0_pay320 (iblk m c 10 (cl 22 (by decide) t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outF (grid0.coords t) (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

abbrev ms0 (t : Fin cfg0.N) : Memref sig .tc .vmem S1x1x2048x256 .bf16 := win0_0.stage (cfg0.slots t 0)
abbrev ms1 (t : Fin cfg0.N) : Memref sig .tc .vmem S1x1x4096x256 .bf16 := win0_1.stage (cfg0.slots t 1)
abbrev ms2 (t : Fin cfg0.N) : Memref sig .tc .vmem S256x4096 .bf16 := win0_2.stage (cfg0.slots t 2)
abbrev ms3 (t : Fin cfg0.N) : Memref sig .tc .vmem S1x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S256x1 .f32 := win0_7.stage (cfg0.slots t 7)
abbrev ms8 (t : Fin cfg0.N) : Memref sig .tc .vmem S1x2048x512 .f32 := win0_8.stage (cfg0.slots t 8)
abbrev ms9 (t : Fin cfg0.N) : Memref sig .tc .vmem S1x2048x512 .f32 := win0_9.stage (cfg0.slots t 9)
abbrev ms10 (t : Fin cfg0.N) : Memref sig .tc .vmem S1x512x2048 .f32 := win0_10.stage (cfg0.slots t 10)
abbrev ms11 (t : Fin cfg0.N) : Memref sig .tc .vmem S1x2048x256 .bf16 := win0_11.stage (cfg0.slots t 11)
abbrev ms12 (t : Fin cfg0.N) : Memref sig .tc .vmem S2048x512 .bf16 := win0_12.stage (cfg0.slots t 12)
abbrev ms13 (t : Fin cfg0.N) : Memref sig .tc .vmem S2048x512 .bf16 := win0_13.stage (cfg0.slots t 13)
abbrev ms14 (t : Fin cfg0.N) : Memref sig .tc .vmem S512x2048 .bf16 := win0_14.stage (cfg0.slots t 14)

/-- What the body leaves of a window it stores into only at the points with `p`: its value there, elsewhere what was. -/
theorem leaves_of (c : Dev nD) (w : Fin cfg0.W) (hw : (cfg0.win w).isOut = true) (hclip : ∀ (i : cfg0.grid.Coords) a, (cfg0.win w).clip i a = none)
    (t : Fin cfg0.N) (p : Prop) [Decidable p] (hp : cfg0.idle w (grid0.coords t) = !decide p)
    (v : (cfg0.win w).block.Idx → Elt F (cfg0.win w).elt) (hv : p → (dats m 0 c).after w t = v)
    (hcarry : ∀ (t : Fin cfg0.N) (_ : t.val ≠ 0), cfg0.idle w (grid0.coords t) = true → cfg0.fresh w t.val = false →
      (dats m 0 c).after w t = (dats m 0 c).after w ⟨t.val - 1, by omega⟩)
    (hend : cfg0.idle w (grid0.coords t) = true → (cfg0.win w).flush t = true → cfg0.fresh w t.val = false) (d) :
    owns (c : Thread nD τ) ((cfg0.win w).stage (cfg0.slots t w)) fullShare (if p then v else (dats m 0 c).before w t d)
      ⊢ (dats m 0 c).leavesExact w t := by
  by_cases h : p
  · rw [if_pos h, ← hv h]
    unfold Dat.leavesExact
    rw [hp, show (!decide p) = false from by simp [h]]
  · have hi : cfg0.idle w (grid0.coords t) = true := by rw [hp]; simp [h]
    rw [if_neg h]
    by_cases hf : (cfg0.win w).flush t = true
    · have hn := hend hi hf
      have h0 : t.val ≠ 0 := fun e => by
        rw [e, Pipeline.Cfg.fresh_zero] at hn
        exact absurd hn (by decide)
      rw [Dat.before_out_traj (dats m 0 c) w hw hclip hcarry t.val t rfl d, if_neg (by rw [hn]; decide), ← hcarry t h0 hi hn]
      unfold Dat.leavesExact
      rw [hi, hf]
    · rw [Dat.leavesExact_idle _ w t hi (by simpa using hf)]
      iintro H
      iexists d
      iexact H

theorem after_12 (c : Dev nD) (t : Fin cfg0.N) : (dats m 0 c).after 12 t = k0_pay318 (iblk m c 8 (cl 0 (by decide) t)) := by dsimp only [dats]

/-- Where cast 0 runs. -/
theorem on_12 : ∀ t : Fin cfg0.N, k0_cond1 (grid0.coords t) = 1#1 ↔ (0 ≤ t.val ∧ t.val ≤ 10) :=
  (by decide +kernel : ∀ t : Fin grid0.N, k0_cond1 (grid0.coords t) = 1#1 ↔ (0 ≤ t.val ∧ t.val ≤ 10))

theorem idle_12 (t : Fin cfg0.N) : cfg0.idle 12 (grid0.coords t) = !(k0_cond1 (grid0.coords t) == 1#1) := rfl

def tab_12 : ℕ → Bool := fun n => decide (n ≤ 10 ∨ 64 ≤ n)

theorem tab_12_step : ∀ t : Fin cfg0.N,
    tab_12 (t.val + 1) = ((cfg0.win 12).flush t || (cfg0.idle 12 (cfg0.grid.coords t) && tab_12 t.val)) := by decide +kernel

theorem fresh_12 (t : Fin cfg0.N) : cfg0.fresh 12 t.val = tab_12 t.val :=
  Pipeline.Cfg.fresh_tab cfg0 12 tab_12 rfl tab_12_step t.val (Nat.le_of_lt t.isLt)

theorem end_12 : ∀ t : Fin cfg0.N, cfg0.idle 12 (grid0.coords t) = true → (cfg0.win 12).flush t = true → cfg0.fresh 12 t.val = false := by
  intro t; rw [fresh_12 t]; revert t; decide +kernel

theorem carry_12 (c : Dev nD) (t : Fin cfg0.N) (h0 : t.val ≠ 0) (hi : cfg0.idle 12 (grid0.coords t) = true) :
    (dats m 0 c).after 12 t = (dats m 0 c).after 12 ⟨t.val - 1, by omega⟩ := by
  rw [after_12, after_12, cl_eq 0 (by decide) t h0]
  rw [idle_12] at hi
  intro h
  rw [(on_12 t).mpr h] at hi
  exact absurd hi (by decide)

theorem leaves_12 (c : Dev nD) (t : Fin cfg0.N) (d) :
    owns (c : Thread nD τ) (ms12 t) fullShare (if k0_cond1 (grid0.coords t) = 1#1 then k0_pay318 (iblk m c 8 t) else (dats m 0 c).before 12 t d)
      ⊢ (dats m 0 c).leavesExact 12 t :=
  leaves_of m c 12 rfl (fun _ _ => rfl) t _ rfl _ (fun h => by rw [after_12, cl_of 0 (by decide) t ((on_12 t).mp h)])
    (fun t h0 hi _ => carry_12 m c t h0 hi) (end_12 t) d

theorem after_13 (c : Dev nD) (t : Fin cfg0.N) : (dats m 0 c).after 13 t = k0_pay319 (iblk m c 9 (cl 11 (by decide) t)) := by dsimp only [dats]

/-- Where cast 1 runs. -/
theorem on_13 : ∀ t : Fin cfg0.N, k0_cond2 (grid0.coords t) = 1#1 ↔ (11 ≤ t.val ∧ t.val ≤ 21) :=
  (by decide +kernel : ∀ t : Fin grid0.N, k0_cond2 (grid0.coords t) = 1#1 ↔ (11 ≤ t.val ∧ t.val ≤ 21))

theorem idle_13 (t : Fin cfg0.N) : cfg0.idle 13 (grid0.coords t) = !(k0_cond2 (grid0.coords t) == 1#1) := rfl

def tab_13 : ℕ → Bool := fun n => decide (n ≤ 21 ∨ 64 ≤ n)

theorem tab_13_step : ∀ t : Fin cfg0.N,
    tab_13 (t.val + 1) = ((cfg0.win 13).flush t || (cfg0.idle 13 (cfg0.grid.coords t) && tab_13 t.val)) := by decide +kernel

theorem fresh_13 (t : Fin cfg0.N) : cfg0.fresh 13 t.val = tab_13 t.val :=
  Pipeline.Cfg.fresh_tab cfg0 13 tab_13 rfl tab_13_step t.val (Nat.le_of_lt t.isLt)

theorem end_13 : ∀ t : Fin cfg0.N, cfg0.idle 13 (grid0.coords t) = true → (cfg0.win 13).flush t = true → cfg0.fresh 13 t.val = false := by
  intro t; rw [fresh_13 t]; revert t; decide +kernel

theorem carry_13 (c : Dev nD) (t : Fin cfg0.N) (h0 : t.val ≠ 0) (hi : cfg0.idle 13 (grid0.coords t) = true) :
    (dats m 0 c).after 13 t = (dats m 0 c).after 13 ⟨t.val - 1, by omega⟩ := by
  rw [after_13, after_13, cl_eq 11 (by decide) t h0]
  rw [idle_13] at hi
  intro h
  rw [(on_13 t).mpr h] at hi
  exact absurd hi (by decide)

theorem leaves_13 (c : Dev nD) (t : Fin cfg0.N) (d) :
    owns (c : Thread nD τ) (ms13 t) fullShare (if k0_cond2 (grid0.coords t) = 1#1 then k0_pay319 (iblk m c 9 t) else (dats m 0 c).before 13 t d)
      ⊢ (dats m 0 c).leavesExact 13 t :=
  leaves_of m c 13 rfl (fun _ _ => rfl) t _ rfl _ (fun h => by rw [after_13, cl_of 11 (by decide) t ((on_13 t).mp h)])
    (fun t h0 hi _ => carry_13 m c t h0 hi) (end_13 t) d

theorem after_14 (c : Dev nD) (t : Fin cfg0.N) : (dats m 0 c).after 14 t = k0_pay320 (iblk m c 10 (cl 22 (by decide) t)) := by dsimp only [dats]

/-- Where cast 2 runs. -/
theorem on_14 : ∀ t : Fin cfg0.N, k0_cond3 (grid0.coords t) = 1#1 ↔ (22 ≤ t.val ∧ t.val ≤ 32) :=
  (by decide +kernel : ∀ t : Fin grid0.N, k0_cond3 (grid0.coords t) = 1#1 ↔ (22 ≤ t.val ∧ t.val ≤ 32))

theorem idle_14 (t : Fin cfg0.N) : cfg0.idle 14 (grid0.coords t) = !(k0_cond3 (grid0.coords t) == 1#1) := rfl

def tab_14 : ℕ → Bool := fun n => decide (n ≤ 32 ∨ 64 ≤ n)

theorem tab_14_step : ∀ t : Fin cfg0.N,
    tab_14 (t.val + 1) = ((cfg0.win 14).flush t || (cfg0.idle 14 (cfg0.grid.coords t) && tab_14 t.val)) := by decide +kernel

theorem fresh_14 (t : Fin cfg0.N) : cfg0.fresh 14 t.val = tab_14 t.val :=
  Pipeline.Cfg.fresh_tab cfg0 14 tab_14 rfl tab_14_step t.val (Nat.le_of_lt t.isLt)

theorem end_14 : ∀ t : Fin cfg0.N, cfg0.idle 14 (grid0.coords t) = true → (cfg0.win 14).flush t = true → cfg0.fresh 14 t.val = false := by
  intro t; rw [fresh_14 t]; revert t; decide +kernel

theorem carry_14 (c : Dev nD) (t : Fin cfg0.N) (h0 : t.val ≠ 0) (hi : cfg0.idle 14 (grid0.coords t) = true) :
    (dats m 0 c).after 14 t = (dats m 0 c).after 14 ⟨t.val - 1, by omega⟩ := by
  rw [after_14, after_14, cl_eq 22 (by decide) t h0]
  rw [idle_14] at hi
  intro h
  rw [(on_14 t).mpr h] at hi
  exact absurd hi (by decide)

theorem leaves_14 (c : Dev nD) (t : Fin cfg0.N) (d) :
    owns (c : Thread nD τ) (ms14 t) fullShare (if k0_cond3 (grid0.coords t) = 1#1 then k0_pay320 (iblk m c 10 t) else (dats m 0 c).before 14 t d)
      ⊢ (dats m 0 c).leavesExact 14 t :=
  leaves_of m c 14 rfl (fun _ _ => rfl) t _ rfl _ (fun h => by rw [after_14, cl_of 22 (by decide) t ((on_14 t).mp h)])
    (fun t h0 hi _ => carry_14 m c t h0 hi) (end_14 t) d

/-- The invariant with the scratch as memrefs at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [show (dats m 0 c).leavesExact 6 t = owns (c : Thread nD τ) (ms6 t) fullShare ((dats m 0 c).after 6 t) from by
    unfold Dat.leavesExact; rw [show cfg0.idle 6 (grid0.coords t) = false from rfl], after_6]
  rw [show (dats m 0 c).leavesExact 7 t = owns (c : Thread nD τ) (ms7 t) fullShare ((dats m 0 c).after 7 t) from by
    unfold Dat.leavesExact; rw [show cfg0.idle 7 (grid0.coords t) = false from rfl], after_7]
  rw [show (dats m 0 c).leavesExact 8 t = owns (c : Thread nD τ) (ms8 t) fullShare ((dats m 0 c).after 8 t) from by
    unfold Dat.leavesExact; rw [show cfg0.idle 8 (grid0.coords t) = false from rfl], after_8]
  rw [show (dats m 0 c).leavesExact 9 t = owns (c : Thread nD τ) (ms9 t) fullShare ((dats m 0 c).after 9 t) from by
    unfold Dat.leavesExact; rw [show cfg0.idle 9 (grid0.coords t) = false from rfl], after_9]
  rw [show (dats m 0 c).leavesExact 10 t = owns (c : Thread nD τ) (ms10 t) fullShare ((dats m 0 c).after 10 t) from by
    unfold Dat.leavesExact; rw [show cfg0.idle 10 (grid0.coords t) = false from rfl], after_10]
  rw [show (dats m 0 c).leavesExact 11 t = owns (c : Thread nD τ) (ms11 t) fullShare ((dats m 0 c).after 11 t) from by
    unfold Dat.leavesExact; rw [show cfg0.idle 11 (grid0.coords t) = false from rfl], after_11]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (point_wp c) $$ [H0 H1 H2 H3 H4 H5 H6 H7 H8 H9 H10 H11 H12 H13 H14 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    iexact S3
  iintro ⟨H0, H1, H2, H3, H4, H5, H6, H7, H8, H9, H10, H11, H12, H13, H14, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (leaves_12 m c t d12); iexact H12
  isplitl [H13]; · iapply (leaves_13 m c t d13); iexact H13
  iapply (leaves_14 m c t d14); iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
/-- The run: every array ends at what the points leave, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Attn.Pay.lean ====
module

public import proofs.«01_k».proof.Proof.Attn.Point
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.KernelIdeal.Attn

open Cert.KernelIdeal Cert.KernelIdeal.Gen Cert.Whole

/-! What the steps' operations compute, element by element over the extended reals. -/

theorem mask_bot : Named.named (F := Ideal) κ "mask" (φ := .f32) 0xF149F2CA#32 = (⊥ : EReal) :=
  IdealRules.named_const.ideal_named_scalar _ _ _ _ rfl

theorem neg_inf : Ideal.ofBits .f32 0xFF800000#32 = (⊥ : EReal) := by simp [Ideal.ofBits, Ideal.ieee]

theorem cmp_le (a b : Fin 512) : IntOp.cmpi CmpIPredicate.sle (BitVec.ofNat 32 a.val) (BitVec.ofNat 32 b.val) = if a.val ≤ b.val then 1#1 else 0#1 := by
  have h : BitVec.sle (BitVec.ofNat 32 a.val) (BitVec.ofNat 32 b.val) = decide (a.val ≤ b.val) := by
    rw [BitVec.sle_eq_decide, BitVec.toInt_ofNat', BitVec.toInt_ofNat']
    have ha : (a.val : ℤ).bmod (2 ^ 32) = a.val := Int.bmod_eq_of_le (by omega) (by have := a.isLt; omega)
    have hb : (b.val : ℤ).bmod (2 ^ 32) = b.val := Int.bmod_eq_of_le (by omega) (by have := b.isLt; omega)
    rw [ha, hb]
    simp
  show BitVec.ofBool (BitVec.sle (BitVec.ofNat 32 a.val) (BitVec.ofNat 32 b.val)) = _
  rw [h]
  by_cases hc : a.val ≤ b.val <;> simp [hc]

/-- Scores: a key row against a query row. -/
theorem pay2_at (k q : FVec Ideal S1x1x512x128 .bf16) (a b : Fin 512) :
    (k0_pay2 (F := Ideal) k q) (ix3 0 a b) = ∑ d : Fin 128, k (ix4 0 0 a d) * q (ix4 0 0 b d) := by
  unfold k0_pay2
  pointwise

theorem pay3_at (s : FVec Ideal S1x512x512 .f32) (a b : Fin 512) : (k0_pay3 (F := Ideal) s) (ix2 a b) = s (ix3 0 a b) := by
  unfold k0_pay3
  pointwise

theorem msk_at (s : FVec Ideal S512x512 .f32) (a b : Fin 512) : (msk (F := Ideal) s) (ix2 a b) = if a.val ≤ b.val then s (ix2 a b) else ⊥ := by
  unfold msk k0_pay330
  pointwise
  have e : Named.named (F := Ideal) κ "mask" (φ := .f32) 0xF149F2CA#32 = (⊥ : EReal) := mask_bot
  rw [e]
  have h : ∀ a b : Fin 512, IntOp.cmpi CmpIPredicate.sle (BitVec.ofNat 32 a.val) (BitVec.ofNat 32 b.val) = if a.val ≤ b.val then 1#1 else 0#1 := cmp_le
  rw [h]
  by_cases hc : a.val ≤ b.val
  · rw [if_pos hc, if_pos hc]; rfl
  · rw [if_neg hc, if_neg hc]; rfl

theorem pay339_at (p : FVec Ideal S512x512 .f32) (m : FVec Ideal S1x1x512 .f32) (b : Fin 512) :
    (k0_pay339 (F := Ideal) p m) (ix3 0 0 b) = max (m (ix3 0 0 b)) (Finset.univ.fold max ⊥ fun a => p (ix2 a b)) := by
  unfold k0_pay339 k0_pay334 k0_pay333
  pointwise
  rw [neg_inf]

theorem pay337_at (p : FVec Ideal S512x512 .f32) (m l : FVec Ideal S1x1x512 .f32) (b : Fin 512) (M : EReal)
    (hM : (k0_pay339 (F := Ideal) p m) (ix3 0 0 b) = M) :
    (k0_pay337 (F := Ideal) p m l) (ix3 0 0 b) = Ideal.exp2 (m (ix3 0 0 b) - M) * l (ix3 0 0 b) + ∑ a : Fin 512, Ideal.exp2 (p (ix2 a b) - M) := by
  subst hM
  unfold k0_pay337 k0_pay335 k0_pay336 k0_pay339 k0_pay334 k0_pay333
  pointwise
  rfl

theorem pay338_at (p : FVec Ideal S512x512 .f32) (m : FVec Ideal S1x1x512 .f32) (v : FVec Ideal S256x512 .bf16) (a : FVec Ideal S1x256x512 .f32) (d : Fin 256) (b : Fin 512) (M : EReal)
    (hM : (k0_pay339 (F := Ideal) p m) (ix3 0 0 b) = M) :
    (k0_pay338 (F := Ideal) p m v a) (ix3 0 d b) = Ideal.exp2 (m (ix3 0 0 b) - M) * a (ix3 0 d b) + ∑ x : Fin 512, v (ix2 d x) * Ideal.exp2 (p (ix2 x b) - M) := by
  subst hM
  unfold k0_pay338 k0_pay335 k0_pay336 k0_pay339 k0_pay334 k0_pay333
  pointwise
  rfl

theorem pay321_at (x : S8x1x512.Idx) : (k0_pay321 (F := Ideal)) x = (⊥ : EReal) := by
  unfold k0_pay321
  pointwise
  exact mask_bot
theorem pay322_at (x : S8x1x512.Idx) : (k0_pay322 (F := Ideal)) x = (0 : EReal) := by
  unfold k0_pay322
  pointwise
theorem pay324_at (x : S8x256x512.Idx) : (k0_pay324 (F := Ideal) k0_pay323) x = (0 : EReal) := by
  unfold k0_pay324 k0_pay323
  pointwise

/-- The factor of the second map. -/
theorem pay530_at (a b c d : FVec Ideal S1x128 .f32) :
    (k0_pay530 (F := Ideal) a b c d) (ix2 0 0) = Ideal.exp (∑ k : Fin 128, a (ix2 0 k) * b (ix2 0 k)) - Ideal.exp (∑ k : Fin 128, c (ix2 0 k) * d (ix2 0 k)) + Ideal.ofBits .f32 0x3EB60549#32 := by
  unfold k0_pay530
  pointwise

theorem pay535_at (lam : FVec Ideal S1x1 .f32) (a a' : FVec Ideal S1x256x512 .f32) (l l' : FVec Ideal S1x1x512 .f32) (d : Fin 256) (b : Fin 512) :
    (k0_pay535 (F := Ideal) lam a l a' l') (ix2 d b) = Ideal.div (a (ix3 0 d b)) (l (ix3 0 0 b)) - lam (ix2 0 0) * Ideal.div (a' (ix3 0 d b)) (l' (ix3 0 0 b)) := by
  unfold k0_pay535
  pointwise

theorem pay536_at (x : FVec Ideal S256x512 .f32) (g : FVec Ideal S256x1 .f32) (b : Fin 512) (d : Fin 256) :
    (k0_pay536 (F := Ideal) x g) (ix3 0 b d) = x (ix2 d b) * Ideal.rsqrt (Ideal.div (∑ e : Fin 256, x (ix2 e b) * x (ix2 e b)) (Ideal.ofBits .f32 0x43800000#32) + Ideal.ofBits .f32 0x358637BD#32) * (g (ix2 d 0) * Ideal.ofBits .f32 0x3F24FD5C#32) := by
  unfold k0_pay536
  pointwise

end Cert.KernelIdeal.Attn
-- ==== Proof.Attn.Online.lean ====
module

public import proofs.«01_k».proof.Proof.Attn.Pay

@[expose] public section

noncomputable section

open Idealize.ShloMosaic

namespace Cert.Online

/-! One column of the online softmax over the extended reals: the running maximum, sum and weighted
    value stand for the plain sums of powers of two, whatever the maximum is. -/

/-- `2 ^ x`, with `2 ^ -∞ = 0`. -/
def pw (x : EReal) : ℝ := if x = ⊥ then 0 else (2 : ℝ) ^ x.toReal

theorem pw_coe (r : ℝ) : pw (r : EReal) = (2 : ℝ) ^ r := by
  unfold pw
  rw [if_neg (EReal.coe_ne_bot r), EReal.toReal_coe]

theorem pw_bot : pw ⊥ = 0 := if_pos rfl

theorem pw_nonneg (x : EReal) : 0 ≤ pw x := by
  unfold pw
  split
  · exact le_refl _
  · exact Real.rpow_nonneg (by norm_num) _

theorem exp2_sub (x : EReal) (hx : x ≠ ⊤) (μ : ℝ) : Ideal.exp2 (x - μ) = ((pw x * (2 : ℝ) ^ (-μ) : ℝ) : EReal) := by
  induction x using EReal.rec with
  | bot => rw [pw_bot, zero_mul, EReal.bot_sub]; rfl
  | top => exact absurd rfl hx
  | coe r =>
    rw [pw_coe, ← Real.rpow_add (by norm_num), ← EReal.coe_sub, Ideal.exp2_coe, ← sub_eq_add_neg]
    rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals and minus infinities, one of them real, is real. -/
theorem fold_real {n : ℕ} (p : Fin n → EReal) (hp : ∀ a, p a ≠ ⊤) (h : ∃ a, p a ≠ ⊥) : ∃ r : ℝ, Finset.univ.fold max ⊥ p = r := by
  have e : Finset.univ.fold max ⊥ p = Finset.univ.sup p := rfl
  rw [e]
  obtain ⟨a, ha⟩ := h
  have h1 : Finset.univ.sup p ≠ ⊥ := fun hb => ha (le_bot_iff.mp (hb ▸ Finset.le_sup (Finset.mem_univ a)))
  have h2 : Finset.univ.sup p ≠ ⊤ := ((Finset.sup_lt_iff (bot_lt_top)).mpr fun b _ => lt_top_iff_ne_top.mpr (hp b)).ne
  exact ⟨_, (EReal.coe_toReal h2 h1).symm⟩

/-- The quotient of a column's sums: minus infinity where a score is plus infinity, or every score minus infinity. -/
def quo (W A : ℝ) (T : Prop) : EReal := open Classical in if T ∨ W = 0 then ⊥ else ((A / W : ℝ) : EReal)

/-- The column stands for the sums `W` and `A`, or (`T`) has met a score of plus infinity and lost them. -/
def Inv (m l a : EReal) (W A : ℝ) (T : Prop) : Prop :=
  (T ∧ m = ⊤ ∧ l = 0 ∧ a = 0) ∨
    (¬T ∧ ((m = ⊥ ∧ l = 0 ∧ a = 0 ∧ W = 0 ∧ A = 0) ∨
      ∃ μ : ℝ, m = μ ∧ l = ((W * (2 : ℝ) ^ (-μ) : ℝ) : EReal) ∧ a = ((A * (2 : ℝ) ^ (-μ) : ℝ) : EReal) ∧ 0 < W))

theorem pw_pos (x : EReal) (hx : x ≠ ⊥) : 0 < pw x := by
  unfold pw
  rw [if_neg hx]
  exact Real.rpow_pos_of_pos (by norm_num) _

theorem sub_top (x : EReal) : x - ⊤ = ⊥ := by
  rw [sub_eq_add_neg, EReal.neg_top, EReal.add_bot]

/-- One block of scores `p` and values `v` taken in. -/
theorem Inv.step {n : ℕ} {m l a : EReal} {W A : ℝ} {T : Prop} (h : Inv m l a W A T) (p : Fin n → EReal) (v : Fin n → ℝ)
    (M : EReal) (hM : M = max m (Finset.univ.fold max ⊥ p)) :
    Inv M (Ideal.exp2 (m - M) * l + ∑ x, Ideal.exp2 (p x - M)) (Ideal.exp2 (m - M) * a + ∑ x, (v x : EReal) * Ideal.exp2 (p x - M))
      (W + ∑ x, pw (p x)) (A + ∑ x, v x * pw (p x)) (T ∨ ∃ x, p x = ⊤) := by
  have hf : Finset.univ.fold max ⊥ p = Finset.univ.sup p := rfl
  by_cases hT : T ∨ ∃ x, p x = ⊤
  · have hM1 : M = ⊤ := by
      rcases hT with hT | ⟨x, hx⟩
      · rcases h with ⟨_, hm, _⟩ | ⟨hn, _⟩
        · rw [hM, hm]; exact max_eq_left le_top
        · exact absurd hT hn
      · have h2 : Finset.univ.sup p = ⊤ := top_le_iff.mp (hx ▸ Finset.le_sup (f := p) (Finset.mem_univ x))
        rw [hM, hf, h2]; exact max_eq_right le_top
    subst hM1
    have e0 : Ideal.exp2 ⊥ = 0 := rfl
    refine Or.inl ⟨hT, rfl, ?_, ?_⟩
    · simp only [sub_top, e0, zero_mul, Finset.sum_const_zero, add_zero]
    · simp only [sub_top, e0, zero_mul, mul_zero, Finset.sum_const_zero, add_zero]
  · have hn : ¬T := fun t => hT (Or.inl t)
    have hp' : ∀ x, p x ≠ ⊤ := fun x e => hT (Or.inr ⟨x, e⟩)
    refine Or.inr ⟨hT, ?_⟩
    rcases h with ⟨t, _⟩ | ⟨_, h⟩
    · exact absurd t hn
    have hm : m ≠ ⊤ := by
      rcases h with ⟨h, _⟩ | ⟨μ, h, _⟩
      · rw [h]; exact bot_ne_top
      · rw [h]; exact EReal.coe_ne_top μ
    have hs0 : 0 ≤ ∑ x, pw (p x) := Finset.sum_nonneg fun x _ => pw_nonneg _
    by_cases hz : M = ⊥
    · left
      have h1 : m = ⊥ := le_bot_iff.mp (hz ▸ hM ▸ le_max_left _ _)
      have h2 : Finset.univ.sup p = ⊥ := le_bot_iff.mp (hz ▸ hM ▸ le_max_right _ _)
      have h3 : ∀ x, p x = ⊥ := fun x => le_bot_iff.mp (h2 ▸ Finset.le_sup (f := p) (Finset.mem_univ x))
      have e0 : Ideal.exp2 ⊥ = 0 := rfl
      rcases h with ⟨h, hl, ha, hW, hA⟩ | ⟨μ, h, _⟩
      · subst hz
        refine ⟨rfl, ?_, ?_, ?_, ?_⟩
        · simp only [h3, EReal.bot_sub, e0, h1, zero_mul, Finset.sum_const_zero, add_zero]
        · simp only [h3, EReal.bot_sub, e0, h1, zero_mul, mul_zero, Finset.sum_const_zero, add_zero]
        · simp only [h3, pw_bot, Finset.sum_const_zero, add_zero, hW]
        · simp only [h3, pw_bot, mul_zero, Finset.sum_const_zero, add_zero, hA]
      · exact absurd (h.symm.trans h1) (EReal.coe_ne_bot μ)
    have hM2 : M ≠ ⊤ := by
      rw [hM, hf]
      refine (max_lt (lt_top_iff_ne_top.mpr hm) ?_).ne
      exact (Finset.sup_lt_iff bot_lt_top).mpr fun b _ => lt_top_iff_ne_top.mpr (hp' b)
    obtain ⟨ν, hν⟩ : ∃ ν : ℝ, M = ν := ⟨M.toReal, (EReal.coe_toReal hM2 hz).symm⟩
    have hpos : 0 < W + ∑ x, pw (p x) := by
      rcases h with ⟨h, _, _, hW, _⟩ | ⟨μ, _, _, _, hW⟩
      · have hx : ∃ x, p x ≠ ⊥ := by
          by_contra hc
          push Not at hc
          refine hz ?_
          rw [hM, hf, h, max_eq_right bot_le]
          exact le_bot_iff.mp (Finset.sup_le fun x _ => (hc x).le)
        obtain ⟨x, hx⟩ := hx
        rw [hW, zero_add]
        exact Finset.sum_pos' (fun x _ => pw_nonneg _) ⟨x, Finset.mem_univ x, pw_pos _ hx⟩
      · exact add_pos_of_pos_of_nonneg hW hs0
    clear hM
    subst hν
    refine Or.inr ⟨ν, rfl, ?_, ?_, hpos⟩
    · have e : (∑ x, Ideal.exp2 (p x - ν)) = (((∑ x, pw (p x)) * (2 : ℝ) ^ (-ν) : ℝ) : EReal) := by
        rw [Finset.sum_mul, coe_sum]
        exact Finset.sum_congr rfl fun x _ => exp2_sub (p x) (hp' x) ν
      rw [e, exp2_sub m hm]
      rcases h with ⟨h, hl, ha, hW, hA⟩ | ⟨μ, h, hl, ha, _⟩
      · rw [hl, hW, mul_zero, zero_add, zero_add]
      · rw [hl, h, pw_coe, ← EReal.coe_mul, ← EReal.coe_add]
        congr 1
        rw [add_mul]
        congr 1
        rw [show (2 : ℝ) ^ μ * 2 ^ (-ν) * (W * 2 ^ (-μ)) = ((2 : ℝ) ^ μ * 2 ^ (-μ)) * (W * 2 ^ (-ν)) by ring, ← Real.rpow_add (by norm_num), add_neg_cancel, Real.rpow_zero, one_mul]
    · have e : (∑ x, (v x : EReal) * Ideal.exp2 (p x - ν)) = (((∑ x, v x * pw (p x)) * (2 : ℝ) ^ (-ν) : ℝ) : EReal) := by
        rw [Finset.sum_mul, coe_sum]
        refine Finset.sum_congr rfl fun x _ => ?_
        rw [exp2_sub (p x) (hp' x) ν, ← EReal.coe_mul, mul_assoc]
      rw [e, exp2_sub m hm]
      rcases h with ⟨h, hl, ha, hW, hA⟩ | ⟨μ, h, hl, ha, _⟩
      · rw [ha, hA, mul_zero, zero_add, zero_add]
      · rw [ha, h, pw_coe, ← EReal.coe_mul, ← EReal.coe_add]
        congr 1
        rw [add_mul]
        congr 1
        rw [show (2 : ℝ) ^ μ * 2 ^ (-ν) * (A * 2 ^ (-μ)) = ((2 : ℝ) ^ μ * 2 ^ (-μ)) * (A * 2 ^ (-ν)) by ring, ← Real.rpow_add (by norm_num), add_neg_cancel, Real.rpow_zero, one_mul]

/-- The quotient at the end. -/
theorem Inv.quot {m l a : EReal} {W A : ℝ} {T : Prop} (h : Inv m l a W A T) : Ideal.div a l = quo W A T := by
  have e0 : Ideal.div 0 0 = ⊥ := by
    unfold Ideal.div
    rw [if_pos rfl, if_neg (lt_irrefl _)]
  unfold quo
  rcases h with ⟨t, _, hl, ha⟩ | ⟨t, ⟨_, hl, ha, hW, _⟩ | ⟨μ, _, hl, ha, hW⟩⟩
  · rw [if_pos (Or.inl t), hl, ha, e0]
  · rw [if_pos (Or.inr hW), hl, ha, e0]
  · have h2 : (2 : ℝ) ^ (-μ) ≠ 0 := (Real.rpow_pos_of_pos (by norm_num) _).ne'
    have hW' : W ≠ 0 := hW.ne'
    rw [if_neg (by rintro (h | h); exacts [t h, hW' h]), hl, ha, Ideal.div_coe (mul_ne_zero hW' h2), ← EReal.coe_mul]
    congr 1
    field_simp

end Cert.Online
-- ==== Proof.Attn.Sweep.lean ====
module

public import proofs.«01_k».proof.Proof.Attn.Online

@[expose] public section

set_option maxRecDepth 16384

noncomputable section

open Idealize.ShloMosaic Idealize.ShloMosaic.TcCoe Idealize.SL.Sem

namespace Cert.KernelIdeal.Attn

open Cert.KernelIdeal Cert.KernelIdeal.Gen Cert.Whole Cert.Online

/-! The sweep over the key blocks: every chain's maxima, sums and weighted values stand for the sums
    over the keys it has taken in. -/

theorem emb18 {n : ℕ} (h : n < 8) (b : Fin 512) : (r18 h).emb (ix3 0 0 b) = ix3 ⟨n, h⟩ 0 b := by
  blk_ext

theorem emb20 {n : ℕ} (h : n < 8) (d : Fin 256) (b : Fin 512) : (r20 h).emb (ix3 0 d b) = ix3 ⟨n, h⟩ d b := by
  blk_ext

theorem off18 {n k : ℕ} (h : n < 8) (hk : k < 8) (hne : k ≠ n) (b : Fin 512) (j) : (r18 h).emb j ≠ ix3 ⟨k, hk⟩ 0 b := by
  intro e
  have h0 := congrArg (fun x : S8x1x512.Idx => (x 0).val) e
  have hj : (j 0).val < 1 := (j 0).isLt
  have h1 : n + 1 * (j 0).val = k := h0
  omega

theorem off20 {n k : ℕ} (h : n < 8) (hk : k < 8) (hne : k ≠ n) (d : Fin 256) (b : Fin 512) (j) : (r20 h).emb j ≠ ix3 ⟨k, hk⟩ d b := by
  intro e
  have h0 := congrArg (fun x : S8x256x512.Idx => (x 0).val) e
  have hj : (j 0).val < 1 := (j 0).isLt
  have h1 : n + 1 * (j 0).val = k := h0
  omega

section
variable (Q K : ℕ → ℕ → EReal) (V : ℕ → ℕ → ℝ) (qi : ℕ)

/-- The score of key `κ` in chain `n` at column `j`. -/
def sR (n j κ : ℕ) : EReal := ∑ d : Fin 128, K κ (128 * (n % 2) + d.val) * Q (512 * (n / 2) + j) (128 * (n % 2) + d.val)

/-- The same with keys past the query masked. -/
def sE (n j κ : ℕ) : EReal := if κ ≤ 2048 * qi + 512 * (n / 2) + j then sR Q K n j κ else ⊥

/-- The sums over the first `k` key blocks. -/
def Wk (n j k : ℕ) : ℝ := ∑ κ ∈ Finset.range (512 * k), pw (sE Q K qi n j κ)
def Ak (n j d k : ℕ) : ℝ := ∑ κ ∈ Finset.range (512 * k), V d κ * pw (sE Q K qi n j κ)

/-- Among them a score is plus infinity. -/
def Tk (n j k : ℕ) : Prop := ∃ κ, κ < 512 * k ∧ sE Q K qi n j κ = ⊤

theorem tk_succ (n j k : ℕ) : Tk Q K qi n j (k + 1) = (Tk Q K qi n j k ∨ ∃ a : Fin 512, sE Q K qi n j (512 * k + a.val) = ⊤) := by
  refine propext ⟨fun ⟨κ, h, e⟩ => ?_, fun h => ?_⟩
  · by_cases hk : κ < 512 * k
    · exact Or.inl ⟨κ, hk, e⟩
    · exact Or.inr ⟨⟨κ - 512 * k, by omega⟩, by rw [← e]; congr 1; show 512 * k + (κ - 512 * k) = κ; omega⟩
  · rcases h with ⟨κ, h, e⟩ | ⟨a, e⟩
    · exact ⟨κ, by omega, e⟩
    · exact ⟨512 * k + a.val, by have := a.isLt; omega, e⟩

theorem blk_sum (f : ℕ → ℝ) (k : ℕ) : ∑ κ ∈ Finset.range (512 * (k + 1)), f κ = ∑ κ ∈ Finset.range (512 * k), f κ + ∑ a : Fin 512, f (512 * k + a.val) := by
  rw [show 512 * (k + 1) = 512 * k + 512 by ring, Finset.sum_range_add]
  rw [Finset.sum_range fun a => f (512 * k + a)]

/-- One more block taken into chain `n`. -/
def bump (cnt : ℕ → ℕ) (n : ℕ) : ℕ → ℕ := fun k => if k = n then cnt k + 1 else cnt k

/-- Every chain `n` has taken in `cnt n` key blocks, and the scores pending are the next block's of chain `pn`. -/
def Good (cnt : ℕ → ℕ) (pn : ℕ) (z : St Ideal) : Prop :=
  (∀ n (hn : n < 8) (j : Fin 512) (d : Fin 256),
    Inv (z.m (ix3 ⟨n, hn⟩ 0 j)) (z.l (ix3 ⟨n, hn⟩ 0 j)) (z.a (ix3 ⟨n, hn⟩ d j)) (Wk Q K qi n j.val (cnt n)) (Ak Q K V qi n j.val d.val (cnt n)) (Tk Q K qi n j.val (cnt n)))
  ∧ ∀ a j : Fin 512, z.s (ix3 0 a j) = sR Q K pn j.val (512 * cnt pn + a.val)

theorem good_ab {cnt : ℕ → ℕ} {n pn' : ℕ} {z : St Ideal} (hn : n < 8) (h : Good Q K V qi cnt n z)
    (p : FVec Ideal S512x512 .f32) (v : FVec Ideal S256x512 .bf16) (s' : FVec Ideal S1x512x512 .f32)
    (hp : ∀ a j : Fin 512, p (ix2 a j) = sE Q K qi n j.val (512 * cnt n + a.val))
    (hv : ∀ (d : Fin 256) (a : Fin 512), v (ix2 d a) = (V d.val (512 * cnt n + a.val) : EReal))
    (hs : ∀ a j : Fin 512, s' (ix3 0 a j) = sR Q K pn' j.val (512 * bump cnt n pn' + a.val)) :
    Good Q K V qi (bump cnt n) pn' (abF hn p v s' z) := by
  refine ⟨fun k hk j d => ?_, hs⟩
  by_cases hkn : k = n
  · subst hkn
    have h0 := h.1 k hk j d
    have em : (abF hn p v s' z).m (ix3 ⟨k, hk⟩ 0 j) = max (z.m (ix3 ⟨k, hk⟩ 0 j)) (Finset.univ.fold max ⊥ fun a : Fin 512 => sE Q K qi k j.val (512 * cnt k + a.val)) := by
      unfold abF
      dsimp only
      rw [← emb18 hn j, wr_emb]
      refine (pay339_at _ _ _).trans ?_
      simp only [hp]
      rfl
    have e39 : (k0_pay339 (F := Ideal) p (rd (r18 hn) z.m)) (ix3 0 0 j) = (abF hn p v s' z).m (ix3 ⟨k, hk⟩ 0 j) := by
      unfold abF
      dsimp only
      rw [← emb18 hn j, wr_emb]
    have el : (abF hn p v s' z).l (ix3 ⟨k, hk⟩ 0 j) = Ideal.exp2 (z.m (ix3 ⟨k, hk⟩ 0 j) - (abF hn p v s' z).m (ix3 ⟨k, hk⟩ 0 j)) * z.l (ix3 ⟨k, hk⟩ 0 j) + ∑ a : Fin 512, Ideal.exp2 (sE Q K qi k j.val (512 * cnt k + a.val) - (abF hn p v s' z).m (ix3 ⟨k, hk⟩ 0 j)) := by
      have e : (abF hn p v s' z).l (ix3 ⟨k, hk⟩ 0 j) = k0_pay337 p (rd (r18 hn) z.m) (rd (r18 hn) z.l) (ix3 0 0 j) := by
        unfold abF
        dsimp only
        rw [← emb18 hn j, wr_emb]
      rw [e, pay337_at p _ _ j _ e39]
      simp only [hp]
      unfold rd
      rw [emb18 hn j]
    have ea : (abF hn p v s' z).a (ix3 ⟨k, hk⟩ d j) = Ideal.exp2 (z.m (ix3 ⟨k, hk⟩ 0 j) - (abF hn p v s' z).m (ix3 ⟨k, hk⟩ 0 j)) * z.a (ix3 ⟨k, hk⟩ d j) + ∑ a : Fin 512, (V d.val (512 * cnt k + a.val) : EReal) * Ideal.exp2 (sE Q K qi k j.val (512 * cnt k + a.val) - (abF hn p v s' z).m (ix3 ⟨k, hk⟩ 0 j)) := by
      have e : (abF hn p v s' z).a (ix3 ⟨k, hk⟩ d j) = k0_pay338 p (rd (r18 hn) z.m) v (rd (r20 hn) z.a) (ix3 0 d j) := by
        unfold abF
        dsimp only
        rw [← emb20 hn d j, wr_emb]
      rw [e, pay338_at p _ _ _ d j _ e39]
      simp only [hp, hv]
      unfold rd
      rw [emb18 hn j, emb20 hn d j]
    have hb : bump cnt k k = cnt k + 1 := if_pos rfl
    rw [el, ea, hb]
    unfold Wk Ak
    rw [blk_sum, blk_sum, tk_succ]
    exact h0.step (fun a : Fin 512 => sE Q K qi k j.val (512 * cnt k + a.val)) (fun a => V d.val (512 * cnt k + a.val)) _ em
  · have h0 := h.1 k hk j d
    have hb : bump cnt n k = cnt k := if_neg hkn
    rw [hb]
    unfold abF
    dsimp only
    rw [wr_off _ _ _ _ (off18 hn hk hkn j), wr_off _ _ _ _ (off18 hn hk hkn j), wr_off _ _ _ _ (off20 hn hk hkn d j)]
    exact h0

theorem emb4 (o : { o : Fin 4 → ℕ // ∀ a, o a + S1x1x512x128.size a ≤ S1x1x4096x256.size a }) (b n : ℕ) (ho : o.1 = ![0, 0, 512 * b, 128 * (n % 2)])
    (a : Fin 512) (d : Fin 128) : ∃ (hr : 512 * b + a.val < 4096) (hd : 128 * (n % 2) + d.val < 256), (r4 o).emb (ix4 0 0 a d) = ix4 0 0 ⟨_, hr⟩ ⟨_, hd⟩ := by
  obtain ⟨o, hi⟩ := o
  dsimp only at ho
  subst ho
  have h2 : 512 * b + 512 ≤ 4096 := hi 2
  refine ⟨by omega, by omega, ?_⟩
  blk_ext
  · exact Nat.zero_add 0
  · exact Nat.zero_add 0
  · rfl
  · rfl

theorem emb3 {n : ℕ} (h : n < 8) (a : Fin 512) (d : Fin 128) : ∃ (hr : 512 * (n / 2) + a.val < 2048) (hd : 128 * (n % 2) + d.val < 256), (r3 h).emb (ix4 0 0 a d) = ix4 0 0 ⟨_, hr⟩ ⟨_, hd⟩ := by
  refine ⟨by omega, by omega, ?_⟩
  blk_ext

theorem emb5 (o : { o : Fin 2 → ℕ // ∀ a, o a + S256x512.size a ≤ S256x4096.size a }) (b : ℕ) (ho : o.1 = ![0, 512 * b])
    (d : Fin 256) (a : Fin 512) : ∃ (hr : 512 * b + a.val < 4096), (r5 o).emb (ix2 d a) = ix2 d ⟨_, hr⟩ := by
  obtain ⟨o, hi⟩ := o
  dsimp only at ho
  subst ho
  have h2 : 512 * b + 512 ≤ 4096 := hi 1
  refine ⟨by omega, ?_⟩
  blk_ext
  · exact Nat.zero_add _
  · rfl

variable (x3 : FVec Ideal S1x1x2048x256 .bf16) (x4 : FVec Ideal S1x1x4096x256 .bf16) (x5 : FVec Ideal S256x4096 .bf16)
  (h3 : ∀ (r : Fin 2048) (d : Fin 256), x3 (ix4 0 0 r d) = Q r.val d.val)
  (h4 : ∀ (r : Fin 4096) (d : Fin 256), x4 (ix4 0 0 r d) = K r.val d.val)
  (h5 : ∀ (d : Fin 256) (r : Fin 4096), x5 (ix2 d r) = (V d.val r.val : EReal))

include h3 h4 in
/-- The scores formed for the next step. -/
theorem score_at (o : { o : Fin 4 → ℕ // ∀ a, o a + S1x1x512x128.size a ≤ S1x1x4096x256.size a }) (b n : ℕ) (hn : n < 8) (ho : o.1 = ![0, 0, 512 * b, 128 * (n % 2)])
    (a j : Fin 512) : (k0_pay2 (F := Ideal) (rd (r4 o) x4) (rd (r3 hn) x3)) (ix3 0 a j) = sR Q K n j.val (512 * b + a.val) := by
  rw [pay2_at]
  unfold sR
  refine Finset.sum_congr rfl fun d _ => ?_
  obtain ⟨hr, hd, e⟩ := emb4 o b n ho a d
  obtain ⟨hr', hd', e'⟩ := emb3 hn j d
  unfold rd
  rw [e, e', h3, h4]

include h5 in
theorem val_at (o : { o : Fin 2 → ℕ // ∀ a, o a + S256x512.size a ≤ S256x4096.size a }) (b : ℕ) (ho : o.1 = ![0, 512 * b])
    (d : Fin 256) (a : Fin 512) : rd (r5 o) x5 (ix2 d a) = (V d.val (512 * b + a.val) : EReal) := by
  obtain ⟨hr, e⟩ := emb5 o b ho d a
  unfold rd
  rw [e, h5]

/-- The pending scores as they are taken in: below the diagonal as they are, on it masked. -/
theorem taken {cnt : ℕ → ℕ} {n : ℕ} {z : St Ideal} (h : Good Q K V qi cnt n z) (f : FVec Ideal S512x512 .f32 → FVec Ideal S512x512 .f32)
    (hf : (f = id ∧ cnt n < 4 * qi + n / 2) ∨ (f = msk ∧ cnt n = 4 * qi + n / 2)) (a j : Fin 512) :
    f (k0_pay3 z.s) (ix2 a j) = sE Q K qi n j.val (512 * cnt n + a.val) := by
  unfold sE
  rcases hf with ⟨rfl, hc⟩ | ⟨rfl, hc⟩
  · rw [if_pos (by omega)]
    exact (pay3_at _ _ _).trans (h.2 a j)
  · rw [msk_at, pay3_at, h.2 a j]
    by_cases ha : a.val ≤ j.val
    · rw [if_pos ha, if_pos (by omega)]
    · rw [if_neg ha, if_neg (by omega)]

/-- The steps fit: each takes in the next block of the pending chain and forms the scores of the chain after it. -/
def Ok : List (Stp Ideal) → (ℕ → ℕ) → ℕ → ℕ → (ℕ → ℕ) → Prop
  | [], cnt, pn, pn', cnt' => pn = pn' ∧ ∀ k, k < 8 → cnt k = cnt' k
  | s :: l, cnt, pn, pn', cnt' => s.n = pn ∧ s.ov.1 = ![0, 512 * cnt pn]
      ∧ ((s.msk = id ∧ cnt pn < 4 * qi + pn / 2) ∨ (s.msk = msk ∧ cnt pn = 4 * qi + pn / 2))
      ∧ s.ok.1 = ![0, 0, 512 * bump cnt pn s.nn, 128 * (s.nn % 2)] ∧ Ok l (bump cnt pn) s.nn pn' cnt'

include h3 h4 h5 in
theorem good_run : ∀ (l : List (Stp Ideal)) (cnt cnt' : ℕ → ℕ) (pn pn' : ℕ) (z : St Ideal), pn < 8 → Ok qi l cnt pn pn' cnt' → Good Q K V qi cnt pn z →
    Good Q K V qi cnt' pn' (runF x3 x4 x5 l z)
  | [], cnt, cnt', pn, pn', z, hpn, ho, h => by
      obtain ⟨rfl, he⟩ := ho
      unfold runF
      refine ⟨fun n hn j d => ?_, fun a j => ?_⟩
      · rw [← he n hn]; exact h.1 n hn j d
      · rw [← he pn hpn]; exact h.2 a j
  | s :: l, cnt, cnt', pn, pn', z, hpn, ho, h => by
      obtain ⟨rfl, hov, hm, hk, ho⟩ := ho
      unfold runF
      refine good_run l _ _ _ _ _ s.hnn ho ?_
      unfold stepF
      exact good_ab Q K V qi s.hn h _ _ _ (taken Q K V qi h s.msk hm) (val_at V x5 h5 s.ov _ hov)
        (score_at Q K x3 x4 h3 h4 s.ok _ s.nn s.hnn hk)

end

end Cert.KernelIdeal.Attn
-- ==== Proof.Attn.Full.lean ====
module

public import proofs.«01_k».proof.Proof.Attn.Sweep

@[expose] public section

set_option maxRecDepth 16384

noncomputable section

open Idealize.ShloMosaic Idealize.ShloMosaic.TcCoe Idealize.SL.Sem

namespace Cert.KernelIdeal.Attn

open Cert.KernelIdeal Cert.KernelIdeal.Gen Cert.Whole Cert.Online

/-! The whole sweep of one point: its steps fit, so every chain has taken in the key blocks up to its diagonal. -/

theorem trips_eq : ∀ t0 : Fin grid0.N, (k0_t1_loop (grid0.coords t0)).trips = 2 * (t0.val % 2) := by decide +kernel

theorem off1_eq : ∀ (t0 : Fin grid0.N) (t : Fin (k0_t1_loop (grid0.coords t0)).trips) (w : Fin 2),
    k0_off1 (grid0.coords t0) t (BitVec.ofNat 32 w.val) = ![0, 0, 512 * (2 * t.val + w.val), 128] := by decide +kernel
theorem off2_eq : ∀ (t0 : Fin grid0.N) (t : Fin (k0_t1_loop (grid0.coords t0)).trips) (w : Fin 2),
    k0_off2 (grid0.coords t0) t (BitVec.ofNat 32 w.val) = ![0, 512 * (2 * t.val + w.val)] := by decide +kernel
theorem off3_eq : ∀ (t0 : Fin grid0.N) (t : Fin (k0_t1_loop (grid0.coords t0)).trips) (w : Fin 3),
    k0_off3 (grid0.coords t0) t (BitVec.ofNat 32 w.val) = ![0, 0, 512 * (2 * t.val + w.val), 0] := by decide +kernel
theorem off7_eq : ∀ (t0 : Fin grid0.N) (w : Fin 4),
    k0_off7 (grid0.coords t0) (BitVec.ofNat 32 w.val) = ![0, 0, 512 * (4 * (t0.val % 2) + w.val), 128] := by decide +kernel
theorem off8_eq : ∀ (t0 : Fin grid0.N) (w : Fin 4),
    k0_off8 (grid0.coords t0) (BitVec.ofNat 32 w.val) = ![0, 512 * (4 * (t0.val % 2) + w.val)] := by decide +kernel
theorem off9_eq : ∀ (t0 : Fin grid0.N) (w : Fin 4),
    k0_off9 (grid0.coords t0) (BitVec.ofNat 32 w.val) = ![0, 0, 512 * (4 * (t0.val % 2) + w.val), 0] := by decide +kernel

section
variable (t0 : Fin grid0.N) (t : Fin (k0_t1_loop (grid0.coords t0)).trips) (l : List (Stp Ideal)) (cnt cnt' : ℕ → ℕ) (pn' n nn : ℕ) (hn : n < 8) (hnn : nn < 8)

/-! When a step of each kind fits. -/

theorem ok_ev (w : Fin 2) (ho : nn % 2 = 1) (hb : cnt n = 2 * t.val + w.val) (hm : cnt n < 4 * (t0.val % 2) + n / 2)
    (hb' : bump cnt n nn = 2 * t.val + w.val) (hl : Ok (t0.val % 2) l (bump cnt n) nn pn' cnt') :
    Ok (t0.val % 2) (ev (grid0.coords t0) t w n nn hn hnn :: l) cnt n pn' cnt' := by
  refine ⟨rfl, ?_, Or.inl ⟨rfl, hm⟩, ?_, hl⟩
  · rw [hb]; exact off2_eq t0 t w
  · refine (off1_eq t0 t w).trans ?_
    dsimp only [ev]
    rw [hb', ho]

theorem ok_od (w : Fin 2) (w' : Fin 3) (ho : nn % 2 = 0) (hb : cnt n = 2 * t.val + w.val) (hm : cnt n < 4 * (t0.val % 2) + n / 2)
    (hb' : bump cnt n nn = 2 * t.val + w'.val) (hl : Ok (t0.val % 2) l (bump cnt n) nn pn' cnt') :
    Ok (t0.val % 2) (od (grid0.coords t0) t w w' n nn hn hnn :: l) cnt n pn' cnt' := by
  refine ⟨rfl, ?_, Or.inl ⟨rfl, hm⟩, ?_, hl⟩
  · rw [hb]; exact off2_eq t0 t w
  · refine (off3_eq t0 t w').trans ?_
    dsimp only [od]
    rw [hb', ho]

theorem ok_te (w : Fin 4) (f : FVec Ideal S512x512 .f32 → FVec Ideal S512x512 .f32)
    (hm : (f = id ∧ cnt n < 4 * (t0.val % 2) + n / 2) ∨ (f = msk ∧ cnt n = 4 * (t0.val % 2) + n / 2)) (ho : nn % 2 = 1) (hb : cnt n = 4 * (t0.val % 2) + w.val)
    (hb' : bump cnt n nn = 4 * (t0.val % 2) + w.val) (hl : Ok (t0.val % 2) l (bump cnt n) nn pn' cnt') :
    Ok (t0.val % 2) (te (grid0.coords t0) f w n nn hn hnn :: l) cnt n pn' cnt' := by
  refine ⟨rfl, ?_, hm, ?_, hl⟩
  · rw [hb]; exact off8_eq t0 w
  · refine (off7_eq t0 w).trans ?_
    dsimp only [te]
    rw [hb', ho]

theorem ok_tO (w w' : Fin 4) (f : FVec Ideal S512x512 .f32 → FVec Ideal S512x512 .f32)
    (hm : (f = id ∧ cnt n < 4 * (t0.val % 2) + n / 2) ∨ (f = msk ∧ cnt n = 4 * (t0.val % 2) + n / 2)) (ho : nn % 2 = 0) (hb : cnt n = 4 * (t0.val % 2) + w.val)
    (hb' : bump cnt n nn = 4 * (t0.val % 2) + w'.val) (hl : Ok (t0.val % 2) l (bump cnt n) nn pn' cnt') :
    Ok (t0.val % 2) (tO (grid0.coords t0) f w w' n nn hn hnn :: l) cnt n pn' cnt' := by
  refine ⟨rfl, ?_, hm, ?_, hl⟩
  · rw [hb]; exact off8_eq t0 w
  · refine (off9_eq t0 w').trans ?_
    dsimp only [tO]
    rw [hb', ho]

end

theorem ok_lps (t0 : Fin grid0.N) (t : Fin (k0_t1_loop (grid0.coords t0)).trips) (ht : t.val < 2 * (t0.val % 2)) :
    Ok (t0.val % 2) (lps (grid0.coords t0) t) (fun _ => 2 * t.val) 0 0 (fun _ => 2 * t.val + 2) := by
  unfold lps
  iterate 8
    (refine ok_ev t0 t _ _ _ _ _ _ _ _ _ rfl ?_ ?_ ?_ ?_
     · simp [bump]
     · simp [bump]; omega
     · simp [bump]
     refine ok_od t0 t _ _ _ _ _ _ _ _ _ _ rfl ?_ ?_ ?_ ?_
     · simp [bump]
     · simp [bump]; omega
     · simp [bump])
  refine ⟨rfl, fun k hk => ?_⟩
  interval_cases k <;> simp [bump]

/-- The counts after the tail but its last step. -/
def tcnt (qi : ℕ) : ℕ → ℕ := fun n => if n = 7 then 4 * qi + 3 else 4 * qi + n / 2 + 1

theorem ok_tls (t0 : Fin grid0.N) :
    Ok (t0.val % 2) (tls (grid0.coords t0)) (fun _ => 4 * (t0.val % 2)) 0 7 (tcnt (t0.val % 2)) := by
  unfold tls
  iterate 9
    (refine ok_te t0 _ _ _ _ _ _ _ _ _ _ ?_ rfl ?_ ?_ ?_
     · first
       | (refine Or.inl ⟨rfl, ?_⟩; simp [bump]; done)
       | (refine Or.inr ⟨rfl, ?_⟩; simp [bump]; done)
     · simp [bump]
     · simp [bump]
     refine ok_tO t0 _ _ _ _ _ _ _ _ _ _ _ ?_ rfl ?_ ?_ ?_
     · first
       | (refine Or.inl ⟨rfl, ?_⟩; simp [bump]; done)
       | (refine Or.inr ⟨rfl, ?_⟩; simp [bump]; done)
     · simp [bump]
     · simp [bump])
  refine ok_te t0 _ _ _ _ _ _ _ _ _ _ (Or.inr ⟨rfl, ?_⟩) rfl ?_ ?_ ?_
  · simp [bump]
  · simp [bump]
  · simp [bump]
  refine ⟨rfl, fun k hk => ?_⟩
  interval_cases k <;> simp [bump, tcnt]

section
variable (Q K : ℕ → ℕ → EReal) (V : ℕ → ℕ → ℝ) (t0 : Fin grid0.N)
  (x3 : FVec Ideal S1x1x2048x256 .bf16) (x4 : FVec Ideal S1x1x4096x256 .bf16) (x5 : FVec Ideal S256x4096 .bf16)
  (h3 : ∀ (r : Fin 2048) (d : Fin 256), x3 (ix4 0 0 r d) = Q r.val d.val)
  (h4 : ∀ (r : Fin 4096) (d : Fin 256), x4 (ix4 0 0 r d) = K r.val d.val)
  (h5 : ∀ (d : Fin 256) (r : Fin 4096), x5 (ix2 d r) = (V d.val r.val : EReal))

include h3 h4 in
theorem good_0 : Good Q K V (t0.val % 2) (fun _ => 0) 0 (z0 x3 x4) := by
  refine ⟨fun n hn j d => ?_, fun a j => ?_⟩
  · unfold z0
    dsimp only
    rw [pay321_at, pay322_at, pay324_at]
    unfold Wk Ak
    simp only [Nat.mul_zero, Finset.range_zero, Finset.sum_empty]
    exact Or.inr ⟨fun ⟨κ, h, _⟩ => absurd h (by omega), Or.inl ⟨rfl, rfl, rfl, rfl, rfl⟩⟩
  · exact score_at Q K x3 x4 h3 h4 ⟨![0, 0, 0, 0], inb_S1x1x4096x256_S1x1x512x128_0_0_0_0⟩ 0 0 (by decide) rfl a j

include h3 h4 h5 in
theorem good_loop : ∀ k, k ≤ 2 * (t0.val % 2) → Good Q K V (t0.val % 2) (fun _ => 2 * k) 0 (loopF (grid0.coords t0) x3 x4 x5 k)
  | 0, _ => good_0 Q K V t0 x3 x4 h3 h4
  | k + 1, hk => by
      have ih := good_loop k (by omega)
      have hlt : k < (k0_t1_loop (grid0.coords t0)).trips := by rw [trips_eq]; omega
      unfold loopF
      rw [dif_pos hlt]
      exact good_run Q K V _ x3 x4 x5 h3 h4 h5 _ _ _ 0 0 _ (by decide) (ok_lps t0 ⟨k, hlt⟩ (by dsimp only; omega)) ih

/-- Scores no step takes in: what is pending after the last step no longer matters. -/
def pend (qi : ℕ) : FVec Ideal S1x512x512 .f32 := fun x => sR Q K 7 (x 2).val (512 * bump (tcnt qi) 7 7 + (x 1).val)

include h3 h4 h5 in
/-- After the sweep chain `n` has taken in the blocks up to its diagonal. -/
theorem good_end (n : ℕ) (hn : n < 8) (j : Fin 512) (d : Fin 256) :
    Inv ((endZ (F := Ideal) (grid0.coords t0) x3 x4 x5).m (ix3 ⟨n, hn⟩ 0 j)) ((endZ (F := Ideal) (grid0.coords t0) x3 x4 x5).l (ix3 ⟨n, hn⟩ 0 j)) ((endZ (F := Ideal) (grid0.coords t0) x3 x4 x5).a (ix3 ⟨n, hn⟩ d j))
      (Wk Q K (t0.val % 2) n j.val (4 * (t0.val % 2) + n / 2 + 1)) (Ak Q K V (t0.val % 2) n j.val d.val (4 * (t0.val % 2) + n / 2 + 1)) (Tk Q K (t0.val % 2) n j.val (4 * (t0.val % 2) + n / 2 + 1)) := by
  have hl := good_loop Q K V t0 x3 x4 x5 h3 h4 h5 (2 * (t0.val % 2)) le_rfl
  rw [show (fun _ : ℕ => 2 * (2 * (t0.val % 2))) = fun _ => 4 * (t0.val % 2) from funext fun _ => by ring] at hl
  have ht : Good Q K V (t0.val % 2) (tcnt (t0.val % 2)) 7 (tailZ (grid0.coords t0) x3 x4 x5) := by
    unfold tailZ
    rw [trips_eq]
    exact good_run Q K V _ x3 x4 x5 h3 h4 h5 _ _ _ 0 7 _ (by decide) (ok_tls t0) hl
  have h7 : tcnt (t0.val % 2) 7 = 4 * (t0.val % 2) + 3 := rfl
  generalize hz : tailZ (F := Ideal) (grid0.coords t0) x3 x4 x5 = z at ht
  have hs : ∀ a j : Fin 512, pend Q K (t0.val % 2) (ix3 0 a j) = sR Q K 7 j.val (512 * bump (tcnt (t0.val % 2)) 7 7 + a.val) := fun a j => rfl
  have he := good_ab Q K V (t0.val % 2) (pn' := 7) (by decide : 7 < 8) ht (msk (k0_pay3 z.s))
    (rd (r5 ⟨k0_off8 (grid0.coords t0) (BitVec.ofNat 32 (3 : Fin 4).val), k0_off8_inb (grid0.coords t0) 3⟩) x5) (pend Q K (t0.val % 2))
    (taken Q K V _ ht msk (Or.inr ⟨rfl, h7⟩))
    (val_at V x5 h5 _ _ (by rw [h7]; exact off8_eq t0 3)) hs
  have hc : bump (tcnt (t0.val % 2)) 7 n = 4 * (t0.val % 2) + n / 2 + 1 := by
    interval_cases n <;> simp [bump, tcnt]
  have h := he.1 n hn j d
  rw [hc] at h
  unfold endZ
  rw [hz]
  exact h

end

end Cert.KernelIdeal.Attn
-- ==== Proof.Attn.Rows.lean ====
module

public import proofs.«01_k».proof.Proof.Attn.Full

@[expose] public section

set_option maxRecDepth 16384

noncomputable section

open Idealize.ShloMosaic Idealize.ShloMosaic.TcCoe Idealize.SL.Sem

namespace Cert.KernelIdeal.Attn

open Cert.KernelIdeal Cert.KernelIdeal.Gen Cert.Whole Cert.Online

/-! One point's rows of the result, as quotients of sums over all keys. -/

section
variable (Q K : ℕ → ℕ → EReal) (V : ℕ → ℕ → ℝ) (qi : ℕ)

/-- The weight of key `κ`: none past the query. -/
def wt (n j κ : ℕ) : ℝ := if κ ≤ 2048 * qi + 512 * (n / 2) + j then pw (sR Q K n j κ) else 0

theorem pw_sE (n j κ : ℕ) : pw (sE Q K qi n j κ) = wt Q K qi n j κ := by
  unfold sE wt
  split
  · rfl
  · exact pw_bot

/-- Past the blocks taken in every weight is none. -/
theorem sum_all (n j : ℕ) (f : ℕ → ℝ) (hq : qi < 2) (hn : n < 8) (hj : j < 512) :
    ∑ κ ∈ Finset.range (512 * (4 * qi + n / 2 + 1)), f κ * wt Q K qi n j κ = ∑ κ : Fin 4096, f κ.val * wt Q K qi n j κ.val := by
  rw [← Finset.sum_range (fun κ => f κ * wt Q K qi n j κ)]
  refine Finset.sum_subset (fun κ hκ => ?_) fun κ _ hκ => ?_
  · rw [Finset.mem_range] at hκ ⊢
    omega
  · rw [Finset.mem_range] at hκ
    unfold wt
    rw [if_neg (by omega), mul_zero]

/-- The sum of a row's weights, the weighted values, and their quotient. -/
def Wa (n j : ℕ) : ℝ := ∑ κ : Fin 4096, wt Q K qi n j κ.val
def Aa (n j d : ℕ) : ℝ := ∑ κ : Fin 4096, V d κ.val * wt Q K qi n j κ.val

theorem Wk_all (n j : ℕ) (hq : qi < 2) (hn : n < 8) (hj : j < 512) : Wk Q K qi n j (4 * qi + n / 2 + 1) = Wa Q K qi n j := by
  have h := sum_all Q K qi n j (fun _ => 1) hq hn hj
  simp only [one_mul] at h
  unfold Wk Wa
  simp only [pw_sE]
  exact h

theorem Ak_all (n j d : ℕ) (hq : qi < 2) (hn : n < 8) (hj : j < 512) : Ak Q K V qi n j d (4 * qi + n / 2 + 1) = Aa Q K V qi n j d := by
  unfold Ak Aa
  simp only [pw_sE]
  exact sum_all Q K qi n j (fun κ => V d κ) hq hn hj

/-- A score of the row is plus infinity. -/
def Ta (n j : ℕ) : Prop := ∃ κ : Fin 4096, sE Q K qi n j κ.val = ⊤

theorem Tk_all (n j : ℕ) (hq : qi < 2) (hn : n < 8) (hj : j < 512) : Tk Q K qi n j (4 * qi + n / 2 + 1) = Ta Q K qi n j := by
  refine propext ⟨fun ⟨κ, h, e⟩ => ⟨⟨κ, by omega⟩, e⟩, fun ⟨κ, e⟩ => ⟨κ.val, ?_, e⟩⟩
  by_contra hc
  unfold sE at e
  rw [if_neg (by omega)] at e
  exact bot_ne_top e

/-- A row before the norm: the first map's values less the second's times its factor. -/
def oK (lam : EReal) (r d : ℕ) : EReal :=
  quo (Wa Q K qi (2 * (r / 512)) (r % 512)) (Aa Q K V qi (2 * (r / 512)) (r % 512) d) (Ta Q K qi (2 * (r / 512)) (r % 512))
    - lam * quo (Wa Q K qi (2 * (r / 512) + 1) (r % 512)) (Aa Q K V qi (2 * (r / 512) + 1) (r % 512) d) (Ta Q K qi (2 * (r / 512) + 1) (r % 512))

end

theorem rows_at (lam : FVec Ideal S1x1 .f32) {n n' : ℕ} (hn : n < 8) (hn' : n' < 8) (l : FVec Ideal S8x1x512 .f32) (a : FVec Ideal S8x256x512 .f32) (g : FVec Ideal S256x1 .f32)
    (b : Fin 512) (d : Fin 256) (o : Fin 256 → EReal)
    (ho : ∀ e, Ideal.div (a (ix3 ⟨n, hn⟩ e b)) (l (ix3 ⟨n, hn⟩ 0 b)) - lam (ix2 0 0) * Ideal.div (a (ix3 ⟨n', hn'⟩ e b)) (l (ix3 ⟨n', hn'⟩ 0 b)) = o e) :
    (rowsF (F := Ideal) lam hn hn' l a g) (ix3 0 b d) = o d * Ideal.rsqrt (Ideal.div (∑ e : Fin 256, o e * o e) (Ideal.ofBits .f32 0x43800000#32) + Ideal.ofBits .f32 0x358637BD#32) * (g (ix2 d 0) * Ideal.ofBits .f32 0x3F24FD5C#32) := by
  have h : ∀ e : Fin 256, (k0_pay535 (F := Ideal) lam (rd (r20 hn) a) (rd (r18 hn) l) (rd (r20 hn') a) (rd (r18 hn') l)) (ix2 e b) = o e := fun e => by
    rw [pay535_at]
    unfold rd
    rw [emb20 hn e b, emb20 hn' e b, emb18 hn b, emb18 hn' b]
    exact ho e
  unfold rowsF
  rw [pay536_at]
  simp only [h]

section
variable (Q K : ℕ → ℕ → EReal) (V : ℕ → ℕ → ℝ) (t0 : Fin grid0.N)
  (x3 : FVec Ideal S1x1x2048x256 .bf16) (x4 : FVec Ideal S1x1x4096x256 .bf16) (x5 : FVec Ideal S256x4096 .bf16)
  (h3 : ∀ (r : Fin 2048) (d : Fin 256), x3 (ix4 0 0 r d) = Q r.val d.val)
  (h4 : ∀ (r : Fin 4096) (d : Fin 256), x4 (ix4 0 0 r d) = K r.val d.val)
  (h5 : ∀ (d : Fin 256) (r : Fin 4096), x5 (ix2 d r) = (V d.val r.val : EReal))

include h3 h4 h5 in
theorem quot_at (n : ℕ) (hn : n < 8) (j : Fin 512) (d : Fin 256) :
    Ideal.div ((endZ (F := Ideal) (grid0.coords t0) x3 x4 x5).a (ix3 ⟨n, hn⟩ d j)) ((endZ (F := Ideal) (grid0.coords t0) x3 x4 x5).l (ix3 ⟨n, hn⟩ 0 j))
      = quo (Wa Q K (t0.val % 2) n j.val) (Aa Q K V (t0.val % 2) n j.val d.val) (Ta Q K (t0.val % 2) n j.val) := by
  have h := good_end Q K V t0 x3 x4 x5 h3 h4 h5 n hn j d
  rw [Wk_all Q K _ n j.val (Nat.mod_lt _ (by decide)) hn j.isLt, Ak_all Q K V _ n j.val d.val (Nat.mod_lt _ (by decide)) hn j.isLt, Tk_all Q K _ n j.val (Nat.mod_lt _ (by decide)) hn j.isLt] at h
  exact h.quot

include h3 h4 h5 in
/-- Row `r`, column `d` of what a point leaves. -/
theorem out_at (x6 x7 x8 x9 : FVec Ideal S1x128 .f32) (x10 : FVec Ideal S256x1 .f32) (r : Fin 2048) (d : Fin 256) (o : Fin 256 → EReal)
    (ho : ∀ e : Fin 256, oK Q K V (t0.val % 2) ((k0_pay530 (F := Ideal) x6 x7 x8 x9) (ix2 0 0)) r.val e.val = o e) :
    (outF (F := Ideal) (grid0.coords t0) x3 x4 x5 x6 x7 x8 x9 x10) (ix3 0 r d)
      = o d * Ideal.rsqrt (Ideal.div (∑ e : Fin 256, o e * o e) (Ideal.ofBits .f32 0x43800000#32) + Ideal.ofBits .f32 0x358637BD#32) * (x10 (ix2 d 0) * Ideal.ofBits .f32 0x3F24FD5C#32) := by
  have hj : r.val % 512 < 512 := Nat.mod_lt _ (by decide)
  have hx : rowIx (ix3 0 r d) = ix3 0 ⟨r.val % 512, hj⟩ d := by
    blk_ext
    · rfl
    · rfl
  show blkF _ x10 (endZ (F := Ideal) (grid0.coords t0) x3 x4 x5) (r.val / 512) (rowIx (ix3 0 r d)) = _
  rw [hx]
  have hr : r.val / 512 < 4 := by omega
  unfold oK at ho
  generalize hb : r.val / 512 = b at hr ho
  generalize r.val % 512 = j at hj ho
  interval_cases b <;> (unfold blkF; refine rows_at _ _ _ _ _ _ ⟨j, hj⟩ d o fun e => ?_; rw [quot_at Q K V t0 x3 x4 x5 h3 h4 h5, quot_at Q K V t0 x3 x4 x5 h3 h4 h5]; exact ho e)

end

end Cert.KernelIdeal.Attn
-- ==== Proof.Attn.Reads.lean ====
module

public import proofs.«01_k».proof.Proof.Attn.Rows

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Whole Cert.Online

/-! What each point's blocks hold of the call's arrays. -/

variable (m : (ℓ : Loc nD τ sig) → Buf (Elt Ideal) ℓ)

theorem idx : ∀ t : Fin cfg0.N, win0_0.index t = ![0, t.val / 16, t.val % 2, t.val / 2 % 8] ∧ win0_1.index t = ![1, t.val / 16, 0, t.val / 2 % 8]
    ∧ win0_2.index t = ![t.val / 2 % 8, t.val / 16] ∧ win0_3.index t = ![0, 0] ∧ win0_4.index t = ![0, 0] ∧ win0_5.index t = ![0, 0] ∧ win0_6.index t = ![0, 0] ∧ win0_7.index t = ![0, 0]
    ∧ win0_11.index t = ![t.val / 16, t.val % 2, t.val / 2 % 8] ∧ t.val < 64 :=
  (by decide +kernel : ∀ t : Fin grid0.N, _)

theorem idxc : ∀ t : Fin cfg0.N, (t.val ≤ 10 → win0_8.index t = ![1, 0, t.val]) ∧ (11 ≤ t.val ∧ t.val ≤ 21 → win0_9.index t = ![1, 0, t.val - 11])
    ∧ (22 ≤ t.val ∧ t.val ≤ 32 → win0_10.index t = ![1, t.val - 22, 0]) ∧ win0_12.index t = ![0, min t.val 10] ∧ win0_13.index t = ![0, max 11 (min t.val 21) - 11] ∧ win0_14.index t = ![max 22 (min t.val 32) - 22, 0] :=
  (by decide +kernel : ∀ t : Fin grid0.N, _)

abbrev qa (c : Dev nD) : FVec Ideal S4x4096x16x128 .f32 := m ((c : Thread nD τ).loc main_arg0)
abbrev ka (c : Dev nD) : FVec Ideal S4x16x4096x128 .f32 := m ((c : Thread nD τ).loc main_arg1)
abbrev va (c : Dev nD) : FVec Ideal S4x8x4096x256 .f32 := m ((c : Thread nD τ).loc main_arg2)

theorem host_q (c : Dev nD) (b : Fin 4) (R : Fin 4096) (D : Fin 2048) :
    (V m c main_v11 : FVec Ideal S2x4x4096x2048 .bf16) (ix4 0 b R D)
      = Ideal.div (qa m c (ix4 b R ⟨D.val / 128, by omega⟩ ⟨D.val % 128, by omega⟩) * Ideal.ofBits .f32 0x3DB504F3#32) (Ideal.log (Ideal.ofBits .f32 0x40000000#32)) := by
  entry_read
  pointwise

theorem host_k (c : Dev nD) (b : Fin 4) (R : Fin 4096) (D : Fin 2048) :
    (V m c main_v11 : FVec Ideal S2x4x4096x2048 .bf16) (ix4 1 b R D) = ka m c (ix4 b ⟨D.val / 128, by omega⟩ R ⟨D.val % 128, by omega⟩) := by
  entry_read
  pointwise

theorem host_v (c : Dev nD) (D : Fin 2048) (R : Fin 16384) :
    (V m c main_v14 : FVec Ideal S2048x16384 .bf16) (ix2 D R) = va m c (ix4 ⟨R.val / 4096, by omega⟩ ⟨D.val / 256, by omega⟩ ⟨R.val % 4096, by omega⟩ ⟨D.val % 256, by omega⟩) := by
  entry_read
  pointwise

theorem q_read (c : Dev nD) (t : Fin cfg0.N) (r : Fin 2048) (d : Fin 256) (b : Fin 4) (R : Fin 4096) (h : Fin 16) (e : Fin 128)
    (hb : b.val = t.val / 16) (hR : R.val = t.val % 2 * 2048 + r.val) (hh : h.val = 2 * (t.val / 2 % 8) + d.val / 128) (he : e.val = d.val % 128) :
    (iblk m c 0 t : FVec Ideal S1x1x2048x256 .bf16) (ix4 0 0 r d)
      = Ideal.div (qa m c (ix4 b R h e) * Ideal.ofBits .f32 0x3DB504F3#32) (Ideal.log (Ideal.ofBits .f32 0x40000000#32)) := by
  obtain ⟨D, hD⟩ : ∃ D : Fin 2048, D.val = t.val / 2 % 8 * 256 + d.val := ⟨⟨_, by omega⟩, rfl⟩
  have hy : ((cfg0.win 0).blk t).view.emb (ix4 0 0 r d) = (ix4 0 b R D : S2x4x4096x2048.Idx) := by
    blk_ext [idx t]
  blk_simp [iblk]
  rw [hy, host_q]
  have e1 : (⟨D.val / 128, by omega⟩ : Fin 16) = h := Fin.ext (by simp only []; omega)
  have e2 : (⟨D.val % 128, by omega⟩ : Fin 128) = e := Fin.ext (by simp only []; omega)
  rw [e1, e2]

theorem k_read (c : Dev nD) (t : Fin cfg0.N) (r : Fin 4096) (d : Fin 256) (b : Fin 4) (h : Fin 16) (e : Fin 128)
    (hb : b.val = t.val / 16) (hh : h.val = 2 * (t.val / 2 % 8) + d.val / 128) (he : e.val = d.val % 128) :
    (iblk m c 1 t : FVec Ideal S1x1x4096x256 .bf16) (ix4 0 0 r d) = ka m c (ix4 b h r e) := by
  obtain ⟨D, hD⟩ : ∃ D : Fin 2048, D.val = t.val / 2 % 8 * 256 + d.val := ⟨⟨_, by omega⟩, rfl⟩
  have hy : ((cfg0.win 1).blk t).view.emb (ix4 0 0 r d) = (ix4 1 b r D : S2x4x4096x2048.Idx) := by
    blk_ext [idx t]
  blk_simp [iblk]
  rw [hy, host_k]
  have e1 : (⟨D.val / 128, by omega⟩ : Fin 16) = h := Fin.ext (by simp only []; omega)
  have e2 : (⟨D.val % 128, by omega⟩ : Fin 128) = e := Fin.ext (by simp only []; omega)
  rw [e1, e2]

theorem v_read (c : Dev nD) (t : Fin cfg0.N) (r : Fin 4096) (d : Fin 256) (b : Fin 4) (h : Fin 8)
    (hb : b.val = t.val / 16) (hh : h.val = t.val / 2 % 8) :
    (iblk m c 2 t : FVec Ideal S256x4096 .bf16) (ix2 d r) = va m c (ix4 b h r d) := by
  obtain ⟨D, hD⟩ : ∃ D : Fin 2048, D.val = t.val / 2 % 8 * 256 + d.val := ⟨⟨_, by omega⟩, rfl⟩
  obtain ⟨R, hR⟩ : ∃ R : Fin 16384, R.val = t.val / 16 * 4096 + r.val := ⟨⟨_, by omega⟩, rfl⟩
  have hy : ((cfg0.win 2).blk t).view.emb (ix2 d r) = (ix2 D R : S2048x16384.Idx) := by
    blk_ext [idx t]
  blk_simp [iblk]
  rw [hy, host_v]
  have e1 : (⟨R.val / 4096, by omega⟩ : Fin 4) = b := Fin.ext (by simp only []; omega)
  have e2 : (⟨D.val / 256, by omega⟩ : Fin 8) = h := Fin.ext (by simp only []; omega)
  have e3 : (⟨R.val % 4096, by omega⟩ : Fin 4096) = r := Fin.ext (by simp only []; omega)
  have e4 : (⟨D.val % 256, by omega⟩ : Fin 256) = d := Fin.ext (by simp only []; omega)
  rw [e1, e2, e3, e4]

theorem l_read (c : Dev nD) (t : Fin cfg0.N) (d : Fin 128) :
    (iblk m c 3 t : FVec Ideal S1x128 .f32) (ix2 0 d) = (m ((c : Thread nD τ).loc main_arg3) : FVec Ideal S128 .f32) (ix1 d)
    ∧ (iblk m c 4 t : FVec Ideal S1x128 .f32) (ix2 0 d) = (m ((c : Thread nD τ).loc main_arg4) : FVec Ideal S128 .f32) (ix1 d)
    ∧ (iblk m c 5 t : FVec Ideal S1x128 .f32) (ix2 0 d) = (m ((c : Thread nD τ).loc main_arg5) : FVec Ideal S128 .f32) (ix1 d)
    ∧ (iblk m c 6 t : FVec Ideal S1x128 .f32) (ix2 0 d) = (m ((c : Thread nD τ).loc main_arg6) : FVec Ideal S128 .f32) (ix1 d) := by
  refine ⟨?_, ?_, ?_, ?_⟩ <;> (blk_simp [iblk]; entry_read; pointwise; blk_ext [idx t])

theorem g_read (c : Dev nD) (t : Fin cfg0.N) (d : Fin 256) :
    (iblk m c 7 t : FVec Ideal S256x1 .f32) (ix2 d 0) = (m ((c : Thread nD τ).loc main_arg7) : FVec Ideal S256 .f32) (ix1 d) := by
  blk_simp [iblk]
  entry_read
  pointwise
  blk_ext [idx t]

end Cert.KernelIdeal.Attn
-- ==== Proof.Attn.Spec.lean ====
module

public import proofs.«01_k».proof.Proof.Attn.Rows
public import Idealize.ShloMosaic.Lib.Pipeline.ValueKit

@[expose] public section

set_option maxRecDepth 16384

noncomputable section

open Idealize.ShloMosaic

namespace Cert.AttnSpec

open Cert.Online

/-! The plain mathematics of the attention call: two masked softmaxes per pair of heads, their difference with the
    learned factor, and the normalisation of the pair's row. First over the extended reals, as the reference
    states it; then, for real values, by sums of real weights. -/

abbrev ninf : EReal := Ideal.ofBits .f32 0xFF800000#32
abbrev lit : EReal := Ideal.ofBits .f32 0x3DB504F3#32

section Ext
variable (q : FVec Ideal ⟨4, ![4, 4096, 16, 128]⟩ .f32) (k : FVec Ideal ⟨4, ![4, 16, 4096, 128]⟩ .f32) (v : FVec Ideal ⟨4, ![4, 8, 4096, 256]⟩ .f32)

/-- The masked score of query `R` and key `κ`. -/
def sc (b : Fin 4) (h : Fin 16) (R κ : Fin 4096) : EReal :=
  Scalar.select (IntOp.cmpi CmpIPredicate.sle (BitVec.ofNat 32 κ.val) (BitVec.ofNat 32 R.val))
    ((∑ d : Fin 128, q (ix4 b R h d) * k (ix4 b h κ d)) * lit) ninf

/-- The exponential of a score, less the row's largest. -/
def ex (b : Fin 4) (h : Fin 16) (R κ : Fin 4096) : EReal :=
  Ideal.exp (sc q k b h R κ - max ninf (Finset.fold max ninf (fun x => sc q k b h R x) Finset.univ))

/-- The softmax's entry. -/
def pr (b : Fin 4) (h : Fin 16) (R κ : Fin 4096) : EReal := Ideal.div (ex q k b h R κ) (∑ x : Fin 4096, ex q k b h R x)

/-- The difference of the pair's two softmaxes times the values. -/
def oR (lam : EReal) (b : Fin 4) (h : Fin 8) (R : Fin 4096) (d : Fin 256) : EReal :=
  ∑ κ : Fin 4096, v (ix4 b h κ d) * (pr q k b ⟨h.val * 2, by omega⟩ R κ - lam * pr q k b ⟨h.val * 2 + 1, by omega⟩ R κ)

end Ext

/-- The learned factor of the four vectors. -/
def lamR (a b c d : FVec Ideal ⟨1, ![128]⟩ .f32) : EReal :=
  Ideal.exp (∑ x : Fin 128, a (ix1 x) * b (ix1 x)) - Ideal.exp (∑ x : Fin 128, c (ix1 x) * d (ix1 x)) + Ideal.ofBits .f32 0x3EB60549#32

/-- The row `o`, normalised and scaled. -/
def nrm (o : Fin 256 → EReal) (g : FVec Ideal ⟨1, ![256]⟩ .f32) (d : Fin 256) : EReal :=
  o d * Ideal.rsqrt (Ideal.div (∑ e : Fin 256, o e * o e) (Ideal.ofBits .f32 0x43800000#32) + Ideal.ofBits .f32 0x358637BD#32) * g (ix1 d) * Ideal.ofBits .f32 0x3F24FD5C#32

theorem ninf_eq : ninf = ⊥ := by simp [ninf, Ideal.ofBits, Ideal.ieee]

/-- The scale is a real number. -/
theorem lit_real : ∃ r : ℝ, lit = r := by
  refine ⟨11863283 * (2 ^ 27)⁻¹, ?_⟩
  rw [EReal.coe_mul]
  simp [lit, Ideal.ofBits, Ideal.ieee]
theorem c_real : ∃ r : ℝ, Ideal.ofBits .f32 0x3EB60549#32 = r := by
  refine ⟨11928905 * (2 ^ 25)⁻¹, ?_⟩
  rw [EReal.coe_mul]
  simp [Ideal.ofBits, Ideal.ieee]
def litr : ℝ := lit.toReal
theorem lit_eq : lit = (litr : EReal) := by
  obtain ⟨r, h⟩ := lit_real
  unfold litr
  rw [h, EReal.toReal_coe]

theorem cmp_le (a b : Fin 4096) : IntOp.cmpi CmpIPredicate.sle (BitVec.ofNat 32 a.val) (BitVec.ofNat 32 b.val) = if a.val ≤ b.val then 1#1 else 0#1 := by
  have h : BitVec.sle (BitVec.ofNat 32 a.val) (BitVec.ofNat 32 b.val) = decide (a.val ≤ b.val) := by
    rw [BitVec.sle_eq_decide, BitVec.toInt_ofNat', BitVec.toInt_ofNat', Int.bmod_eq_of_le (by omega) (by have := a.isLt; omega), Int.bmod_eq_of_le (by omega) (by have := b.isLt; omega)]
    simp
  show BitVec.ofBool (BitVec.sle (BitVec.ofNat 32 a.val) (BitVec.ofNat 32 b.val)) = _
  rw [h]
  by_cases hc : a.val ≤ b.val <;> simp [hc]

theorem lit_pos : 0 < litr := by
  have e : lit = ((11863283 * (2 ^ 27)⁻¹ : ℝ) : EReal) := by
    rw [EReal.coe_mul]
    simp [lit, Ideal.ofBits, Ideal.ieee]
  have h := EReal.coe_injective (lit_eq.symm.trans e)
  rw [h]
  positivity

/-- `e ^ x`, with `e ^ -∞ = 0`. -/
def pe (x : EReal) : ℝ := if x = ⊥ then 0 else Real.exp x.toReal

theorem pe_nonneg (x : EReal) : 0 ≤ pe x := by
  unfold pe
  split
  · exact le_rfl
  · exact (Real.exp_pos _).le

theorem pe_pos (x : EReal) (hx : x ≠ ⊥) : 0 < pe x := by
  unfold pe
  rw [if_neg hx]
  exact Real.exp_pos _

theorem exp_sub' (x : EReal) (hx : x ≠ ⊤) (μ : ℝ) : Ideal.exp (x - μ) = ((pe x * Real.exp (-μ) : ℝ) : EReal) := by
  unfold pe
  induction x using EReal.rec with
  | bot => rw [if_pos rfl, zero_mul, EReal.bot_sub]; rfl
  | top => exact absurd rfl hx
  | coe r =>
    rw [if_neg (EReal.coe_ne_bot r), EReal.toReal_coe, ← Real.exp_add, ← EReal.coe_sub, Ideal.exp_coe, ← sub_eq_add_neg]

/-- Infinite terms and zeros sum to an infinity, unless every term is zero. -/
theorem sum_inf {ι : Type*} (s : Finset ι) (f : ι → EReal) (hf : ∀ i, f i = 0 ∨ f i = ⊤ ∨ f i = ⊥) :
    (∀ i ∈ s, f i = 0) ∧ ∑ i ∈ s, f i = 0 ∨ (∑ i ∈ s, f i = ⊤ ∨ ∑ i ∈ s, f i = ⊥) := by
  classical
  induction s using Finset.induction_on with
  | empty => left; simp
  | insert a s ha ih =>
    rw [Finset.sum_insert ha]
    rcases hf a with h | h | h <;> rcases ih with ⟨h0, hs⟩ | hs | hs
    · left
      refine ⟨fun i hi => ?_, by rw [h, hs, add_zero]⟩
      rcases Finset.mem_insert.mp hi with rfl | hi
      · exact h
      · exact h0 i hi
    all_goals (right; rw [h, hs]; simp)

/-- An infinite entry makes the normalised row zero. -/
theorem nrm_inf (o : Fin 256 → EReal) (g : FVec Ideal ⟨1, ![256]⟩ .f32) (d : Fin 256) (e : Fin 256) (h : o e = ⊤ ∨ o e = ⊥) : nrm o g d = 0 := by
  have h1 : o e * o e = ⊤ := by
    rcases h with h | h <;> rw [h]
    · exact EReal.top_mul_top
    · exact EReal.bot_mul_bot
  have h0 : ∀ x : EReal, 0 ≤ x * x := fun x => by
    rcases le_total 0 x with hx | hx
    · exact mul_nonneg hx hx
    · rw [← neg_mul_neg]
      exact mul_nonneg (EReal.neg_nonneg.mpr hx) (EReal.neg_nonneg.mpr hx)
  have hs : ∑ e : Fin 256, o e * o e = ⊤ :=
    top_le_iff.mp (h1 ▸ Finset.single_le_sum (f := fun e => o e * o e) (fun e _ => h0 (o e)) (Finset.mem_univ e))
  have e1 : Ideal.ofBits .f32 0x43800000#32 = ((256 : ℝ) : EReal) := by
    simp [Ideal.ofBits, Ideal.ieee]
    rw [← EReal.coe_mul]
    norm_num
  have e2 : ∃ r : ℝ, Ideal.ofBits .f32 0x358637BD#32 = r := by
    refine ⟨8796093 * (2 ^ 43)⁻¹, ?_⟩
    rw [EReal.coe_mul]
    simp [Ideal.ofBits, Ideal.ieee]
  obtain ⟨r, hr⟩ := e2
  unfold nrm
  rw [hs, e1, hr, Ideal.div_coe (by norm_num), EReal.top_mul_coe_of_pos (by norm_num), EReal.top_add_coe]
  have e3 : Ideal.rsqrt ⊤ = 0 := rfl
  rw [e3, mul_zero, zero_mul, zero_mul]

theorem nrm_zero (o : Fin 256 → EReal) (g : FVec Ideal ⟨1, ![256]⟩ .f32) (d : Fin 256) (h : o d = 0) : nrm o g d = 0 := by
  unfold nrm
  rw [h, zero_mul, zero_mul, zero_mul]

section Real
variable (q : FVec Ideal ⟨4, ![4, 4096, 16, 128]⟩ .f32) (k : FVec Ideal ⟨4, ![4, 16, 4096, 128]⟩ .f32) (v : Shape.Idx ⟨4, ![4, 8, 4096, 256]⟩ → ℝ)

/-- The score before the mask. -/
def sr (b : Fin 4) (h : Fin 16) (R κ : Fin 4096) : EReal := (∑ d : Fin 128, q (ix4 b R h d) * k (ix4 b h κ d)) * (litr : EReal)
/-- A key's weight, the row's sum of weights and its weighted sum of values; whether a score is plus infinity. -/
def w (b : Fin 4) (h : Fin 16) (R κ : Fin 4096) : ℝ := if κ.val ≤ R.val then pe (sr q k b h R κ) else 0
def W (b : Fin 4) (h : Fin 16) (R : Fin 4096) : ℝ := ∑ κ : Fin 4096, w q k b h R κ
def A (b : Fin 4) (g : Fin 8) (h : Fin 16) (R : Fin 4096) (d : Fin 256) : ℝ := ∑ κ : Fin 4096, v (ix4 b g κ d) * w q k b h R κ
def T (b : Fin 4) (h : Fin 16) (R : Fin 4096) : Prop := ∃ κ : Fin 4096, sc q k b h R κ = ⊤
/-- The row of a pair of heads, as the difference of two quotients. -/
def oS (lam : EReal) (b : Fin 4) (h : Fin 8) (R : Fin 4096) (d : Fin 256) : EReal :=
  quo (W q k b ⟨h.val * 2, by omega⟩ R) (A q k v b h ⟨h.val * 2, by omega⟩ R d) (T q k b ⟨h.val * 2, by omega⟩ R)
    - lam * quo (W q k b ⟨h.val * 2 + 1, by omega⟩ R) (A q k v b h ⟨h.val * 2 + 1, by omega⟩ R d) (T q k b ⟨h.val * 2 + 1, by omega⟩ R)

theorem sc_eq (b : Fin 4) (h : Fin 16) (R κ : Fin 4096) : sc q k b h R κ = if κ.val ≤ R.val then sr q k b h R κ else ⊥ := by
  unfold sc
  rw [cmp_le]
  by_cases hc : κ.val ≤ R.val
  · rw [if_pos hc, if_pos hc, lit_eq]
    rfl
  · rw [if_neg hc, if_neg hc]
    exact ninf_eq

theorem w_eq (b : Fin 4) (h : Fin 16) (R κ : Fin 4096) : w q k b h R κ = pe (sc q k b h R κ) := by
  rw [sc_eq]
  unfold w
  by_cases hc : κ.val ≤ R.val
  · rw [if_pos hc, if_pos hc]
  · rw [if_neg hc, if_neg hc]
    exact (if_pos rfl).symm

/-- Where no score is plus infinity and not all are minus infinity, the softmax is the quotient of weights. -/
theorem pr_good (b : Fin 4) (h : Fin 16) (R : Fin 4096) (hT : ¬T q k b h R) (hW : W q k b h R ≠ 0) (κ : Fin 4096) :
    pr q k b h R κ = ((w q k b h R κ / W q k b h R : ℝ) : EReal) := by
  have ht : ∀ x, sc q k b h R x ≠ ⊤ := fun x e => hT ⟨x, e⟩
  obtain ⟨μ, hμ⟩ := fold_real (fun x => sc q k b h R x) ht (by
    by_contra hc
    push Not at hc
    refine hW (Finset.sum_eq_zero fun x _ => ?_)
    rw [w_eq, hc x]
    exact if_pos rfl)
  have he : ∀ x, ex q k b h R x = ((w q k b h R x * Real.exp (-μ) : ℝ) : EReal) := fun x => by
    unfold ex
    rw [ninf_eq, hμ, max_eq_right bot_le, exp_sub' _ (ht x), ← w_eq]
  have hs : (∑ x : Fin 4096, ex q k b h R x) = ((W q k b h R * Real.exp (-μ) : ℝ) : EReal) := by
    simp only [he]
    rw [← coe_sum, ← Finset.sum_mul]
    rfl
  have h2 : Real.exp (-μ) ≠ 0 := (Real.exp_pos _).ne'
  unfold pr
  rw [hs, he, Ideal.div_coe (mul_ne_zero hW h2), ← EReal.coe_mul]
  congr 1
  field_simp

/-- Elsewhere it is minus infinity throughout. -/
theorem pr_bad (b : Fin 4) (h : Fin 16) (R : Fin 4096) (hb : T q k b h R ∨ W q k b h R = 0) (κ : Fin 4096) : pr q k b h R κ = ⊥ := by
  have hf : Finset.fold max ⊥ (fun x => sc q k b h R x) Finset.univ = Finset.univ.sup fun x => sc q k b h R x := rfl
  have he : ∀ x, ex q k b h R x = 0 := fun x => by
    unfold ex
    rw [ninf_eq, hf, max_eq_right bot_le]
    by_cases hT : T q k b h R
    · obtain ⟨y, hy⟩ := hT
      have h2 : (Finset.univ.sup fun x => sc q k b h R x) = ⊤ := top_le_iff.mp (hy ▸ Finset.le_sup (f := fun x => sc q k b h R x) (Finset.mem_univ y))
      rw [h2, sub_top]
      rfl
    · have hW := hb.resolve_left hT
      have h0 : ∀ y, sc q k b h R y = ⊥ := fun y => by
        have h1 := (Finset.sum_eq_zero_iff_of_nonneg fun y _ => (by rw [w_eq]; exact pe_nonneg _ : 0 ≤ w q k b h R y)).mp hW y (Finset.mem_univ y)
        rw [w_eq] at h1
        by_contra hc
        exact (pe_pos _ hc).ne' h1
      rw [h0 x, EReal.bot_sub]
      rfl
  unfold pr
  simp only [he, Finset.sum_const_zero]
  unfold Ideal.div
  rw [if_pos rfl, if_neg (lt_irrefl _)]

/-- With both maps finite the reference's row is the difference of quotients. -/
theorem oR_eq (lam : ℝ) (b : Fin 4) (h : Fin 8) (R : Fin 4096) (d : Fin 256)
    (h0 : ¬(T q k b ⟨h.val * 2, by omega⟩ R ∨ W q k b ⟨h.val * 2, by omega⟩ R = 0)) (h1 : ¬(T q k b ⟨h.val * 2 + 1, by omega⟩ R ∨ W q k b ⟨h.val * 2 + 1, by omega⟩ R = 0)) :
    oR q k (fun i => (v i : EReal)) lam b h R d = oS q k v lam b h R d := by
  unfold oR oS quo
  rw [if_neg h0, if_neg h1]
  have e0 := pr_good q k b ⟨h.val * 2, by omega⟩ R (fun t => h0 (Or.inl t)) fun t => h0 (Or.inr t)
  have e1 := pr_good q k b ⟨h.val * 2 + 1, by omega⟩ R (fun t => h1 (Or.inl t)) fun t => h1 (Or.inr t)
  simp only [e0, e1]
  simp only [← EReal.coe_mul, ← EReal.coe_sub, ← coe_sum]
  congr 1
  unfold A
  rw [Finset.sum_div, Finset.sum_div, Finset.mul_sum, ← Finset.sum_sub_distrib]
  refine Finset.sum_congr rfl fun κ _ => ?_
  ring

/-- A row of values times one infinity: zero after the norm, as a row with an infinity is. -/
theorem nrm_const (x : EReal) (hx : x = ⊤ ∨ x = ⊥) (b : Fin 4) (h : Fin 8) (g : FVec Ideal ⟨1, ![256]⟩ .f32) (d : Fin 256) :
    nrm (fun e => ∑ κ : Fin 4096, (v (ix4 b h κ e) : EReal) * x) g d = 0 := by
  have hf : ∀ (e : Fin 256) (κ : Fin 4096), (v (ix4 b h κ e) : EReal) * x = 0 ∨ (v (ix4 b h κ e) : EReal) * x = ⊤ ∨ (v (ix4 b h κ e) : EReal) * x = ⊥ := fun e κ => by
    generalize v (ix4 b h κ e) = r
    rcases lt_trichotomy r 0 with hr | hr | hr <;> rcases hx with rfl | rfl
    · exact Or.inr (Or.inr (EReal.coe_mul_top_of_neg hr))
    · exact Or.inr (Or.inl (EReal.coe_mul_bot_of_neg hr))
    · left; rw [hr, EReal.coe_zero, zero_mul]
    · left; rw [hr, EReal.coe_zero, zero_mul]
    · exact Or.inr (Or.inl (EReal.coe_mul_top_of_pos hr))
    · exact Or.inr (Or.inr (EReal.coe_mul_bot_of_pos hr))
  rcases sum_inf Finset.univ _ (hf d) with ⟨_, h0⟩ | hi
  · exact nrm_zero _ g d h0
  · exact nrm_inf _ g d d hi

/-- The normalised row, of whatever queries and keys. -/
theorem nrm_eq (lam : ℝ) (b : Fin 4) (h : Fin 8) (R : Fin 4096) (g : FVec Ideal ⟨1, ![256]⟩ .f32) (d : Fin 256) :
    nrm (fun e => oS q k v lam b h R e) g d = nrm (fun e => oR q k (fun i => (v i : EReal)) lam b h R e) g d := by
  by_cases h0 : T q k b ⟨h.val * 2, by omega⟩ R ∨ W q k b ⟨h.val * 2, by omega⟩ R = 0 <;>
    by_cases h1 : T q k b ⟨h.val * 2 + 1, by omega⟩ R ∨ W q k b ⟨h.val * 2 + 1, by omega⟩ R = 0
  · have e0 := pr_bad q k b _ R h0
    have e1 := pr_bad q k b _ R h1
    unfold oR oS quo
    simp only [e0, e1, if_pos h0, if_pos h1, EReal.bot_sub]
    rw [nrm_inf _ g d d (Or.inr rfl), nrm_const v ⊥ (Or.inr rfl) b h g d]
  · have e0 := pr_bad q k b _ R h0
    unfold oR oS quo
    simp only [e0, if_pos h0, EReal.bot_sub]
    rw [nrm_inf _ g d d (Or.inr rfl), nrm_const v ⊥ (Or.inr rfl) b h g d]
  · have e0 := pr_good q k b ⟨h.val * 2, by omega⟩ R (fun t => h0 (Or.inl t)) fun t => h0 (Or.inr t)
    have e1 := pr_bad q k b _ R h1
    unfold oR oS quo
    simp only [e0, e1, if_neg h0, if_pos h1]
    rcases lt_trichotomy lam 0 with hl | hl | hl
    · simp only [EReal.coe_mul_bot_of_neg hl, sub_top]
      rw [nrm_inf _ g d d (Or.inr rfl), nrm_const v ⊥ (Or.inr rfl) b h g d]
    · simp only [hl, EReal.coe_zero, zero_mul, sub_zero]
      refine congrArg (fun o => nrm o g d) (funext fun e => ?_)
      simp only [← EReal.coe_mul, ← coe_sum]
      congr 1
      unfold A
      rw [Finset.sum_div]
      exact Finset.sum_congr rfl fun κ _ => by ring
    · have ht : ∀ r : ℝ, (r : EReal) - ⊥ = ⊤ := fun r => EReal.coe_sub_bot r
      simp only [EReal.coe_mul_bot_of_pos hl, ht]
      rw [nrm_inf _ g d d (Or.inl rfl), nrm_const v ⊤ (Or.inl rfl) b h g d]
  · simp only [oR_eq q k v lam b h R _ h0 h1]

end Real

/-- Of real vectors the factor is real. -/
theorem lam_real (a b c d : Shape.Idx ⟨1, ![128]⟩ → ℝ) : ∃ l : ℝ, lamR (fun i => (a i : EReal)) (fun i => (b i : EReal)) (fun i => (c i : EReal)) (fun i => (d i : EReal)) = l := by
  obtain ⟨r, hr⟩ := c_real
  unfold lamR
  rw [hr]
  simp only [← EReal.coe_mul, ← coe_sum, Ideal.exp_coe, ← EReal.coe_sub, ← EReal.coe_add]
  exact ⟨_, rfl⟩

end Cert.AttnSpec
-- ==== Proof.Attn.Rowspec.lean ====
module

public import proofs.«01_k».proof.Proof.Attn.Reads
public import proofs.«01_k».proof.Proof.Attn.Spec

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Whole Cert.Online Cert.AttnSpec

/-! A point's rows of the result, for real values, are the rows of the plain mathematics. -/

section Arrays
variable (q : FVec Ideal ⟨4, ![4, 4096, 16, 128]⟩ .f32) (k : FVec Ideal ⟨4, ![4, 16, 4096, 128]⟩ .f32) (v : Shape.Idx ⟨4, ![4, 8, 4096, 256]⟩ → ℝ)

/-- A point's queries, scaled, its keys and its values, numbered from zero. -/
def Qn (b : Fin 4) (qi h r d : ℕ) : EReal := q (ix4 b (Fin.ofNat 4096 (qi * 2048 + r)) (Fin.ofNat 16 (2 * h + d / 128)) (Fin.ofNat 128 d)) * (litr : EReal) * ((1 / Real.log 2 : ℝ) : EReal)
def Kn (b : Fin 4) (h κ d : ℕ) : EReal := k (ix4 b (Fin.ofNat 16 (2 * h + d / 128)) (Fin.ofNat 4096 κ) (Fin.ofNat 128 d))
def Vn (b : Fin 4) (h d κ : ℕ) : ℝ := v (ix4 b (Fin.ofNat 8 h) (Fin.ofNat 4096 κ) (Fin.ofNat 256 d))

theorem log_pos' : 0 < 1 / Real.log 2 := one_div_pos.mpr (Real.log_pos (by norm_num))

/-- A positive real factor goes over a sum. -/
theorem sum_mul_pos {ι : Type*} (s : Finset ι) (f : ι → EReal) (r : ℝ) (hr : 0 < r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr.le) (EReal.coe_ne_top r) _ _

/-- A weight in powers of two is one in powers of `e`. -/
theorem pw_pe (x : EReal) : pw (x * ((1 / Real.log 2 : ℝ) : EReal)) = pe x := by
  have hl : Real.log 2 ≠ 0 := (Real.log_pos (by norm_num)).ne'
  unfold pe
  induction x using EReal.rec with
  | bot => rw [EReal.bot_mul_coe_of_pos log_pos', pw_bot, if_pos rfl]
  | top =>
    rw [EReal.top_mul_coe_of_pos log_pos', if_neg top_ne_bot]
    unfold pw
    rw [if_neg top_ne_bot, EReal.toReal_top, Real.rpow_zero, Real.exp_zero]
  | coe r =>
    rw [← EReal.coe_mul, pw_coe, if_neg (EReal.coe_ne_bot r), EReal.toReal_coe, Real.rpow_def_of_pos (by norm_num : (0 : ℝ) < 2)]
    congr 1
    field_simp

theorem top_iff (x : EReal) : x * ((1 / Real.log 2 : ℝ) : EReal) = ⊤ ↔ x = ⊤ := by
  induction x using EReal.rec with
  | bot => rw [EReal.bot_mul_coe_of_pos log_pos']
  | top => rw [EReal.top_mul_coe_of_pos log_pos']
  | coe r =>
    rw [← EReal.coe_mul]
    exact ⟨fun h => absurd h (EReal.coe_ne_top _), fun h => absurd h (EReal.coe_ne_top _)⟩

theorem sR_eq (b : Fin 4) (qi h n j : ℕ) (κ R : Fin 4096) (H : Fin 16) (hR : R.val = 2048 * qi + 512 * (n / 2) + j) (hH : H.val = 2 * h + n % 2) :
    sR (Qn q b qi h) (Kn k b h) n j κ.val = sr q k b H R κ * ((1 / Real.log 2 : ℝ) : EReal) := by
  unfold sR sr
  rw [sum_mul_pos _ _ _ lit_pos, sum_mul_pos _ _ _ log_pos']
  refine Finset.sum_congr rfl fun d _ => ?_
  unfold Qn Kn
  have e1 : Fin.ofNat 4096 (qi * 2048 + (512 * (n / 2) + j)) = R := Fin.ext (by
    show (qi * 2048 + (512 * (n / 2) + j)) % 4096 = R.val
    have := R.isLt
    omega)
  have e2 : Fin.ofNat 16 (2 * h + (128 * (n % 2) + d.val) / 128) = H := Fin.ext (by
    show (2 * h + (128 * (n % 2) + d.val) / 128) % 16 = H.val
    have := H.isLt
    omega)
  have e3 : Fin.ofNat 128 (128 * (n % 2) + d.val) = d := Fin.ext (by
    show (128 * (n % 2) + d.val) % 128 = d.val
    omega)
  have e4 : Fin.ofNat 4096 κ.val = κ := Fin.ext (Nat.mod_eq_of_lt κ.isLt)
  rw [e1, e2, e3, e4, ← mul_assoc, ← mul_assoc, mul_comm (k _)]

theorem wt_eq (b : Fin 4) (qi h n j : ℕ) (κ R : Fin 4096) (H : Fin 16) (hR : R.val = 2048 * qi + 512 * (n / 2) + j) (hH : H.val = 2 * h + n % 2) :
    wt (Qn q b qi h) (Kn k b h) qi n j κ.val = w q k b H R κ := by
  unfold wt w
  rw [← hR, sR_eq q k b qi h n j κ R H hR hH, pw_pe]

theorem Ta_eq (b : Fin 4) (qi h n j : ℕ) (R : Fin 4096) (H : Fin 16) (hR : R.val = 2048 * qi + 512 * (n / 2) + j) (hH : H.val = 2 * h + n % 2) :
    Ta (Qn q b qi h) (Kn k b h) qi n j = T q k b H R := by
  refine propext (exists_congr fun κ => ?_)
  rw [sc_eq]
  unfold sE
  rw [← hR, sR_eq q k b qi h n j κ R H hR hH]
  by_cases hc : κ.val ≤ R.val
  · rw [if_pos hc, if_pos hc]
    exact top_iff _
  · rw [if_neg hc, if_neg hc]

theorem Wa_eq (b : Fin 4) (qi h n j : ℕ) (R : Fin 4096) (H : Fin 16) (hR : R.val = 2048 * qi + 512 * (n / 2) + j) (hH : H.val = 2 * h + n % 2) :
    Wa (Qn q b qi h) (Kn k b h) qi n j = W q k b H R :=
  Finset.sum_congr rfl fun κ _ => wt_eq q k b qi h n j κ R H hR hH

theorem Aa_eq (b : Fin 4) (qi h n j : ℕ) (R : Fin 4096) (H : Fin 16) (hR : R.val = 2048 * qi + 512 * (n / 2) + j) (hH : H.val = 2 * h + n % 2) (g : Fin 8) (hg : g.val = h) (d : Fin 256) :
    Aa (Qn q b qi h) (Kn k b h) (Vn v b h) qi n j d.val = A q k v b g H R d := by
  refine Finset.sum_congr rfl fun κ _ => ?_
  rw [wt_eq q k b qi h n j κ R H hR hH]
  unfold Vn
  have e1 : Fin.ofNat 8 h = g := Fin.ext (by
    show h % 8 = g.val
    have := g.isLt
    omega)
  have e4 : Fin.ofNat 4096 κ.val = κ := Fin.ext (Nat.mod_eq_of_lt κ.isLt)
  have e3 : Fin.ofNat 256 d.val = d := Fin.ext (Nat.mod_eq_of_lt d.isLt)
  rw [e1, e3, e4]

theorem oK_eq (lam : EReal) (b : Fin 4) (qi h r : ℕ) (R : Fin 4096) (g : Fin 8) (hR : R.val = 2048 * qi + r) (hg : g.val = h) (d : Fin 256) :
    oK (Qn q b qi h) (Kn k b h) (Vn v b h) qi lam r d.val = oS q k v lam b g R d := by
  have i0 : R.val = 2048 * qi + 512 * (2 * (r / 512) / 2) + r % 512 := by omega
  have i1 : R.val = 2048 * qi + 512 * ((2 * (r / 512) + 1) / 2) + r % 512 := by omega
  have hg8 := g.isLt
  have j0 : (⟨g.val * 2, by omega⟩ : Fin 16).val = 2 * h + 2 * (r / 512) % 2 := by
    show g.val * 2 = _
    omega
  have j1 : (⟨g.val * 2 + 1, by omega⟩ : Fin 16).val = 2 * h + (2 * (r / 512) + 1) % 2 := by
    show g.val * 2 + 1 = _
    omega
  unfold oK oS
  rw [Aa_eq q k v b qi h _ _ R _ i0 j0 g hg d, Aa_eq q k v b qi h _ _ R _ i1 j1 g hg d, Wa_eq q k b qi h _ _ R _ i0 j0, Wa_eq q k b qi h _ _ R _ i1 j1, Ta_eq q k b qi h _ _ R _ i0 j0, Ta_eq q k b qi h _ _ R _ i1 j1]

end Arrays

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

variable (m : (ℓ : Loc nD τ sig) → Buf (Elt Ideal) ℓ)

/-- The four factor vectors and the gain as the call is handed them. -/
abbrev a3 (c : Dev nD) : FVec Ideal S128 .f32 := m ((c : Thread nD τ).loc main_arg3)
abbrev a4 (c : Dev nD) : FVec Ideal S128 .f32 := m ((c : Thread nD τ).loc main_arg4)
abbrev a5 (c : Dev nD) : FVec Ideal S128 .f32 := m ((c : Thread nD τ).loc main_arg5)
abbrev a6 (c : Dev nD) : FVec Ideal S128 .f32 := m ((c : Thread nD τ).loc main_arg6)
abbrev ga (c : Dev nD) : FVec Ideal S256 .f32 := m ((c : Thread nD τ).loc main_arg7)

theorem lam_at (c : Dev nD) (t : Fin cfg0.N) :
    (k0_pay530 (F := Ideal) (iblk m c 3 t) (iblk m c 4 t) (iblk m c 5 t) (iblk m c 6 t)) (ix2 0 0) = lamR (a3 m c) (a4 m c) (a5 m c) (a6 m c) := by
  refine (pay530_at _ _ _ _).trans ?_
  have e3 := fun d => (l_read m c t d).1
  have e4 := fun d => (l_read m c t d).2.1
  have e5 := fun d => (l_read m c t d).2.2.1
  have e6 := fun d => (l_read m c t d).2.2.2
  unfold lamR
  simp only [e3, e4, e5, e6]

theorem row_at (c : Dev nD) (t : Fin cfg0.N) (v : Shape.Idx ⟨4, ![4, 8, 4096, 256]⟩ → ℝ)
    (hv : va m c = fun i => (v i : EReal))
    (r : Fin 2048) (d : Fin 256) (b : Fin 4) (R : Fin 4096) (g : Fin 8) (hb : b.val = t.val / 16) (hR : R.val = t.val % 2 * 2048 + r.val) (hg : g.val = t.val / 2 % 8) :
    (outF (F := Ideal) (grid0.coords t) (iblk m c 0 t) (iblk m c 1 t) (iblk m c 2 t) (iblk m c 3 t) (iblk m c 4 t) (iblk m c 5 t) (iblk m c 6 t) (iblk m c 7 t)) (ix3 0 r d)
      = nrm (fun e => oS (qa m c) (ka m c) v (lamR (a3 m c) (a4 m c) (a5 m c) (a6 m c)) b g R e) (ga m c) d := by
  have hl : Real.log 2 ≠ 0 := (Real.log_pos (by norm_num)).ne'
  have h3 : ∀ (r : Fin 2048) (d : Fin 256), (iblk m c 0 t : FVec Ideal S1x1x2048x256 .bf16) (ix4 0 0 r d) = Qn (qa m c) b (t.val % 2) (t.val / 2 % 8) r.val d.val := fun r d => by
    refine (q_read m c t r d b (Fin.ofNat 4096 (t.val % 2 * 2048 + r.val)) (Fin.ofNat 16 (2 * (t.val / 2 % 8) + d.val / 128)) (Fin.ofNat 128 d.val) hb ?_ ?_ rfl).trans ?_
    · exact Nat.mod_eq_of_lt (by omega)
    · exact Nat.mod_eq_of_lt (by omega)
    · unfold Qn
      rw [log_two, Ideal.div_coe hl, ← lit_eq]
  have h4 : ∀ (r : Fin 4096) (d : Fin 256), (iblk m c 1 t : FVec Ideal S1x1x4096x256 .bf16) (ix4 0 0 r d) = Kn (ka m c) b (t.val / 2 % 8) r.val d.val := fun r d => by
    refine (k_read m c t r d b (Fin.ofNat 16 (2 * (t.val / 2 % 8) + d.val / 128)) (Fin.ofNat 128 d.val) hb ?_ rfl).trans ?_
    · exact Nat.mod_eq_of_lt (by omega)
    · unfold Kn
      rw [show Fin.ofNat 4096 r.val = r from Fin.ext (Nat.mod_eq_of_lt r.isLt)]
  have h5 : ∀ (d : Fin 256) (r : Fin 4096), (iblk m c 2 t : FVec Ideal S256x4096 .bf16) (ix2 d r) = ((Vn v b (t.val / 2 % 8) d.val r.val : ℝ) : EReal) := fun d r => by
    refine (v_read m c t r d b (Fin.ofNat 8 (t.val / 2 % 8)) hb ?_).trans ?_
    · exact Nat.mod_eq_of_lt (by omega)
    · unfold Vn
      rw [hv, show Fin.ofNat 4096 r.val = r from Fin.ext (Nat.mod_eq_of_lt r.isLt), show Fin.ofNat 256 d.val = d from Fin.ext (Nat.mod_eq_of_lt d.isLt)]
  refine (out_at _ _ _ t _ _ _ h3 h4 h5 _ _ _ _ _ r d (fun e => oS (qa m c) (ka m c) v (lamR (a3 m c) (a4 m c) (a5 m c) (a6 m c)) b g R e) fun e => ?_).trans ?_
  · rw [lam_at]
    exact oK_eq (qa m c) (ka m c) v _ b _ _ _ R g (by omega) hg e
  · unfold nrm
    rw [g_read]
    exact (mul_assoc _ _ _).symm

end Cert.KernelIdeal.Attn
-- ==== Proof.Attn.Ref.lean ====
module

public import proofs.«01_k».proof.Proof.Gen.ReferenceIdeal.Run
public import Idealize.ShloMosaic.Lib.Pipeline.ValueKit
public import Idealize.ShloMosaic.Lib.Tactic.CleanTypes
public import Idealize.ShloMosaic.Lib.Claim
public import proofs.«01_k».proof.Defs
public import proofs.«01_k».proof.Proof.Attn.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.AttnSpec

/-! The reference's attention, stage by stage, at an entry. -/

/-- The reference's masked scores. -/
def scA (q : FVec Ideal S4x4096x16x128 .f32) (k : FVec Ideal S4x16x4096x128 .f32) : FVec Ideal S4x16x4096x4096 .f32 :=
  select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S4x4096x16x128_S4x16x4096x128_S4x16x4096x4096_3_3_1_2_02_01 none q k) (broadcastInDim S4x16x4096x4096 ![] bcast_S_S4x16x4096x4096 (constant S_ .f32 0x3DB504F3#32))) (broadcastInDim S4x16x4096x4096 ![] bcast_S_S4x16x4096x4096 (id (constant S_ .f32 0xFF800000#32)))

/-- The largest score of each row. -/
def mxA (s : FVec Ideal S4x16x4096x4096 .f32) : FVec Ideal S4x16x4096 .f32 :=
  Host.reduce FloatOps.maximumf (s) (constant S_ .f32 0xFF800000#32) reducesTo_S4x16x4096x4096_S4x16x4096_d3 h_S_

/-- The scores less their row's largest, exponentiated. -/
def exA (s : FVec Ideal S4x16x4096x4096 .f32) (x : FVec Ideal S4x16x4096 .f32) : FVec Ideal S4x16x4096x4096 .f32 :=
  Host.exp (subf (s) (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) x))))

/-- The exponentials over their row's sum. -/
def prA (e : FVec Ideal S4x16x4096x4096 .f32) : FVec Ideal S4x16x4096x4096 .f32 :=
  Host.divf (e) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (e) (constant S_ .f32 0x00000000#32) reducesTo_S4x16x4096x4096_S4x16x4096_d3 h_S_)))

/-- The learned factor. -/
def lamA (a b c d : FVec Ideal S128 .f32) : FVec Ideal S_ .f32 :=
  addf (subf (Host.exp (Host.reduceAdd (mulf a b) (constant S_ .f32 0x00000000#32) reducesTo_S128_S_d0 h_S_)) (Host.exp (Host.reduceAdd (mulf c d) (constant S_ .f32 0x00000000#32) reducesTo_S128_S_d0 h_S_))) (constant S_ .f32 0x3EB60549#32)

/-- The values weighted by the difference of a pair of softmaxes. -/
def oA (v : FVec Ideal S4x8x4096x256 .f32) (p : FVec Ideal S4x16x4096x4096 .f32) (l : FVec Ideal S_ .f32) : FVec Ideal S4x4096x8x256 .f32 :=
  transpose S4x4096x8x256 [0, 3, 1, 2] (Host.dotGeneral dot_S4x8x4096x256_S4x8x4096x4096_S4x8x256x4096_2_3_3_2_01_01 none v (subf (shapeCast _ (extractStridedSlice S4x8x1x4096x4096 ![0, 0, 0, 0, 0] (shapeCast _ (p) shapeCasts_S4x16x4096x4096_S4x8x2x4096x4096) slices_S4x8x2x4096x4096_S4x8x1x4096x4096_0_0_0_0_0) shapeCasts_S4x8x1x4096x4096_S4x8x4096x4096) (mulf (broadcastInDim S4x8x4096x4096 ![] bcast_S_S4x8x4096x4096 (l)) (shapeCast _ (extractStridedSlice S4x8x1x4096x4096 ![0, 0, 1, 0, 0] (shapeCast _ (p) shapeCasts_S4x16x4096x4096_S4x8x2x4096x4096) slices_S4x8x2x4096x4096_S4x8x1x4096x4096_0_0_1_0_0) shapeCasts_S4x8x1x4096x4096_S4x8x4096x4096)))) transposes_S4x8x256x4096_S4x4096x8x256_0_3_1_2

/-- The rows normalised, scaled and laid side by side. -/
def nrmA (o : FVec Ideal S4x4096x8x256 .f32) (g : FVec Ideal S256 .f32) : FVec Ideal S4x4096x2048 .bf16 :=
  truncf .bf16 (shapeCast _ (mulf (mulf (mulf (o) (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf (o) (o)) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x358637BD#32)))))) (broadcastInDim S4x4096x8x256 ![0, 1, 2, 3] bcast_S1x1x1x256_S4x4096x8x256_0_1_2_3 (broadcastInDim S1x1x1x256 ![3] bcast_S256_S1x1x1x256_3 g))) (broadcastInDim S4x4096x8x256 ![] bcast_S_S4x4096x8x256 (constant S_ .f32 0x3F24FD5C#32))) shapeCasts_S4x4096x8x256_S4x4096x2048) bitsLt_bf16_f32

theorem scA_at (q : FVec Ideal S4x4096x16x128 .f32) (k : FVec Ideal S4x16x4096x128 .f32) (b : Fin 4) (h : Fin 16) (R κ : Fin 4096) : scA q k (ix4 b h R κ) = sc q k b h R κ := by
  unfold scA
  pointwise
  rfl

theorem max_gen {n0 n1 n2 n3 : ℕ} {u : Shape} (s : FVec Ideal ⟨4, ![n0, n1, n2, n3]⟩ .f32) (z : FVec Ideal u .f32) (h : (⟨4, ![n0, n1, n2, n3]⟩ : Shape).ReducesTo [3] ⟨3, ![n0, n1, n2]⟩)
    (hu : 0 < u.numel) (a : Fin n0) (b : Fin n1) (c : Fin n2) :
    Host.reduce FloatOps.maximumf s z h hu (ix3 a b c) = Finset.fold max (z (Shape.Idx.first hu)) (fun k : Fin n3 => s (ix4 a b c k)) Finset.univ :=
  (Host.reduce_eq_fold FloatOps.maximumf s z h hu (ix3 a b c)).trans (h.fold_fiber_r4_a3 (ix3 a b c) max (z (Shape.Idx.first hu)) s)

theorem mxA_at (s : FVec Ideal S4x16x4096x4096 .f32) (b : Fin 4) (h : Fin 16) (R : Fin 4096) :
    mxA s (ix3 b h R) = Finset.fold max ninf (fun x : Fin 4096 => s (ix4 b h R x)) Finset.univ :=
  max_gen s _ _ _ b h R

theorem exA_at (s : FVec Ideal S4x16x4096x4096 .f32) (x : FVec Ideal S4x16x4096 .f32) (b : Fin 4) (h : Fin 16) (R κ : Fin 4096) :
    exA s x (ix4 b h R κ) = Ideal.exp (s (ix4 b h R κ) - max ninf (x (ix3 b h R))) := by
  unfold exA
  pointwise

theorem prA_at (e : FVec Ideal S4x16x4096x4096 .f32) (b : Fin 4) (h : Fin 16) (R κ : Fin 4096) :
    prA e (ix4 b h R κ) = Ideal.div (e (ix4 b h R κ)) (∑ x : Fin 4096, e (ix4 b h R x)) := by
  unfold prA
  pointwise

theorem lamA_at (a b c d : FVec Ideal S128 .f32) : lamA a b c d ix0 = lamR a b c d := by
  unfold lamA
  pointwise
  rfl

theorem oA_at (v : FVec Ideal S4x8x4096x256 .f32) (p : FVec Ideal S4x16x4096x4096 .f32) (l : FVec Ideal S_ .f32) (b : Fin 4) (R : Fin 4096) (h : Fin 8) (d : Fin 256) :
    oA v p l (ix4 b R h d) = ∑ κ : Fin 4096, v (ix4 b h κ d) * (p (ix4 b ⟨h.val * 2, by omega⟩ R κ) - l ix0 * p (ix4 b ⟨h.val * 2 + 1, by omega⟩ R κ)) := by
  unfold oA
  pointwise

theorem nrmA_at (o : FVec Ideal S4x4096x8x256 .f32) (g : FVec Ideal S256 .f32) (b : Fin 4) (R : Fin 4096) (D : Fin 2048) :
    nrmA o g (ix3 b R D) = nrm (fun d => o (ix4 b R ⟨D.val / 256, by omega⟩ d)) g ⟨D.val % 256, by omega⟩ := by
  unfold nrmA
  pointwise
  rfl

variable (m : (ℓ : Loc nD τ sig) → Buf (Elt Ideal) ℓ)

theorem res_eq (c : Dev nD) : Value.res_main_v61 m c
    = nrmA (oA (m ((c : Thread nD τ).loc main_arg2)) (prA (exA (scA (m ((c : Thread nD τ).loc main_arg0)) (m ((c : Thread nD τ).loc main_arg1))) (mxA (scA (m ((c : Thread nD τ).loc main_arg0)) (m ((c : Thread nD τ).loc main_arg1))))))
        (lamA (m ((c : Thread nD τ).loc main_arg3)) (m ((c : Thread nD τ).loc main_arg4)) (m ((c : Thread nD τ).loc main_arg5)) (m ((c : Thread nD τ).loc main_arg6)))) (m ((c : Thread nD τ).loc main_arg7)) := by
  unfold Value.res_main_v61 nrmA oA prA exA mxA scA lamA
  rfl

theorem res61 (c : Dev nD) (b : Fin 4) (R : Fin 4096) (D : Fin 2048) :
    (Value.res_main_v61 m c : FVec Ideal S4x4096x2048 .bf16) (ix3 b R D)
      = nrm (fun d => oR (m ((c : Thread nD τ).loc main_arg0)) (m ((c : Thread nD τ).loc main_arg1)) (m ((c : Thread nD τ).loc main_arg2))
          (lamR (m ((c : Thread nD τ).loc main_arg3)) (m ((c : Thread nD τ).loc main_arg4)) (m ((c : Thread nD τ).loc main_arg5)) (m ((c : Thread nD τ).loc main_arg6)))
          b ⟨D.val / 256, by omega⟩ R d) (m ((c : Thread nD τ).loc main_arg7)) ⟨D.val % 256, by omega⟩ := by
  rw [res_eq, nrmA_at]
  simp only [oA_at, prA_at, exA_at, mxA_at, scA_at, lamA_at]
  rfl

end Cert.ReferenceIdeal.Attn
-- ==== Proof.Attn.Pre.lean ====
module

public import proofs.«01_k».proof.Proof.Gen.Pre_finite
public import proofs.«01_k».proof.Defs
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Pre_finite

/-! What the precondition says of the entries: each of the named arrays holds real numbers. -/

theorem inf_top : Ideal.ofBits .f32 0x7F800000#32 = ⊤ := by simp [Ideal.ofBits, Ideal.ieee]

/-- Below the infinity in absolute value is a real number. -/
theorem real_of (x : EReal) (h : Ideal.cmp .olt (max x (-x)) (Ideal.ofBits .f32 0x7F800000#32) = 1#1) : ∃ r : ℝ, x = r := by
  rw [inf_top] at h
  induction x with
  | bot => simp [Ideal.cmp] at h
  | top => simp [Ideal.cmp] at h
  | coe r => exact ⟨r, rfl⟩

theorem all_real {s : Shape} {axes : List (Fin s.rank)} (a : FVec Ideal s .f32) (init : IVec S_ 1) (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32))) init hr hu j = 1#1) :
    ∃ r : s.Idx → ℝ, a = fun i => (r i : EReal) := by
  haveI : Subsingleton S_.Idx := ⟨fun x y => funext fun a => a.elim0⟩
  have h : ∀ i, ∃ r : ℝ, a i = r := fun i => real_of (a i) (Host.reduce_andi_all _ _ hr hu j e i)
  choose r hr using h
  exact ⟨r, funext hr⟩

theorem reals (a0 : FVec Ideal S4x4096x16x128 .f32) (a1 : FVec Ideal S4x16x4096x128 .f32) (a2 : FVec Ideal S4x8x4096x256 .f32) (a3 a4 a5 a6 : FVec Ideal S128 .f32) (a7 : FVec Ideal S256 .f32)
    (a8 a9 : FVec Ideal S2x2048x5632 .f32) (a10 : FVec Ideal S2x5632x2048 .f32) (h : fn (F := Ideal) a0 a1 a2 a3 a4 a5 a6 a7 a8 a9 a10 = fun _ => 1#1) :
    (∃ r : S4x8x4096x256.Idx → ℝ, a2 = fun i => (r i : EReal))
      ∧ (∃ r : S128.Idx → ℝ, a3 = fun i => (r i : EReal)) ∧ (∃ r : S128.Idx → ℝ, a4 = fun i => (r i : EReal)) ∧ (∃ r : S128.Idx → ℝ, a5 = fun i => (r i : EReal)) ∧ (∃ r : S128.Idx → ℝ, a6 = fun i => (r i : EReal)) := by
  have e := congrFun h fun a => a.elim0
  unfold fn fn_part1 at e
  dsimp only [andi] at e
  simp only [IntOp.andi_eq_one] at e
  obtain ⟨⟨⟨⟨e2, e3⟩, e4⟩, e5⟩, e6⟩ := e
  exact ⟨all_real _ _ _ _ _ _ e2, all_real _ _ _ _ _ _ e3, all_real _ _ _ _ _ _ e4, all_real _ _ _ _ _ _ e5, all_real _ _ _ _ _ _ e6⟩

end Cert.Pre_finite
-- ==== Proof.Attn.Value.lean ====
/-
  The attention call's value claim: after the run the result array holds, row by row, the plain mathematics of the
  differential softmax attention, and the three cast arrays hold the second weight of each pair. The reference's term
  reads as the same.
-/
module

public import proofs.«01_k».proof.Proof.Attn.Run
public import proofs.«01_k».proof.Proof.Attn.Rowspec
public import Idealize.ShloMosaic.Lib.Claim
public import proofs.«01_k».proof.Proof.Attn.Ref
public import proofs.«01_k».proof.Proof.Attn.Pre

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnSpec

/-- The attention's result of the call's arrays. -/
def attn (q : FVec Ideal ⟨4, ![4, 4096, 16, 128]⟩ .f32) (k : FVec Ideal ⟨4, ![4, 16, 4096, 128]⟩ .f32) (v : FVec Ideal ⟨4, ![4, 8, 4096, 256]⟩ .f32)
    (a b c d : FVec Ideal ⟨1, ![128]⟩ .f32) (g : FVec Ideal ⟨1, ![256]⟩ .f32) : FVec Ideal ⟨3, ![4, 4096, 2048]⟩ .bf16 := fun i =>
  nrm (fun e => oR q k v (lamR a b c d) (i 0) ⟨(i 2).val / 256, by have h : (i 2).val < 2048 := (i 2).isLt; omega⟩ (i 1) e) g ⟨(i 2).val % 256, Nat.mod_lt _ (by decide)⟩

/-- The second of two matrices. -/
def snd {n l : ℕ} (x : FVec Ideal ⟨3, ![2, n, l]⟩ .f32) : FVec Ideal ⟨2, ![n, l]⟩ .bf16 := fun i => x (ix3 1 (i 0) (i 1))

variable (m : (ℓ : Loc nD τ sig) → Buf (Elt Ideal) ℓ)

/-- The result array after the run. -/
theorem final (c : Dev nD) (v : Shape.Idx ⟨4, ![4, 8, 4096, 256]⟩ → ℝ)
    (hv : va m c = fun i => (v i : EReal))
    (l : ℝ) (hl : lamR (a3 m c) (a4 m c) (a5 m c) (a6 m c) = l) :
    (dats m 0 c).arrAt 11 (cfgs 0).N = attn (qa m c) (ka m c) (va m c) (a3 m c) (a4 m c) (a5 m c) (a6 m c) (ga m c) := by
  refine (dats m 0 c).arrAt_eq_of_covers 11 _ (by decide +kernel) fun t hf y => ?_
  blk_simp
  rw [after_11]
  have ht := (idx t).2.2.2.2.2.2.2.2.2
  obtain ⟨R, hR⟩ : ∃ R : Fin 4096, R.val = t.val % 2 * 2048 + (y 1).val := ⟨⟨_, by have h : (y 1).val < 2048 := (y 1).isLt; omega⟩, rfl⟩
  obtain ⟨D, hD⟩ : ∃ D : Fin 2048, D.val = t.val / 2 % 8 * 256 + (y 2).val := ⟨⟨_, by have h : (y 2).val < 256 := (y 2).isLt; omega⟩, rfl⟩
  obtain ⟨b, hb⟩ : ∃ b : Fin 4, b.val = t.val / 16 := ⟨⟨_, by omega⟩, rfl⟩
  have hy : (((cfg0.win 11).blk t).view.emb y : S4x4096x2048.Idx) = ix3 b R D := by
    blk_ext [idx t]
  refine Eq.trans ?_ (congrArg (attn (qa m c) (ka m c) (va m c) (a3 m c) (a4 m c) (a5 m c) (a6 m c) (ga m c)) hy.symm)
  have he : y = ix3 0 (y 1) (y 2) := by blk_ext
  have h2 : (y 2).val < 256 := (y 2).isLt
  have e1 : (⟨D.val % 256, by omega⟩ : Fin 256) = y 2 := Fin.ext (by show D.val % 256 = (y 2).val; omega)
  refine (congrArg _ he).trans ((row_at m c t v hv (y 1) (y 2) b R ⟨D.val / 256, by omega⟩ hb hR (by show D.val / 256 = _; omega)).trans ?_)
  show _ = nrm (fun e => oR (qa m c) (ka m c) (va m c) (lamR (a3 m c) (a4 m c) (a5 m c) (a6 m c)) b ⟨D.val / 256, by omega⟩ R e) (ga m c) ⟨D.val % 256, by omega⟩
  rw [hv, hl, e1]
  exact nrm_eq (qa m c) (ka m c) v l b ⟨D.val / 256, by omega⟩ R (ga m c) (y 2)

theorem cast_12 (c : Dev nD) : (dats m 0 c).arrAt 12 (cfgs 0).N = snd (m ((c : Thread nD τ).loc main_arg8) : FVec Ideal ⟨3, ![2, 2048, 5632]⟩ .f32) := by
  refine (dats m 0 c).arrAt_eq_of_covers 12 _ (by decide +kernel) fun t hf y => ?_
  blk_simp
  rw [after_12]
  have ht := (idx t).2.2.2.2.2.2.2.2.2
  obtain ⟨t', ht'⟩ : ∃ t', cl 0 (by decide) t = t' := ⟨_, rfl⟩
  have hv : t'.val = max 0 (min t.val 10) := ht' ▸ rfl
  rw [ht']
  obtain ⟨R, hR⟩ : ∃ R : Fin 2048, R.val = (y 0).val := ⟨⟨_, by have h : (y 0).val < 2048 := (y 0).isLt; omega⟩, rfl⟩
  obtain ⟨D, hD⟩ : ∃ D : Fin 5632, D.val = min t.val 10 * 512 + (y 1).val := ⟨⟨_, by have h : (y 1).val < 512 := (y 1).isLt; omega⟩, rfl⟩
  have hx := (idxc t).2.2.2.1
  have hz := (idxc t').1 (by omega)
  have hy : (((cfg0.win 12).blk t).view.emb y : S2048x5632.Idx) = ix2 R D := by
    blk_ext [hx]
  refine Eq.trans ?_ (congrArg (snd (m ((c : Thread nD τ).loc main_arg8) : FVec Ideal ⟨3, ![2, 2048, 5632]⟩ .f32)) hy.symm)
  have he : y = ix2 (y 0) (y 1) := by blk_ext
  refine (congrArg _ he).trans ?_
  unfold k0_pay318
  pointwise
  blk_simp [iblk]
  show _ = (m ((c : Thread nD τ).loc main_arg8) : FVec Ideal ⟨3, ![2, 2048, 5632]⟩ .f32) (ix3 1 R D)
  entry_read
  blk_ext [hz]

theorem cast_13 (c : Dev nD) : (dats m 0 c).arrAt 13 (cfgs 0).N = snd (m ((c : Thread nD τ).loc main_arg9) : FVec Ideal ⟨3, ![2, 2048, 5632]⟩ .f32) := by
  refine (dats m 0 c).arrAt_eq_of_covers 13 _ (by decide +kernel) fun t hf y => ?_
  blk_simp
  rw [after_13]
  have ht := (idx t).2.2.2.2.2.2.2.2.2
  obtain ⟨t', ht'⟩ : ∃ t', cl 11 (by decide) t = t' := ⟨_, rfl⟩
  have hv : t'.val = max 11 (min t.val 21) := ht' ▸ rfl
  rw [ht']
  obtain ⟨R, hR⟩ : ∃ R : Fin 2048, R.val = (y 0).val := ⟨⟨_, by have h : (y 0).val < 2048 := (y 0).isLt; omega⟩, rfl⟩
  obtain ⟨D, hD⟩ : ∃ D : Fin 5632, D.val = (max 11 (min t.val 21) - 11) * 512 + (y 1).val := ⟨⟨_, by have h : (y 1).val < 512 := (y 1).isLt; omega⟩, rfl⟩
  have hx := (idxc t).2.2.2.2.1
  have hz := (idxc t').2.1 (by omega)
  have hy : (((cfg0.win 13).blk t).view.emb y : S2048x5632.Idx) = ix2 R D := by
    blk_ext [hx]
  refine Eq.trans ?_ (congrArg (snd (m ((c : Thread nD τ).loc main_arg9) : FVec Ideal ⟨3, ![2, 2048, 5632]⟩ .f32)) hy.symm)
  have he : y = ix2 (y 0) (y 1) := by blk_ext
  refine (congrArg _ he).trans ?_
  unfold k0_pay319
  pointwise
  blk_simp [iblk]
  show _ = (m ((c : Thread nD τ).loc main_arg9) : FVec Ideal ⟨3, ![2, 2048, 5632]⟩ .f32) (ix3 1 R D)
  entry_read
  blk_ext [hz]

theorem cast_14 (c : Dev nD) : (dats m 0 c).arrAt 14 (cfgs 0).N = snd (m ((c : Thread nD τ).loc main_arg10) : FVec Ideal ⟨3, ![2, 5632, 2048]⟩ .f32) := by
  refine (dats m 0 c).arrAt_eq_of_covers 14 _ (by decide +kernel) fun t hf y => ?_
  blk_simp
  rw [after_14]
  have ht := (idx t).2.2.2.2.2.2.2.2.2
  obtain ⟨t', ht'⟩ : ∃ t', cl 22 (by decide) t = t' := ⟨_, rfl⟩
  have hv : t'.val = max 22 (min t.val 32) := ht' ▸ rfl
  rw [ht']
  obtain ⟨R, hR⟩ : ∃ R : Fin 5632, R.val = (max 22 (min t.val 32) - 22) * 512 + (y 0).val := ⟨⟨_, by have h : (y 0).val < 512 := (y 0).isLt; omega⟩, rfl⟩
  obtain ⟨D, hD⟩ : ∃ D : Fin 2048, D.val = (y 1).val := ⟨⟨_, by have h : (y 1).val < 2048 := (y 1).isLt; omega⟩, rfl⟩
  have hx := (idxc t).2.2.2.2.2
  have hz := (idxc t').2.2.1 (by omega)
  have hy : (((cfg0.win 14).blk t).view.emb y : S5632x2048.Idx) = ix2 R D := by
    blk_ext [hx]
  refine Eq.trans ?_ (congrArg (snd (m ((c : Thread nD τ).loc main_arg10) : FVec Ideal ⟨3, ![2, 5632, 2048]⟩ .f32)) hy.symm)
  have he : y = ix2 (y 0) (y 1) := by blk_ext
  refine (congrArg _ he).trans ?_
  unfold k0_pay320
  pointwise
  blk_simp [iblk]
  show _ = (m ((c : Thread nD τ).loc main_arg10) : FVec Ideal ⟨3, ![2, 5632, 2048]⟩ .f32) (ix3 1 R D)
  entry_read
  blk_ext [hz]

/-- What the reference computes: the same rows, and the same casts. -/
theorem ref_run (m' : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m', fun _ => 0, ρ⟩ fun r => ∀ c : Dev Cert.ReferenceIdeal.nD,
      r.2.mem ((c.tc : Thread Cert.ReferenceIdeal.nD Cert.ReferenceIdeal.τ).loc Cert.ReferenceIdeal.main_v61) = attn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v62) = snd ((m' ((c.tc : Thread Cert.ReferenceIdeal.nD Cert.ReferenceIdeal.τ).loc Cert.ReferenceIdeal.main_arg8)) : FVec Ideal ⟨3, ![2, 2048, 5632]⟩ .f32)
      ∧ r.2.mem ((c.tc : Thread Cert.ReferenceIdeal.nD Cert.ReferenceIdeal.τ).loc Cert.ReferenceIdeal.main_v63) = snd ((m' ((c.tc : Thread Cert.ReferenceIdeal.nD Cert.ReferenceIdeal.τ).loc Cert.ReferenceIdeal.main_arg9)) : FVec Ideal ⟨3, ![2, 2048, 5632]⟩ .f32)
      ∧ r.2.mem ((c.tc : Thread Cert.ReferenceIdeal.nD Cert.ReferenceIdeal.τ).loc Cert.ReferenceIdeal.main_v64) = snd ((m' ((c.tc : Thread Cert.ReferenceIdeal.nD Cert.ReferenceIdeal.τ).loc Cert.ReferenceIdeal.main_arg10)) : FVec Ideal ⟨3, ![2, 5632, 2048]⟩ .f32)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10) := by
  refine (θ_run _ _ _).mono (fun r h c => ⟨(h c).1.trans ?_, (h c).2.1.trans ?_, (h c).2.2.1.trans ?_, (h c).2.2.2.1.trans ?_, (h c).2.2.2.2⟩) (Cert.ReferenceIdeal.Value.run m' ρ)
  · funext i
    have he : i = ix3 (i 0) (i 1) (i 2) := by blk_ext
    exact (congrArg (Cert.ReferenceIdeal.Value.res_main_v61 m' c) he).trans (Cert.ReferenceIdeal.Attn.res61 m' c (i 0) (i 1) (i 2))
  all_goals
    funext i
    idx_vars i
    unfold snd
    clean_types
    pointwise
    try rfl

/-- What the kernel leaves in its four result arrays, and its arguments as they were. -/
theorem ker_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20_0) = (dats m 0 c).arrAt 11 (cfgs 0).N
      ∧ r.2.mem ((c.tc : Thread nD τ).loc main_v20_1) = (dats m 0 c).arrAt 12 (cfgs 0).N
      ∧ r.2.mem ((c.tc : Thread nD τ).loc main_v20_2) = (dats m 0 c).arrAt 13 (cfgs 0).N
      ∧ r.2.mem ((c.tc : Thread nD τ).loc main_v20_3) = (dats m 0 c).arrAt 14 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h.1 c).1 11, (h.1 c).1 12, (h.1 c).1 13, (h.1 c).1 14, h.2.1 c⟩)
    (θ_run_and (run_main m ρ) (frame m ρ))

/-- Kernel and reference end with the same four arrays. -/
theorem algebraic : Cert.algebraic_KernelIdeal_ReferenceIdeal_pre_finite := by
  pair_intro
  · run_from ker_run m g
  · have hf : ∀ c : Dev nD, (dats m 0 c).arrAt 11 (cfgs 0).N = attn (qa m c) (ka m c) (va m c) (a3 m c) (a4 m c) (a5 m c) (a6 m c) (ga m c) := fun c => by
      obtain ⟨⟨v, hv⟩, ⟨b3, h3⟩, ⟨b4, h4⟩, ⟨b5, h5⟩, ⟨b6, h6⟩⟩ := Cert.Pre_finite.reals _ _ _ _ _ _ _ _ _ _ _ (hpre c)
      obtain ⟨l, hl⟩ := lam_real b3 b4 b5 b6
      refine final m c v hv l ?_
      have e3 : a3 m c = fun i => (b3 i : EReal) := h3
      have e4 : a4 m c = fun i => (b4 i : EReal) := h4
      have e5 : a5 m c = fun i => (b5 i : EReal) := h5
      have e6 : a6 m c = fun i => (b6 i : EReal) := h6
      rw [e3, e4, e5, e6]
      exact hl
    run_from ref_run m' g'
    · exact (hf c).symm
    · exact (cast_12 m c).symm
    · exact (cast_13 m c).symm
    · exact (cast_14 m c).symm

end Cert.KernelIdeal.Attn

end
-- ==== Proof.Ffn.Value.lean ====
/-
  The feed-forward call: the grid is sixteen blocks of 1024 rows by eleven blocks of 512 hidden columns. At the first
  point of a row block the normalised rows are stored to the scratch, every point adds its 512 hidden columns' share of
  the second product to the output block, and the last point normalises the finished sum and adds the residual. The
  result array is therefore the reference's own composed term.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Tactic.CleanTypes
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

theorem idx : ∀ t : Fin cfg0.N, win0_0.index t = ![t.val / 11, 0] ∧ win0_1.index t = ![0, 0] ∧ win0_2.index t = ![0, t.val % 11] ∧ win0_3.index t = ![0, t.val % 11] ∧ win0_4.index t = ![t.val % 11, 0] ∧ win0_5.index t = ![0, 0] ∧ win0_6.index t = ![t.val / 11, 0] ∧ t.val < 176 :=
  (by decide +kernel : ∀ t : Fin grid0.N, _)

/-- The batch and the position a row of the flattened array stands for. -/
abbrev bat (r : Fin 16384) : Fin 4 := ⟨r.val / 4096, by omega⟩
abbrev pos (r : Fin 16384) : Fin 4096 := ⟨r.val % 4096, by omega⟩

section Spec
variable (X : FVec Ideal ⟨3, ![4, 4096, 2048]⟩ .f32) (gp : FVec Ideal ⟨1, ![2048]⟩ .f32) (Wg Wu : FVec Ideal ⟨2, ![2048, 5632]⟩ .f32) (Wd : FVec Ideal ⟨2, ![5632, 2048]⟩ .f32) (go : FVec Ideal ⟨1, ![2048]⟩ .f32)

/-- The normalised input at row `r`, column `d`. -/
def hrow (r : Fin 16384) (d : Fin 2048) : EReal :=
  X (ix3 (bat r) (pos r) d) * Ideal.rsqrt (Ideal.div (∑ k : Fin 2048, X (ix3 (bat r) (pos r) k) * X (ix3 (bat r) (pos r) k)) (Ideal.ofBits .f32 0x45000000#32) + Ideal.ofBits .f32 0x358637BD#32) * gp (ix1 d)

/-- The gate's and the up projection's row, and the gated activation. -/
def gate (r : Fin 16384) (l : Fin 5632) : EReal := ∑ k : Fin 2048, hrow X gp r k * Wg (ix2 k l)
def act (r : Fin 16384) (l : Fin 5632) : EReal := gate X gp Wg r l * Ideal.logistic (gate X gp Wg r l) * gate X gp Wu r l

/-- One hidden column's share of the second product, and the product. -/
def term (r : Fin 16384) (e : Fin 2048) (l : Nat) : EReal := if h : l < 5632 then act X gp Wg Wu r ⟨l, h⟩ * Wd (ix2 ⟨l, h⟩ e) else 0
def ffn (r : Fin 16384) (e : Fin 2048) : EReal := ∑ l : Fin 5632, act X gp Wg Wu r l * Wd (ix2 l e)

/-- The product's first `n` blocks of 512 hidden columns. -/
def upto (r : Fin 16384) (e : Fin 2048) (n : Nat) : EReal := ∑ s ∈ Finset.range n, ∑ k : Fin 512, term X gp Wg Wu Wd r e (s * 512 + k.val)

theorem upto_all (r : Fin 16384) (e : Fin 2048) : upto X gp Wg Wu Wd r e 11 = ffn X gp Wg Wu Wd r e := by
  have h := Fin.sum_univ_univ_mul_add 11 512 (term X gp Wg Wu Wd r e)
  unfold upto ffn
  rw [Finset.sum_range, h]
  refine Finset.sum_congr rfl fun l _ => ?_
  unfold term
  rw [dif_pos l.isLt]

/-- The result at row `r` and column `e`: the residual plus the normalised product. -/
def spec (r : Fin 16384) (e : Fin 2048) : EReal :=
  X (ix3 (bat r) (pos r) e) + ffn X gp Wg Wu Wd r e * Ideal.rsqrt (Ideal.div (∑ k : Fin 2048, ffn X gp Wg Wu Wd r k * ffn X gp Wg Wu Wd r k) (Ideal.ofBits .f32 0x45000000#32) + Ideal.ofBits .f32 0x358637BD#32) * go (ix1 e)

/-- The whole result. -/
def out : FVec Ideal ⟨2, ![16384, 2048]⟩ .f32 := fun i => spec X gp Wg Wu Wd go (i 0) (i 1)

end Spec

theorem x_read (c : Dev nD) (t : Fin cfg0.N) (a : Fin 1024) (k : Fin 2048) (r : Fin 16384) (hr : r.val = t.val / 11 * 1024 + a.val) :
    (iblk m c 0 t : FVec Ideal S1024x2048 .f32) (ix2 a k) = (m ((c : Thread nD τ).loc main_arg0) : FVec Ideal ⟨3, ![4, 4096, 2048]⟩ .f32) (ix3 (bat r) (pos r) k) := by
  blk_simp [iblk]
  entry_read
  pointwise
  blk_ext [idx t]

theorem gp_read (c : Dev nD) (t : Fin cfg0.N) (e : Fin 2048)  :
    (iblk m c 1 t : FVec Ideal S1x2048 .f32) (ix2 0 e) = (m ((c : Thread nD τ).loc main_arg1) : FVec Ideal ⟨1, ![2048]⟩ .f32) (ix1 e) := by
  blk_simp [iblk]
  entry_read
  pointwise
  blk_ext [idx t]

theorem wg_read (c : Dev nD) (t : Fin cfg0.N) (k : Fin 2048) (x : Fin 512) (l : Fin 5632) (hl : l.val = t.val % 11 * 512 + x.val) :
    (iblk m c 2 t : FVec Ideal S2048x512 .bf16) (ix2 k x) = (m ((c : Thread nD τ).loc main_arg2) : FVec Ideal ⟨2, ![2048, 5632]⟩ .f32) (ix2 k l) := by
  blk_simp [iblk]
  entry_read
  pointwise
  blk_ext [idx t]

theorem wu_read (c : Dev nD) (t : Fin cfg0.N) (k : Fin 2048) (x : Fin 512) (l : Fin 5632) (hl : l.val = t.val % 11 * 512 + x.val) :
    (iblk m c 3 t : FVec Ideal S2048x512 .bf16) (ix2 k x) = (m ((c : Thread nD τ).loc main_arg3) : FVec Ideal ⟨2, ![2048, 5632]⟩ .f32) (ix2 k l) := by
  blk_simp [iblk]
  entry_read
  pointwise
  blk_ext [idx t]

theorem wd_read (c : Dev nD) (t : Fin cfg0.N) (x : Fin 512) (e : Fin 2048) (l : Fin 5632) (hl : l.val = t.val % 11 * 512 + x.val) :
    (iblk m c 4 t : FVec Ideal S512x2048 .bf16) (ix2 x e) = (m ((c : Thread nD τ).loc main_arg4) : FVec Ideal ⟨2, ![5632, 2048]⟩ .f32) (ix2 l e) := by
  blk_simp [iblk]
  entry_read
  pointwise
  blk_ext [idx t]

theorem go_read (c : Dev nD) (t : Fin cfg0.N) (e : Fin 2048)  :
    (iblk m c 5 t : FVec Ideal S1x2048 .f32) (ix2 0 e) = (m ((c : Thread nD τ).loc main_arg5) : FVec Ideal ⟨1, ![2048]⟩ .f32) (ix1 e) := by
  blk_simp [iblk]
  entry_read
  pointwise
  blk_ext [idx t]

/-- The blocks a grid point finds, at a row and a column. -/
abbrev xb (c : Dev nD) (t : Fin cfg0.N) (a : Fin 1024) (k : Fin 2048) : EReal := (iblk m c 0 t : FVec Ideal S1024x2048 .f32) (ix2 a k)
abbrev gpb (c : Dev nD) (t : Fin cfg0.N) (e : Fin 2048) : EReal := (iblk m c 1 t : FVec Ideal S1x2048 .f32) (ix2 0 e)
abbrev wgb (c : Dev nD) (t : Fin cfg0.N) (k : Fin 2048) (x : Fin 512) : EReal := (iblk m c 2 t : FVec Ideal S2048x512 .bf16) (ix2 k x)
abbrev wub (c : Dev nD) (t : Fin cfg0.N) (k : Fin 2048) (x : Fin 512) : EReal := (iblk m c 3 t : FVec Ideal S2048x512 .bf16) (ix2 k x)
abbrev wdb (c : Dev nD) (t : Fin cfg0.N) (x : Fin 512) (e : Fin 2048) : EReal := (iblk m c 4 t : FVec Ideal S512x2048 .bf16) (ix2 x e)
abbrev gob (c : Dev nD) (t : Fin cfg0.N) (e : Fin 2048) : EReal := (iblk m c 5 t : FVec Ideal S1x2048 .f32) (ix2 0 e)

/-- What a point's payload computes from the input block, before the products. -/
abbrev hb (c : Dev nD) (t : Fin cfg0.N) (a : Fin 1024) (d : Fin 2048) : EReal :=
  xb m c t a d * Ideal.rsqrt (Ideal.div (∑ k : Fin 2048, xb m c t a k * xb m c t a k) (Ideal.ofBits .f32 0x45000000#32) + Ideal.ofBits .f32 0x358637BD#32) * gpb m c t d

theorem hb_eq (c : Dev nD) (t : Fin cfg0.N) (a : Fin 1024) (d : Fin 2048) (r : Fin 16384) (hr : r.val = t.val / 11 * 1024 + a.val) :
    hb m c t a d = hrow (m ((c : Thread nD τ).loc main_arg0)) (m ((c : Thread nD τ).loc main_arg1)) r d := by
  have hx : ∀ k, xb m c t a k = _ := fun k => x_read m c t a k r hr
  have hg : ∀ e, gpb m c t e = _ := fun e => gp_read m c t e
  simp only [hb, hx, hg]
  rfl

/-- What a point's payload adds to the output block, from the normalised row `H`. -/
abbrev pb (c : Dev nD) (t : Fin cfg0.N) (H : Fin 2048 → EReal) (e : Fin 2048) : EReal :=
  ∑ x : Fin 512, ((∑ k : Fin 2048, H k * wgb m c t k x) * Ideal.logistic (∑ k : Fin 2048, H k * wgb m c t k x) * ∑ k : Fin 2048, H k * wub m c t k x) * wdb m c t x e

theorem pb_eq (c : Dev nD) (t : Fin cfg0.N) (H : Fin 2048 → EReal) (e : Fin 2048) (r : Fin 16384) (hH : ∀ d, H d = hrow (m ((c : Thread nD τ).loc main_arg0)) (m ((c : Thread nD τ).loc main_arg1)) r d) :
    pb m c t H e = ∑ k : Fin 512, term (m ((c : Thread nD τ).loc main_arg0)) (m ((c : Thread nD τ).loc main_arg1)) (m ((c : Thread nD τ).loc main_arg2)) (m ((c : Thread nD τ).loc main_arg3)) (m ((c : Thread nD τ).loc main_arg4)) r e (t.val % 11 * 512 + k.val) := by
  refine Finset.sum_congr rfl fun x _ => ?_
  have hl : t.val % 11 * 512 + x.val < 5632 := by omega
  have hg : ∀ k, wgb m c t k x = _ := fun k => wg_read m c t k x ⟨_, hl⟩ rfl
  have hu : ∀ k, wub m c t k x = _ := fun k => wu_read m c t k x ⟨_, hl⟩ rfl
  have hd : wdb m c t x e = _ := wd_read m c t x e ⟨_, hl⟩ rfl
  unfold term
  rw [dif_pos hl]
  simp only [hg, hu, hd, hH]
  rfl

/-- The scratch and the output block after a point, at a row and a column. -/
abbrev sb (c : Dev nD) (n : Nat) (h : n < cfg0.N) (a : Fin 1024) (d : Fin 2048) : EReal := ((outsAt0 m c n h).2 : FVec Ideal S1024x2048 .bf16) (ix2 a d)
abbrev ob (c : Dev nD) (n : Nat) (h : n < cfg0.N) (a : Fin 1024) (d : Fin 2048) : EReal := ((outsAt0 m c n h).1 : FVec Ideal S1024x2048 .f32) (ix2 a d)

theorem sbA (c : Dev nD) (t : Fin cfg0.N) (h0 : t.val % 11 = 0) (a : Fin 1024) (d : Fin 2048) : sb m c t.val t.isLt a d = hb m c t a d := by
  unfold sb
  rw [outsAt0_A m c t h0 (by omega) (by omega)]
  frame_out
  canon_tiles x h
  all_goals (open_payloads; pointwise)
  all_goals exact congrArg₂ (hb m c t) (Fin.ext (a := ⟨_, h0.symm.trans_lt a.isLt⟩) (b := a) h0.symm) (Fin.ext h1.symm)

/-- What a point adds to the output block when it starts from the normalised input block. -/
abbrev first (c : Dev nD) (t : Fin cfg0.N) (a : Fin 1024) (e : Fin 2048) : EReal := pb m c t (hb m c t a) e

theorem obA (c : Dev nD) (t : Fin cfg0.N) (h0 : t.val % 11 = 0) (a : Fin 1024) (e : Fin 2048) : ob m c t.val t.isLt a e = pb m c t (hb m c t a) e := by
  unfold ob
  rw [outsAt0_A m c t h0 (by omega) (by omega)]
  frame_out
  canon_tiles x h
  all_goals (open_payloads; pointwise)
  all_goals refine Eq.trans ?_ (congrArg₂ (first m c t) (Fin.ext (a := ⟨_, h0.symm.trans_lt a.isLt⟩) (b := a) h0.symm) (Fin.ext h1.symm))
  all_goals rfl

theorem sbB (c : Dev nD) (t : Fin cfg0.N) (h1 : 1 ≤ t.val % 11 ∧ t.val % 11 ≤ 9) (a : Fin 1024) (d : Fin 2048) : sb m c t.val t.isLt a d = sb m c (t.val - 1) (by omega) a d := by
  unfold sb
  rw [outsAt0_B m c t (by omega) h1 (by omega)]
  rfl

theorem obB (c : Dev nD) (t : Fin cfg0.N) (h1 : 1 ≤ t.val % 11 ∧ t.val % 11 ≤ 9) (a : Fin 1024) (e : Fin 2048) :
    ob m c t.val t.isLt a e = ob m c (t.val - 1) (by omega) a e + pb m c t (sb m c (t.val - 1) (by omega) a) e := by
  unfold ob
  rw [outsAt0_B m c t (by omega) h1 (by omega)]
  frame_out
  unfold_payloads
  pointwise
  have hs : ∀ d, View.read (Elt Ideal) (View.whole cc0_scratch0) ((Memref.isWhole_whole cc0_scratch0).unread (outsAt0 m c (t.val - 1) (by omega)).2) (ix2 a d) = sb m c (t.val - 1) (by omega) a d := fun d => congrFun (Memref.IsWhole.read_unread _ _) _
  exact congrArg (fun H : Fin 2048 → EReal => ob m c (t.val - 1) (by omega) a e + pb m c t H e) (funext hs)

/-- The result's row from the finished sum, with the normalised rows `H`. -/
abbrev yh (c : Dev nD) (t : Fin cfg0.N) (H : Fin 1024 → Fin 2048 → EReal) (a : Fin 1024) (e : Fin 2048) : EReal := ob m c (t.val - 1) (by omega) a e + pb m c t (H a) e
abbrev rh (c : Dev nD) (t : Fin cfg0.N) (H : Fin 1024 → Fin 2048 → EReal) (a : Fin 1024) (e : Fin 2048) : EReal :=
  xb m c t a e + yh m c t H a e * Ideal.rsqrt (Ideal.div (∑ k : Fin 2048, yh m c t H a k * yh m c t H a k) (Ideal.ofBits .f32 0x45000000#32) + Ideal.ofBits .f32 0x358637BD#32) * gob m c t e

/-- The finished sum at the last point of a row block. -/
abbrev yb (c : Dev nD) (t : Fin cfg0.N) (a : Fin 1024) (e : Fin 2048) : EReal := yh m c t (sb m c (t.val - 1) (by omega)) a e

/-- The scratch as a point's load reads it. -/
abbrev rd (c : Dev nD) (t : Fin cfg0.N) (a : Fin 1024) (d : Fin 2048) : EReal :=
  View.read (Elt Ideal) (View.whole cc0_scratch0) ((Memref.isWhole_whole cc0_scratch0).unread (outsAt0 m c (t.val - 1) (by omega)).2) (ix2 a d)

theorem rd_eq (c : Dev nD) (t : Fin cfg0.N) : rd m c t = sb m c (t.val - 1) (by omega) :=
  funext fun a => funext fun d => congrFun (Memref.IsWhole.read_unread _ _) _

theorem obC (c : Dev nD) (t : Fin cfg0.N) (h2 : t.val % 11 = 10) (a : Fin 1024) (e : Fin 2048) :
    ob m c t.val t.isLt a e = xb m c t a e + yb m c t a e * Ideal.rsqrt (Ideal.div (∑ k : Fin 2048, yb m c t a k * yb m c t a k) (Ideal.ofBits .f32 0x45000000#32) + Ideal.ofBits .f32 0x358637BD#32) * gob m c t e := by
  unfold ob
  rw [outsAt0_C m c t (by omega) (by omega) h2]
  frame_out
  canon_tiles x h
  all_goals (open_payloads; pointwise)
  all_goals exact (congrArg₂ (rh m c t (rd m c t)) (Fin.ext (a := ⟨_, h0.symm.trans_lt a.isLt⟩) (b := a) h0.symm) (Fin.ext h1.symm)).trans (congrArg (fun H => rh m c t H a e) (rd_eq m c t))

/-- Up to the last point of a row block the scratch is the normalised rows and the output block the first products. -/
theorem run_upto (c : Dev nD) (n : Nat) : ∀ (h : n < cfg0.N), n % 11 ≤ 9 → ∀ (a : Fin 1024) (r : Fin 16384), r.val = n / 11 * 1024 + a.val →
    (∀ d, sb m c n h a d = hrow (m ((c : Thread nD τ).loc main_arg0)) (m ((c : Thread nD τ).loc main_arg1)) r d) ∧ ∀ e, ob m c n h a e = upto (m ((c : Thread nD τ).loc main_arg0)) (m ((c : Thread nD τ).loc main_arg1)) (m ((c : Thread nD τ).loc main_arg2)) (m ((c : Thread nD τ).loc main_arg3)) (m ((c : Thread nD τ).loc main_arg4)) r e (n % 11 + 1) := by
  induction n with
  | zero =>
    intro h _ a r hr
    have hs : ∀ d, sb m c 0 h a d = _ := fun d => (sbA m c ⟨0, h⟩ rfl a d).trans (hb_eq m c ⟨0, h⟩ a d r hr)
    refine ⟨hs, fun e => (obA m c ⟨0, h⟩ rfl a e).trans ((pb_eq m c ⟨0, h⟩ _ e r fun d => hb_eq m c ⟨0, h⟩ a d r hr).trans ?_)⟩
    unfold upto
    rw [Finset.sum_range_one]
    rfl
  | succ n ih =>
    intro h hn a r hr
    by_cases hc : (n + 1) % 11 = 0
    · have hs : ∀ d, sb m c (n + 1) h a d = _ := fun d => (sbA m c ⟨n + 1, h⟩ hc a d).trans (hb_eq m c ⟨n + 1, h⟩ a d r hr)
      refine ⟨hs, fun e => (obA m c ⟨n + 1, h⟩ hc a e).trans ((pb_eq m c ⟨n + 1, h⟩ _ e r fun d => hb_eq m c ⟨n + 1, h⟩ a d r hr).trans ?_)⟩
      unfold upto
      show (∑ k : Fin 512, term _ _ _ _ _ r e ((n + 1) % 11 * 512 + k.val)) = _
      rw [hc, Finset.sum_range_one]
    · have hd : (n + 1) / 11 = n / 11 := by omega
      have hm : (n + 1) % 11 = n % 11 + 1 := by omega
      have ih' := ih (by omega) (by omega) a r (by omega)
      refine ⟨fun d => (sbB m c ⟨n + 1, h⟩ (by simp only; omega) a d).trans (ih'.1 d), fun e => (obB m c ⟨n + 1, h⟩ (by simp only; omega) a e).trans ?_⟩
      refine (congrArg₂ (· + ·) (ih'.2 e) (pb_eq m c ⟨n + 1, h⟩ _ e r ih'.1)).trans ?_
      unfold upto
      rw [hm, Finset.sum_range_succ _ (n % 11 + 1)]

/-- At the last point of a row block the output block is the result's rows. -/
theorem row (c : Dev nD) (t : Fin cfg0.N) (h2 : t.val % 11 = 10) (a : Fin 1024) (e : Fin 2048) (r : Fin 16384) (hr : r.val = t.val / 11 * 1024 + a.val) :
    ob m c t.val t.isLt a e = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r e := by
  have ih := run_upto m c (t.val - 1) (by omega) (by omega) a r (by omega)
  have hy : ∀ e, yb m c t a e = ffn (m ((c : Thread nD τ).loc main_arg0)) (m ((c : Thread nD τ).loc main_arg1)) (m ((c : Thread nD τ).loc main_arg2)) (m ((c : Thread nD τ).loc main_arg3)) (m ((c : Thread nD τ).loc main_arg4)) r e := fun e => by
    refine (congrArg₂ (· + ·) (ih.2 e) (pb_eq m c t _ e r ih.1)).trans ?_
    rw [← upto_all]
    unfold upto
    rw [show (t.val - 1) % 11 + 1 = 10 by omega, h2, Finset.sum_range_succ _ 10]
  have hx : xb m c t a e = _ := x_read m c t a e r hr
  have hg : gob m c t e = _ := go_read m c t e
  refine (obC m c t h2 a e).trans ?_
  simp only [hy, hx, hg]
  rfl

/-- The result array after the run. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have ht := (idx t).2.2.2.2.2.2.2
  have hy0 : (y 0).val < 1024 := (y 0).isLt
  have hy : (((cfg0.win 6).blk t).view.emb y : S16384x2048.Idx) = ix2 ⟨t.val / 11 * 1024 + (y 0).val, by omega⟩ (y 1) := by
    blk_ext [idx t]
  refine Eq.trans ?_ (congrArg (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hy.symm)
  have he : y = ix2 (y 0) (y 1) := by blk_ext
  refine (congrArg (outsAt0 m c t.val t.isLt).1 he).trans ?_
  exact row m c t ((flush0_6 t).mp hf) (y 0) (y 1) ⟨t.val / 11 * 1024 + (y 0).val, by omega⟩ rfl

/-- What the reference computes: the same rows. -/
theorem ref_run (m' : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m', fun _ => 0, ρ⟩ fun r => ∀ c : Dev Cert.Reference2Ideal.nD,
      r.2.mem ((c.tc : Thread Cert.Reference2Ideal.nD Cert.Reference2Ideal.τ).loc Cert.Reference2Ideal.main_v32)
        = out (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5) := by
  refine (θ_run _ _ _).mono (fun r h c => ⟨(h c).1.trans ?_, (h c).2⟩) (Cert.Reference2Ideal.Value.run m' ρ)
  unfold Cert.Reference2Ideal.Value.res_main_v32
  funext i
  idx_vars i
  unfold out spec ffn act gate hrow Ideal.logistic
  clean_types
  pointwise

theorem algebraic : Cert.algebraic_Kernel2Ideal_Reference2Ideal := by
  pair_intro
  · run_from Cert.Kernel2Ideal.Gen.run_main m g
  · run_from ref_run m' g'
    exact (final m c).symm

end Cert.Kernel2Ideal.Ffn

end
-- ==== Proof.Oproj.Value.lean ====
/-
  The out-projection call: each of the sixteen grid points takes 1024 rows of the attention's result, multiplies them by
  the projection matrix, scales each row by its root mean square and the gain, and adds the rows of the residual. The
  result array is therefore the reference's own composed term, row block by row block.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Tactic.CleanTypes
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel4Ideal.Oproj

open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ t.val < 16 :=
  (by decide +kernel : ∀ t : Fin grid0.N, _)

/-- The batch and the position a row of the flattened array stands for. -/
abbrev bat (r : Fin 16384) : Fin 4 := ⟨r.val / 4096, by omega⟩
abbrev pos (r : Fin 16384) : Fin 4096 := ⟨r.val % 4096, by omega⟩

variable (X A : FVec Ideal ⟨3, ![4, 4096, 2048]⟩ .f32) (W : FVec Ideal ⟨2, ![2048, 2048]⟩ .f32) (g : FVec Ideal ⟨1, ![2048]⟩ .f32)

/-- Row `r`, column `e` of the projection. -/
def proj (r : Fin 16384) (e : Fin 2048) : EReal := ∑ k : Fin 2048, A (ix3 (bat r) (pos r) k) * W (ix2 k e)

/-- The result at row `r` and column `e`: the residual plus the projected row, scaled by its root mean square and the gain. -/
def spec (r : Fin 16384) (e : Fin 2048) : EReal :=
  X (ix3 (bat r) (pos r) e) + proj A W r e * Ideal.rsqrt (Ideal.div (∑ k : Fin 2048, proj A W r k * proj A W r k) (Ideal.ofBits .f32 0x45000000#32) + Ideal.ofBits .f32 0x358637BD#32) * g (ix1 e)

/-- The whole result. -/
def out : FVec Ideal ⟨2, ![16384, 2048]⟩ .f32 := fun i => spec X A W g (i 0) (i 1)

theorem x_read (c : Dev nD) (t : Fin cfg0.N) (a : Fin 1024) (k : Fin 2048) (r : Fin 16384) (hr : r.val = t.val * 1024 + a.val) :
    (iblk m c 0 t : FVec Ideal S1024x2048 .f32) (ix2 a k) = (m ((c : Thread nD τ).loc main_arg0) : FVec Ideal ⟨3, ![4, 4096, 2048]⟩ .f32) (ix3 (bat r) (pos r) k) := by
  blk_simp [iblk]
  entry_read
  pointwise
  blk_ext [idx t]

theorem a_read (c : Dev nD) (t : Fin cfg0.N) (a : Fin 1024) (k : Fin 2048) (r : Fin 16384) (hr : r.val = t.val * 1024 + a.val) :
    (iblk m c 1 t : FVec Ideal S1024x2048 .bf16) (ix2 a k) = (m ((c : Thread nD τ).loc main_arg1) : FVec Ideal ⟨3, ![4, 4096, 2048]⟩ .f32) (ix3 (bat r) (pos r) k) := by
  blk_simp [iblk]
  entry_read
  pointwise
  blk_ext [idx t]

theorem w_read (c : Dev nD) (t : Fin cfg0.N) (k e : Fin 2048) :
    (iblk m c 2 t : FVec Ideal S2048x2048 .bf16) (ix2 k e) = (m ((c : Thread nD τ).loc main_arg2) : FVec Ideal ⟨2, ![2048, 2048]⟩ .f32) (ix2 k e) := by
  blk_simp [iblk]
  entry_read
  pointwise
  blk_ext [idx t]

theorem g_read (c : Dev nD) (t : Fin cfg0.N) (e : Fin 2048) :
    (iblk m c 3 t : FVec Ideal S1x2048 .f32) (ix2 0 e) = (m ((c : Thread nD τ).loc main_arg3) : FVec Ideal ⟨1, ![2048]⟩ .f32) (ix1 e) := by
  blk_simp [iblk]
  entry_read
  pointwise
  blk_ext [idx t]

/-- The blocks a grid point finds, at a row and a column. -/
abbrev xb (c : Dev nD) (t : Fin cfg0.N) (a : Fin 1024) (k : Fin 2048) : EReal := (iblk m c 0 t : FVec Ideal S1024x2048 .f32) (ix2 a k)
abbrev ab (c : Dev nD) (t : Fin cfg0.N) (a : Fin 1024) (k : Fin 2048) : EReal := (iblk m c 1 t : FVec Ideal S1024x2048 .bf16) (ix2 a k)
abbrev wb (c : Dev nD) (t : Fin cfg0.N) (k e : Fin 2048) : EReal := (iblk m c 2 t : FVec Ideal S2048x2048 .bf16) (ix2 k e)
abbrev gb (c : Dev nD) (t : Fin cfg0.N) (e : Fin 2048) : EReal := (iblk m c 3 t : FVec Ideal S1x2048 .f32) (ix2 0 e)

/-- What a store's payload computes for row `a` of the block is the specification's row. -/
theorem row (c : Dev nD) (t : Fin cfg0.N) (a : Fin 1024) (e : Fin 2048) (r : Fin 16384) (hr : r.val = t.val * 1024 + a.val) :
    xb m c t a e + (∑ k : Fin 2048, ab m c t a k * wb m c t k e)
        * Ideal.rsqrt (Ideal.div (∑ j : Fin 2048, (∑ k : Fin 2048, ab m c t a k * wb m c t k j) * ∑ k : Fin 2048, ab m c t a k * wb m c t k j) (Ideal.ofBits .f32 0x45000000#32) + Ideal.ofBits .f32 0x358637BD#32)
        * gb m c t e
      = spec (m ((c : Thread nD τ).loc main_arg0)) (m ((c : Thread nD τ).loc main_arg1)) (m ((c : Thread nD τ).loc main_arg2)) (m ((c : Thread nD τ).loc main_arg3)) r e := by
  have hx : ∀ k, xb m c t a k = _ := fun k => x_read m c t a k r hr
  have ha : ∀ k, ab m c t a k = _ := fun k => a_read m c t a k r hr
  have hw : ∀ k e, wb m c t k e = _ := fun k e => w_read m c t k e
  have hg : ∀ e, gb m c t e = _ := fun e => g_read m c t e
  simp only [hx, ha, hw, hg]
  rfl

/-- The result array after the run: every grid point leaves its 1024 rows of `out`, 256 rows per store. -/
theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  have ht := (idx t).2.2.2.2.2
  have hy0 : (y 0).val < 1024 := (y 0).isLt
  have hy : (((cfg0.win 4).blk t).view.emb y : S16384x2048.Idx) = ix2 ⟨t.val * 1024 + (y 0).val, by omega⟩ (y 1) := by
    blk_ext [idx t]
  refine Eq.trans ?_ (congrArg (out (m ((c : Thread nD τ).loc main_arg0)) (m ((c : Thread nD τ).loc main_arg1)) (m ((c : Thread nD τ).loc main_arg2)) (m ((c : Thread nD τ).loc main_arg3))) hy.symm)
  canon_tiles x h
  all_goals (open_payloads; pointwise; exact (row m c t _ _ ⟨t.val * 1024 + (y 0).val, by omega⟩ (by simp only [h0])).trans (congrArg (spec _ _ _ _ _) (Fin.ext h1.symm)))

/-- What the reference computes: the same rows. -/
theorem ref_run (m' : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m', fun _ => 0, ρ⟩ fun r => ∀ c : Dev Cert.Reference4Ideal.nD,
      r.2.mem ((c.tc : Thread Cert.Reference4Ideal.nD Cert.Reference4Ideal.τ).loc Cert.Reference4Ideal.main_v15)
        = out (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
            (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3) := by
  refine (θ_run _ _ _).mono (fun r h c => ⟨(h c).1.trans ?_, (h c).2⟩) (Cert.Reference4Ideal.Value.run m' ρ)
  funext i
  idx_vars i
  unfold out spec proj
  clean_types
  pointwise

theorem algebraic : Cert.algebraic_Kernel4Ideal_Reference4Ideal := by
  pair_intro
  · run_from Cert.Kernel4Ideal.Gen.run_main m g
  · run_from ref_run m' g'
    exact (final m c).symm

end Cert.Kernel4Ideal.Oproj

end
-- ==== Proof.Pool.Spec.lean ====
/-
  What the pooling call computes, row by row: the normalised row, the sums of the last two, four, eight and sixteen
  normalised rows over the four quarters of the columns, their means less the row itself, each quarter through its own
  matrix, and the normed result added to the residual.
-/
module

public import Idealize.ShloMosaic.Lib.Pipeline.ValueKit

@[expose] public section

set_option maxRecDepth 16384

noncomputable section

open Idealize.ShloMosaic

namespace Cert.Pool

/-- A function of the position plus itself `d` positions before: doubled, the sums over windows. -/
def dbl (f : ℕ → EReal) (d n : ℕ) : EReal := f n + f (n - d)

/-- The sum of the last two, four, eight or sixteen values. -/
def wsum (q : Fin 4) (f : ℕ → EReal) (n : ℕ) : EReal :=
  match q with
  | 0 => dbl f 1 n
  | 1 => dbl (dbl f 1) 2 n
  | 2 => dbl (dbl (dbl f 1) 2) 4 n
  | 3 => dbl (dbl (dbl (dbl f 1) 2) 4) 8 n

/-- The four window lengths. -/
def wd (q : Fin 4) : BitVec 32 :=
  match q with
  | 0 => 2#32
  | 1 => 4#32
  | 2 => 8#32
  | 3 => 16#32

/-- How many rows a window of length `w` ending at position `s` holds. -/
def cnt (w : BitVec 32) (s : ℕ) : EReal := FloatOps.sitofp (F := Ideal) .f32 (IntOp.minsi (IntOp.addi (BitVec.ofNat 32 s) 1#32) w)

/-- Column `x` of quarter `q`. -/
abbrev col (q : Fin 4) (x : Fin 512) : Fin 2048 := ⟨512 * q.val + x.val, by omega⟩

variable (X : FVec Ideal ⟨3, ![4, 4096, 2048]⟩ .f32) (g : FVec Ideal ⟨1, ![2048]⟩ .f32) (W : FVec Ideal ⟨3, ![4, 512, 512]⟩ .f32) (ps gp : FVec Ideal ⟨1, ![2048]⟩ .f32)

/-- The normalised rows. -/
def hid (b : Fin 4) (s : Fin 4096) (k : Fin 2048) : EReal :=
  X (ix3 b s k) * Ideal.rsqrt (Ideal.div (∑ x : Fin 2048, X (ix3 b s x) * X (ix3 b s x)) (Ideal.ofBits .f32 0x45000000#32) + Ideal.ofBits .f32 0x358637BD#32) * g (ix1 k)

/-- The normalised rows counted from sixteen rows of zeros before the first. -/
def hz (b : Fin 4) (k : Fin 2048) (n : ℕ) : EReal := if h : 16 ≤ n ∧ n < 4112 then hid X g b ⟨n - 16, by omega⟩ k else 0

/-- The mean over the window less the row itself. -/
def mx (q : Fin 4) (b : Fin 4) (s : Fin 4096) (x : Fin 512) : EReal :=
  wsum q (hz X g b (col q x)) (16 + s.val) * Ideal.div 1 (cnt (wd q) s.val) - hid X g b s (col q x)

/-- Each quarter through its matrix and scales. -/
def yv (q : Fin 4) (b : Fin 4) (s : Fin 4096) (e : Fin 512) : EReal := (∑ x : Fin 512, mx X g q b s x * W (ix3 q x e)) * ps (ix1 (col q e))

/-- The sum of squares of a row, quarter after quarter. -/
def ssq (b : Fin 4) (s : Fin 4096) : EReal :=
  (((∑ e : Fin 512, yv X g W ps 0 b s e * yv X g W ps 0 b s e) + ∑ e : Fin 512, yv X g W ps 1 b s e * yv X g W ps 1 b s e)
    + ∑ e : Fin 512, yv X g W ps 2 b s e * yv X g W ps 2 b s e) + ∑ e : Fin 512, yv X g W ps 3 b s e * yv X g W ps 3 b s e

/-- The result at batch `b`, position `s` and column `D`. -/
def spec (b : Fin 4) (s : Fin 4096) (D : Fin 2048) : EReal :=
  X (ix3 b s D) + yv X g W ps ⟨D.val / 512, by omega⟩ b s ⟨D.val % 512, by omega⟩
    * Ideal.rsqrt (Ideal.div (ssq X g W ps b s) (Ideal.ofBits .f32 0x45000000#32) + Ideal.ofBits .f32 0x358637BD#32) * gp (ix1 D)

/-- The whole result. -/
def out : FVec Ideal ⟨3, ![4, 4096, 2048]⟩ .f32 := fun i => spec X g W ps gp (i 0) (i 1) (i 2)

end Cert.Pool

end
-- ==== Proof.Pool.Point.lean ====
/-
  The stored blocks of the pooling call at an entry, each as a function of the entries it was computed from.
-/
module

public import proofs.«01_k».proof.Proof.Gen.Kernel3Ideal.Value
public import proofs.«01_k».proof.Proof.Pool.Spec
public import Idealize.ShloMosaic.Lib.Pipeline.ValueKit
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Pool

open Cert.Pool Cert.Kernel3Ideal Cert.Kernel3Ideal.Gen

theorem pay6_at (v0 : Vec Ideal S1x512x2048 .f32) (v2 : Vec Ideal S1x2048 .f32) (a : Fin 512) (k : Fin 2048) :
    k0_pay6 (k0_pay5 v0 v2) (ix2 a k) = v0 (ix3 0 a k)
      * Ideal.rsqrt (Ideal.div (∑ x : Fin 2048, v0 (ix3 0 a x) * v0 (ix3 0 a x)) (Ideal.ofBits .f32 0x45000000#32) + Ideal.ofBits .f32 0x358637BD#32) * v2 (ix2 0 k) := by
  open_payloads
  pointwise

theorem pay4_at (i : grid0.Coords) (v0 : Vec Ideal S1x16x2048 .f32) (v2 : Vec Ideal S1x2048 .f32) (a : Fin 16) (k : Fin 2048) :
    k0_pay4 i v2 v0 (ix2 a k) = Scalar.select (Scalar.cmpi .sgt (BitVec.ofNat 32 (i 1).val) 0#32) (v0 (ix3 0 a k)
      * Ideal.rsqrt (Ideal.div (∑ x : Fin 2048, v0 (ix3 0 a x) * v0 (ix3 0 a x)) (Ideal.ofBits .f32 0x45000000#32) + Ideal.ofBits .f32 0x358637BD#32) * v2 (ix2 0 k)) 0 := by
  open_payloads
  pointwise

section

variable (v44 : Vec Ideal S528x512 .f32) (v48 : Vec Ideal S512x512 .f32) (v60 : Vec Ideal S1x512x512 .bf16) (v63 : Vec Ideal S1x512 .f32) (f : ℕ → Fin 512 → EReal)

/-- A quarter's output at a row: the window's mean less the row, through the matrix, times the scales. -/
abbrev tileAt (w : ℕ → Fin 512 → EReal) (n : EReal) (a e : Fin 512) : EReal :=
  (∑ x : Fin 512, (w (16 + a.val) x * Ideal.div 1 n - v48 (ix2 a x)) * v60 (ix3 0 x e)) * v63 (ix2 0 e)

theorem pay8_at (hf : ∀ r x, v44 (ix2 r x) = f r.val x) (v42 : BitVec 32) (s : ℕ) (a e : Fin 512)
    (hs : IntOp.addi (Scalar.muli v42 512#32) (BitVec.ofNat 32 a.val) = BitVec.ofNat 32 s) :
    k0_pay8 v42 v44 v48 v60 v63 (ix2 a e) = tileAt v48 v60 v63 (fun n x => dbl (fun j => f j x) 1 n) (cnt 2#32 s) a e := by
  open_payloads
  pointwise
  have e1 : (16 + a.val + 528 - 1) % 528 = 16 + a.val - 1 := by omega
  simp only [hf, e1, hs]
  rfl

theorem pay11_at (hf : ∀ r x, v44 (ix2 r x) = f r.val x) (v42 : IVec S512x1 32) (s : ℕ) (a e : Fin 512) (hs : v42 (ix2 a 0) = BitVec.ofNat 32 s) :
    k0_pay11 v42 v44 v48 v60 v63 (ix2 a e) = tileAt v48 v60 v63 (fun n x => dbl (dbl (fun j => f j x) 1) 2 n) (cnt 4#32 s) a e := by
  open_payloads
  pointwise
  have e1 : (16 + a.val + 528 - 1) % 528 = 16 + a.val - 1 := by omega
  have e2 : (16 + a.val + 528 - 2) % 528 = 16 + a.val - 2 := by omega
  have e3 : (16 + a.val - 2 + 528 - 1) % 528 = 16 + a.val - 2 - 1 := by omega
  simp only [hf, e1, e2, e3, hs]
  rfl

theorem pay14_at (hf : ∀ r x, v44 (ix2 r x) = f r.val x) (r : Fin 528) (hr : 3 ≤ r.val) (x : Fin 512) :
    k0_pay14 v44 (ix2 r x) = dbl (dbl (fun j => f j x) 1) 2 r.val := by
  open_payloads
  pointwise
  have e1 : (r.val + 528 - 1) % 528 = r.val - 1 := by omega
  have e2 : (r.val + 528 - 2) % 528 = r.val - 2 := by omega
  have e3 : (r.val - 2 + 528 - 1) % 528 = r.val - 2 - 1 := by omega
  simp only [hf, e1, e2, e3]
  rfl

theorem pay15_at (hf : ∀ r x, v44 (ix2 r x) = f r.val x) (v42 : IVec S512x1 32) (s : ℕ) (a e : Fin 512) (hs : v42 (ix2 a 0) = BitVec.ofNat 32 s) :
    k0_pay15 v42 (k0_pay14 v44) v48 v60 v63 (ix2 a e) = tileAt v48 v60 v63 (fun n x => dbl (dbl (dbl (fun j => f j x) 1) 2) 4 n) (cnt 8#32 s) a e := by
  have h := pay14_at v44 f hf
  generalize k0_pay14 v44 = Y at h
  open_payloads
  pointwise
  have e1 : (16 + a.val + 528 - 4) % 528 = 16 + a.val - 4 := by omega
  have h0 : ∀ x, Y (ix2 ⟨16 + a.val, by omega⟩ x) = _ := fun x => h ⟨16 + a.val, by omega⟩ (by simp only; omega) x
  have h1 : ∀ x, Y (ix2 ⟨16 + a.val - 4, by omega⟩ x) = _ := fun x => h ⟨16 + a.val - 4, by omega⟩ (by simp only; omega) x
  simp only [e1, h0, h1, hs]
  rfl

theorem pay18_at (hf : ∀ r x, v44 (ix2 r x) = f r.val x) (r : Fin 528) (hr : 7 ≤ r.val) (x : Fin 512) :
    k0_pay18 v44 (ix2 r x) = dbl (dbl (dbl (fun j => f j x) 1) 2) 4 r.val := by
  open_payloads
  pointwise
  have e1 : (r.val + 528 - 1) % 528 = r.val - 1 := by omega
  have e2 : (r.val + 528 - 2) % 528 = r.val - 2 := by omega
  have e3 : (r.val - 2 + 528 - 1) % 528 = r.val - 2 - 1 := by omega
  have e4 : (r.val + 528 - 4) % 528 = r.val - 4 := by omega
  have e5 : (r.val - 4 + 528 - 1) % 528 = r.val - 4 - 1 := by omega
  have e6 : (r.val - 4 + 528 - 2) % 528 = r.val - 4 - 2 := by omega
  have e7 : (r.val - 4 - 2 + 528 - 1) % 528 = r.val - 4 - 2 - 1 := by omega
  simp only [hf, e1, e2, e3, e4, e5, e6, e7]
  rfl

theorem pay19_at (hf : ∀ r x, v44 (ix2 r x) = f r.val x) (r : Fin 528) (hr : 15 ≤ r.val) (x : Fin 512) :
    k0_pay19 v44 (ix2 r x) = dbl (dbl (dbl (fun j => f j x) 1) 2) 4 (r.val - 8) := by
  have e : k0_pay19 v44 (ix2 r x) = k0_pay18 v44 (ix2 ⟨r.val - 8, by omega⟩ x) := by
    have e1 : (r.val + 528 - 8) % 528 = r.val - 8 := by omega
    unfold k0_pay19
    pointwise
    simp only [e1]
  rw [e, pay18_at v44 f hf _ (by simp only; omega)]

theorem pay20_at (hf : ∀ r x, v44 (ix2 r x) = f r.val x) (v42 : IVec S512x1 32) (s : ℕ) (a e : Fin 512) (hs : v42 (ix2 a 0) = BitVec.ofNat 32 s) :
    k0_pay20 v42 (k0_pay18 v44) (k0_pay19 v44) v48 v60 v63 (ix2 a e) = tileAt v48 v60 v63 (fun n x => dbl (dbl (dbl (dbl (fun j => f j x) 1) 2) 4) 8 n) (cnt 16#32 s) a e := by
  have h := pay18_at v44 f hf
  have h' := pay19_at v44 f hf
  generalize k0_pay18 v44 = Y at h
  generalize k0_pay19 v44 = Z at h'
  open_payloads
  pointwise
  have h0 : ∀ x, Y (ix2 ⟨16 + a.val, by omega⟩ x) = _ := fun x => h ⟨16 + a.val, by omega⟩ (by simp only; omega) x
  have h1 : ∀ x, Z (ix2 ⟨16 + a.val, by omega⟩ x) = _ := fun x => h' ⟨16 + a.val, by omega⟩ (by simp only; omega) x
  simp only [h0, h1, hs]
  rfl

end

theorem pay9_at (v42 : BitVec 32) (v44 : Vec Ideal S528x512 .f32) (v48 : Vec Ideal S512x512 .f32) (v60 : Vec Ideal S1x512x512 .bf16) (v63 : Vec Ideal S1x512 .f32) (a : Fin 512) :
    k0_pay9 v42 v44 v48 v60 v63 (ix2 a 0) = ∑ x : Fin 512, k0_pay8 v42 v44 v48 v60 v63 (ix2 a x) * k0_pay8 v42 v44 v48 v60 v63 (ix2 a x) := by
  unfold k0_pay9
  generalize k0_pay8 v42 v44 v48 v60 v63 = Y
  pointwise

theorem pay12_at (v42 : IVec S512x1 32) (s : FVec Ideal S512x1 .f32) (v44 : Vec Ideal S528x512 .f32) (v48 : Vec Ideal S512x512 .f32) (v60 : Vec Ideal S1x512x512 .bf16) (v63 : Vec Ideal S1x512 .f32) (a : Fin 512) :
    k0_pay12 v42 s v44 v48 v60 v63 (ix2 a 0) = s (ix2 a 0) + ∑ x : Fin 512, k0_pay11 v42 v44 v48 v60 v63 (ix2 a x) * k0_pay11 v42 v44 v48 v60 v63 (ix2 a x) := by
  unfold k0_pay12
  generalize k0_pay11 v42 v44 v48 v60 v63 = Y
  pointwise

theorem pay16_at (v42 : IVec S512x1 32) (s : FVec Ideal S512x1 .f32) (v44 : FVec Ideal S528x512 .f32) (v48 : Vec Ideal S512x512 .f32) (v60 : Vec Ideal S1x512x512 .bf16) (v63 : Vec Ideal S1x512 .f32) (a : Fin 512) :
    k0_pay16 v42 s v44 v48 v60 v63 (ix2 a 0) = s (ix2 a 0) + ∑ x : Fin 512, k0_pay15 v42 v44 v48 v60 v63 (ix2 a x) * k0_pay15 v42 v44 v48 v60 v63 (ix2 a x) := by
  unfold k0_pay16
  generalize k0_pay15 v42 v44 v48 v60 v63 = Y
  pointwise

theorem pay1_at (v42 : IVec S512x1 32) (s : FVec Ideal S512x1 .f32) (v1 : FVec Ideal S512x2048 .f32) (u v : FVec Ideal S528x512 .f32) (v150 : Vec Ideal S512x512 .f32) (v162 : Vec Ideal S1x512x512 .bf16) (v165 : Vec Ideal S1x512 .f32) (v181 : Vec Ideal S1x512x2048 .f32) (g : Vec Ideal S1x2048 .f32) (a : Fin 512) (k : Fin 2048) :
    k0_pay1 v1 (k0_pay22 v42 s u v v150 v162 v165 v181) g (ix3 0 a k) = v1 (ix2 a k) + v181 (ix3 0 a k)
      * Ideal.rsqrt (Ideal.div (s (ix2 a 0) + ∑ x : Fin 512, k0_pay20 v42 u v v150 v162 v165 (ix2 a x) * k0_pay20 v42 u v v150 v162 v165 (ix2 a x)) (Ideal.ofBits .f32 0x45000000#32) + Ideal.ofBits .f32 0x358637BD#32) * g (ix2 0 k) := by
  unfold k0_pay1 k0_pay22
  generalize k0_pay20 v42 u v v150 v162 v165 = Y
  pointwise

theorem pay2_at (v0 : Vec Ideal S1x512x2048 .f32) (a : Fin 512) (k : Fin 2048) : k0_pay2 v0 (ix2 a k) = v0 (ix3 0 a k) := by
  open_payloads
  pointwise

theorem pay7_at (v42 : BitVec 32) (a : Fin 512) : k0_pay7 v42 (ix2 a 0) = IntOp.addi (Scalar.muli v42 512#32) (BitVec.ofNat 32 a.val) := by
  unfold k0_pay7
  pointwise

theorem pay10_at (v42 : BitVec 32) (v44 : Vec Ideal S528x512 .f32) (v48 : Vec Ideal S512x512 .f32) (v60 : Vec Ideal S1x512x512 .bf16) (v63 : Vec Ideal S1x512 .f32) (a e : Fin 512) :
    k0_pay10 v42 v44 v48 v60 v63 (ix3 0 a e) = k0_pay8 v42 v44 v48 v60 v63 (ix2 a e) := by
  unfold k0_pay10
  generalize k0_pay8 v42 v44 v48 v60 v63 = Y
  pointwise

theorem pay13_at (v42 : IVec S512x1 32) (v44 : Vec Ideal S528x512 .f32) (v48 : Vec Ideal S512x512 .f32) (v60 : Vec Ideal S1x512x512 .bf16) (v63 : Vec Ideal S1x512 .f32) (a e : Fin 512) :
    k0_pay13 v42 v44 v48 v60 v63 (ix3 0 a e) = k0_pay11 v42 v44 v48 v60 v63 (ix2 a e) := by
  unfold k0_pay13
  generalize k0_pay11 v42 v44 v48 v60 v63 = Y
  pointwise

theorem pay17_at (v42 : IVec S512x1 32) (v44 : FVec Ideal S528x512 .f32) (v48 : Vec Ideal S512x512 .f32) (v60 : Vec Ideal S1x512x512 .bf16) (v63 : Vec Ideal S1x512 .f32) (a e : Fin 512) :
    k0_pay17 v42 v44 v48 v60 v63 (ix3 0 a e) = k0_pay15 v42 v44 v48 v60 v63 (ix2 a e) := by
  unfold k0_pay17
  generalize k0_pay15 v42 v44 v48 v60 v63 = Y
  pointwise

theorem pay21_at (v42 : IVec S512x1 32) (u v : FVec Ideal S528x512 .f32) (v48 : Vec Ideal S512x512 .f32) (v60 : Vec Ideal S1x512x512 .bf16) (v63 : Vec Ideal S1x512 .f32) (a e : Fin 512) :
    k0_pay21 v42 u v v48 v60 v63 (ix3 0 a e) = k0_pay20 v42 u v v48 v60 v63 (ix2 a e) := by
  unfold k0_pay21
  generalize k0_pay20 v42 u v v48 v60 v63 = Y
  pointwise

end Cert.Kernel3Ideal.Pool

end
-- ==== Proof.Pool.Block.lean ====
/-
  What a grid point of the pooling call finds and leaves: the scratch holds the normalised rows of the block with the
  sixteen before it, zeros before the first block, and the output block is the rows of the result.
-/
module

public import proofs.«01_k».proof.Proof.Pool.Point
public import Idealize.ShloMosaic.Lib.Pipeline.ValueKit
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Pool

open Cert.Pool Cert.Kernel3Ideal Cert.Kernel3Ideal.Gen

variable (m : (ℓ : Loc nD τ sig) → Buf (Elt Ideal) ℓ)

theorem idx : ∀ t : Fin cfg0.N, win0_0.index t = ![t.val / 8, t.val % 8, 0] ∧ win0_1.index t = ![t.val / 8, t.val % 8 * 32 - 1, 0] ∧ win0_2.index t = ![0, 0] ∧ win0_3.index t = ![0, 0, 0] ∧ win0_4.index t = ![0, 0] ∧ win0_5.index t = ![0, 0] ∧ win0_6.index t = ![t.val / 8, t.val % 8, 0] ∧ t.val < 32 :=
  (by decide +kernel : ∀ t : Fin grid0.N, _)

theorem crd : ∀ t : Fin grid0.N, ((grid0.coords t) 1).val = t.val % 8 ∧ t.val < 32 :=
  (by decide +kernel : ∀ t : Fin grid0.N, _)

section

variable (c : Dev nD)

abbrev xa : FVec Ideal ⟨3, ![4, 4096, 2048]⟩ .f32 := m ((c : Thread nD τ).loc main_arg0)
abbrev ga : FVec Ideal ⟨1, ![2048]⟩ .f32 := m ((c : Thread nD τ).loc main_arg1)
abbrev wa : FVec Ideal ⟨3, ![4, 512, 512]⟩ .f32 := m ((c : Thread nD τ).loc main_arg2)
abbrev sa : FVec Ideal ⟨1, ![2048]⟩ .f32 := m ((c : Thread nD τ).loc main_arg3)
abbrev oa : FVec Ideal ⟨1, ![2048]⟩ .f32 := m ((c : Thread nD τ).loc main_arg4)

theorem x_read (t : Fin cfg0.N) (a : Fin 512) (k : Fin 2048) (b : Fin 4) (s : Fin 4096) (hb : b.val = t.val / 8) (hs : s.val = t.val % 8 * 512 + a.val) :
    (iblk m c 0 t : FVec Ideal S1x512x2048 .f32) (ix3 0 a k) = xa m c (ix3 b s k) := by
  blk_simp [iblk]
  entry_read
  pointwise
  blk_ext [idx t]

theorem halo_read (t : Fin cfg0.N) (a : Fin 16) (k : Fin 2048) (b : Fin 4) (s : Fin 4096) (hb : b.val = t.val / 8) (hs : s.val = (t.val % 8 * 32 - 1) * 16 + a.val) :
    (iblk m c 1 t : FVec Ideal S1x16x2048 .f32) (ix3 0 a k) = xa m c (ix3 b s k) := by
  blk_simp [iblk]
  entry_read
  pointwise
  blk_ext [idx t]

theorem g_read (t : Fin cfg0.N) (k : Fin 2048) : (iblk m c 2 t : FVec Ideal S1x2048 .f32) (ix2 0 k) = ga m c (ix1 k) := by
  blk_simp [iblk]
  entry_read
  pointwise
  blk_ext [idx t]

theorem w_read (t : Fin cfg0.N) (q : Fin 4) (x e : Fin 512) : (iblk m c 3 t : FVec Ideal S4x512x512 .bf16) (ix3 q x e) = wa m c (ix3 q x e) := by
  blk_simp [iblk]
  entry_read
  pointwise
  blk_ext [idx t]

theorem s_read (t : Fin cfg0.N) (k : Fin 2048) : (iblk m c 4 t : FVec Ideal S1x2048 .f32) (ix2 0 k) = sa m c (ix1 k) := by
  blk_simp [iblk]
  entry_read
  pointwise
  blk_ext [idx t]

theorem o_read (t : Fin cfg0.N) (k : Fin 2048) : (iblk m c 5 t : FVec Ideal S1x2048 .f32) (ix2 0 k) = oa m c (ix1 k) := by
  blk_simp [iblk]
  entry_read
  pointwise
  blk_ext [idx t]

/-- The block's batch. -/
abbrev bt (t : Fin cfg0.N) : Fin 4 := ⟨t.val / 8, by have := (idx t).2.2.2.2.2.2.2; omega⟩
/-- The position of a row of the block. -/
abbrev rw' (t : Fin cfg0.N) (a : Fin 512) : Fin 4096 := ⟨t.val % 8 * 512 + a.val, by omega⟩

/-- The scratch's pieces: the block's normalised rows under the sixteen before it. -/
abbrev hsP (t : Fin cfg0.N) : List (View.Piece (Elt Ideal) S528x2048 .f32) :=
  [⟨Rect.unit ![16, 0] ![512, 2048] inb_S528x2048_S512x2048_16_0, k0_pay6 (k0_pay5 (iblk m c 0 t) (iblk m c 2 t))⟩,
    ⟨Rect.unit ![0, 0] ![16, 2048] inb_S528x2048_S16x2048_0_0, k0_pay4 (grid0.coords t) (iblk m c 2 t) (iblk m c 1 t)⟩]

theorem body_row (t : Fin cfg0.N) (a : Fin 512) (k : Fin 2048) :
    k0_pay6 (k0_pay5 (iblk m c 0 t) (iblk m c 2 t)) (ix2 a k) = hid (xa m c) (ga m c) (bt t) (rw' t a) k := by
  have hx : ∀ k, (iblk m c 0 t : FVec Ideal S1x512x2048 .f32) (ix3 0 a k) = _ := fun k => x_read m c t a k (bt t) (rw' t a) rfl rfl
  rw [pay6_at]
  simp only [hx, g_read m c t]
  rfl

theorem sgt_true : ∀ i : Fin 8, Scalar.cmpi .sgt (BitVec.ofNat 32 i.val) 0#32 = if i.val = 0 then 0#1 else 1#1 := by decide +kernel

theorem halo_row (t : Fin cfg0.N) (a : Fin 16) (k : Fin 2048) :
    k0_pay4 (grid0.coords t) (iblk m c 2 t) (iblk m c 1 t) (ix2 a k) = hz (xa m c) (ga m c) (bt t) k (t.val % 8 * 512 + a.val) := by
  have hx : ∀ k, (iblk m c 1 t : FVec Ideal S1x16x2048 .f32) (ix3 0 a k) = _ := fun k => halo_read m c t a k (bt t) ⟨(t.val % 8 * 32 - 1) * 16 + a.val, by omega⟩ rfl rfl
  rw [pay4_at]
  simp only [hx, g_read m c t]
  have e := sgt_true ⟨t.val % 8, by omega⟩
  simp only at e
  rw [(crd t).1, e]
  unfold hz
  by_cases h : t.val % 8 = 0
  · rw [if_pos h, dif_neg (by omega)]
    rfl
  · rw [if_neg h, dif_pos (by omega)]
    have e' : (⟨(t.val % 8 * 32 - 1) * 16 + a.val, by omega⟩ : Fin 4096) = ⟨t.val % 8 * 512 + a.val - 16, by omega⟩ := Fin.ext (by simp only; omega)
    rw [e']
    rfl

/-- The scratch at a row. -/
theorem hs_at (t : Fin cfg0.N) (r : Fin 528) (k : Fin 2048) :
    View.canon (hsP m c t) (ix2 r k) = hz (xa m c) (ga m c) (bt t) k (t.val % 8 * 512 + r.val) := by
  by_cases h : 16 ≤ r.val
  · have e := body_row m c t ⟨r.val - 16, by omega⟩ k
    have he : (ix2 r k : S528x2048.Idx) = (Rect.unit ![16, 0] ![512, 2048] inb_S528x2048_S512x2048_16_0).emb (ix2 (⟨r.val - 16, by omega⟩ : Fin 512) k) := by blk_ext
    rw [he]
    refine (View.canon_cons_emb _ _ _ _).trans (e.trans ?_)
    unfold hz
    rw [dif_pos (by omega)]
    exact congrArg (fun s => hid (xa m c) (ga m c) (bt t) s k) (Fin.ext (by simp only; omega))
  · have e := halo_row m c t ⟨r.val, by omega⟩ k
    refine (View.canon_cons_of_not_mem _ _ ?_).trans ?_
    · rw [Rect.mem_set_unit]
      exact fun hm => h (hm 0).1
    · have he : (ix2 r k : S528x2048.Idx) = (Rect.unit ![0, 0] ![16, 2048] inb_S528x2048_S16x2048_0_0).emb (ix2 (⟨r.val, by omega⟩ : Fin 16) k) := by blk_ext
      rw [he]
      exact (View.canon_cons_emb _ _ _ _).trans e

/-- Quarter `q` of the scratch, all its rows. -/
theorem quarter (t : Fin cfg0.N) (q : Fin 4) (o : Nat) (ho : o = 512 * q.val) (inb : ∀ a, (![0, o] : Fin 2 → Nat) a + (![528, 512] : Fin 2 → Nat) a ≤ S528x2048.size a) (r : Fin 528) (x : Fin 512) :
    (View.whole cc0_scratch0).readCov (hsP m c t) (Rect.unit (s := S528x2048) ![0, o] ![528, 512] inb).toLoadRect (ix2 r x : (⟨2, ![528, 512]⟩ : Shape).Idx) = hz (xa m c) (ga m c) (bt t) (col q x) (t.val % 8 * 512 + r.val) := by
  subst ho
  rw [View.readCov_eq_canon']
  refine Eq.trans (congrArg (View.canon (hsP m c t)) ?_) (hs_at m c t r (col q x))
  show (Rect.unit (s := S528x2048) ![0, 512 * q.val] ![528, 512] inb).emb (ix2 r x : (⟨2, ![528, 512]⟩ : Shape).Idx) = _
  blk_ext

/-- Quarter `q` of the scratch, the block's own rows. -/
theorem own (t : Fin cfg0.N) (q : Fin 4) (o : Nat) (ho : o = 512 * q.val) (inb : ∀ a, (![16, o] : Fin 2 → Nat) a + (![512, 512] : Fin 2 → Nat) a ≤ S528x2048.size a) (r : Fin 512) (x : Fin 512) :
    (View.whole cc0_scratch0).readCov (hsP m c t) (Rect.unit (s := S528x2048) ![16, o] ![512, 512] inb).toLoadRect (ix2 r x : (⟨2, ![512, 512]⟩ : Shape).Idx) = hid (xa m c) (ga m c) (bt t) (rw' t r) (col q x) := by
  subst ho
  rw [View.readCov_eq_canon']
  refine Eq.trans (congrArg (View.canon (hsP m c t)) ?_) ((hs_at m c t ⟨16 + r.val, by omega⟩ (col q x)).trans ?_)
  · show (Rect.unit (s := S528x2048) ![16, 512 * q.val] ![512, 512] inb).emb (ix2 r x : (⟨2, ![512, 512]⟩ : Shape).Idx) = _
    blk_ext
  · unfold hz
    rw [dif_pos (by simp only; omega)]
    exact congrArg (fun s => hid (xa m c) (ga m c) (bt t) s (col q x)) (Fin.ext (by simp only; omega))

theorem wq (t : Fin cfg0.N) (q : Fin 4) (o : Nat) (ho : o = q.val) (inb : ∀ a, (![o, 0, 0] : Fin 3 → Nat) a + (![1, 512, 512] : Fin 3 → Nat) a ≤ S4x512x512.size a) (x e : Fin 512) :
    View.ld (iblk m c 3 t : FVec Ideal S4x512x512 .bf16) (Rect.unit ![o, 0, 0] ![1, 512, 512] inb) (ix3 0 x e) = wa m c (ix3 q x e) := by
  subst ho
  refine Eq.trans (congrArg (iblk m c 3 t : FVec Ideal S4x512x512 .bf16) ?_) (w_read m c t q x e)
  show (Rect.unit (s := S4x512x512) ![q.val, 0, 0] ![1, 512, 512] inb).emb (ix3 0 x e : (⟨3, ![1, 512, 512]⟩ : Shape).Idx) = _
  blk_ext

theorem sq (t : Fin cfg0.N) (q : Fin 4) (o : Nat) (ho : o = 512 * q.val) (inb : ∀ a, (![0, o] : Fin 2 → Nat) a + (![1, 512] : Fin 2 → Nat) a ≤ S1x2048.size a) (e : Fin 512) :
    View.ld (iblk m c 4 t : FVec Ideal S1x2048 .f32) (Rect.unit ![0, o] ![1, 512] inb) (ix2 0 e) = sa m c (ix1 (col q e)) := by
  subst ho
  refine Eq.trans (congrArg (iblk m c 4 t : FVec Ideal S1x2048 .f32) ?_) (s_read m c t (col q e))
  show (Rect.unit (s := S1x2048) ![0, 512 * q.val] ![1, 512] inb).emb (ix2 0 e : (⟨2, ![1, 512]⟩ : Shape).Idx) = _
  blk_ext

theorem pos_word : ∀ (i : Fin 8) (a : Fin 512), IntOp.addi (Scalar.muli (BitVec.ofNat 32 i.val) 512#32) (BitVec.ofNat 32 a.val) = BitVec.ofNat 32 (i.val * 512 + a.val) := by
  intro i a
  show BitVec.ofNat 32 i.val * BitVec.ofNat 32 512 + BitVec.ofNat 32 a.val = _
  rw [← BitVec.ofNat_mul, ← BitVec.ofNat_add]

/-- Windows that agree with the shifted rows have the shifted sums. -/
theorem wsum_shift (q : Fin 4) (f : ℕ → EReal) (d n : ℕ) (h : 16 ≤ n) : wsum q (fun j => f (d + j)) n = wsum q f (d + n) := by
  have e : ∀ k, k ≤ n → d + (n - k) = d + n - k := fun k hk => by omega
  fin_cases q <;> simp only [wsum, dbl, Nat.sub_sub] <;> simp only [e _ (show 1 ≤ n by omega)] <;> (repeat rw [e _ (by omega)])

end

end Cert.Kernel3Ideal.Pool

end
-- ==== Proof.Pool.Out.lean ====
/-
  The pooling call's output block is the rows of the result, and the blocks are the whole array.
-/
module

public import proofs.«01_k».proof.Proof.Pool.Block
public import Idealize.ShloMosaic.Lib.Pipeline.ValueKit
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Pool

open Cert.Pool Cert.Kernel3Ideal Cert.Kernel3Ideal.Gen

variable (m : (ℓ : Loc nD τ sig) → Buf (Elt Ideal) ℓ)

variable (c : Dev nD)

/-- The step's number among the blocks of a batch, as a word. -/
abbrev wi (t : Fin cfg0.N) : BitVec 32 := BitVec.ofNat 32 ((grid0.coords t) 1).val

theorem wi_pos (t : Fin cfg0.N) (a : Fin 512) : IntOp.addi (Scalar.muli (wi t) 512#32) (BitVec.ofNat 32 a.val) = BitVec.ofNat 32 (rw' t a).val := by
  have e := pos_word ⟨t.val % 8, by omega⟩ a
  unfold wi
  rw [(crd t).1]
  exact e

theorem wi_col (t : Fin cfg0.N) (a : Fin 512) : k0_pay7 (wi t) (ix2 a 0) = BitVec.ofNat 32 (rw' t a).val :=
  (pay7_at _ a).trans (wi_pos t a)

/-- A quarter's entry from its parts. -/
theorem tile_eq (t : Fin cfg0.N) (q : Fin 4) (v48 : Vec Ideal S512x512 .f32) (v60 : Vec Ideal S1x512x512 .bf16) (v63 : Vec Ideal S1x512 .f32) (w : ℕ → Fin 512 → EReal) (a e : Fin 512)
    (hw : ∀ n x, w n x = wsum q (fun j => hz (xa m c) (ga m c) (bt t) (col q x) (t.val % 8 * 512 + j)) n)
    (h48 : ∀ x, v48 (ix2 a x) = hid (xa m c) (ga m c) (bt t) (rw' t a) (col q x))
    (h60 : ∀ x, v60 (ix3 0 x e) = wa m c (ix3 q x e)) (h63 : v63 (ix2 0 e) = sa m c (ix1 (col q e))) :
    tileAt v48 v60 v63 w (cnt (wd q) (rw' t a).val) a e = yv (xa m c) (ga m c) (wa m c) (sa m c) q (bt t) (rw' t a) e := by
  have hs : ∀ x, w (16 + a.val) x = wsum q (hz (xa m c) (ga m c) (bt t) (col q x)) (16 + (rw' t a).val) := fun x =>
    ((hw _ x).trans (wsum_shift q _ _ _ (by omega))).trans (congrArg _ (by simp only; omega))
  unfold tileAt yv mx
  simp only [hs, h48, h60, h63]

section

variable (t : Fin cfg0.N)

abbrev R0 := (View.whole cc0_scratch0).readCov (hsP m c t) (Rect.unit (s := S528x2048) ![0, 0] ![528, 512] inb_S528x2048_S528x512_0_0).toLoadRect
abbrev R1 := (View.whole cc0_scratch0).readCov (hsP m c t) (Rect.unit (s := S528x2048) ![0, 512] ![528, 512] inb_S528x2048_S528x512_0_512).toLoadRect
abbrev R2 := (View.whole cc0_scratch0).readCov (hsP m c t) (Rect.unit (s := S528x2048) ![0, 1024] ![528, 512] inb_S528x2048_S528x512_0_1024).toLoadRect
abbrev R3 := (View.whole cc0_scratch0).readCov (hsP m c t) (Rect.unit (s := S528x2048) ![0, 1536] ![528, 512] inb_S528x2048_S528x512_0_1536).toLoadRect
abbrev O0 := (View.whole cc0_scratch0).readCov (hsP m c t) (Rect.unit (s := S528x2048) ![16, 0] ![512, 512] inb_S528x2048_S512x512_16_0).toLoadRect
abbrev O1 := (View.whole cc0_scratch0).readCov (hsP m c t) (Rect.unit (s := S528x2048) ![16, 512] ![512, 512] inb_S528x2048_S512x512_16_512).toLoadRect
abbrev O2 := (View.whole cc0_scratch0).readCov (hsP m c t) (Rect.unit (s := S528x2048) ![16, 1024] ![512, 512] inb_S528x2048_S512x512_16_1024).toLoadRect
abbrev O3 := (View.whole cc0_scratch0).readCov (hsP m c t) (Rect.unit (s := S528x2048) ![16, 1536] ![512, 512] inb_S528x2048_S512x512_16_1536).toLoadRect
abbrev W0 := View.ld (iblk m c 3 t : FVec Ideal S4x512x512 .bf16) (Rect.unit ![0, 0, 0] ![1, 512, 512] inb_S4x512x512_S1x512x512_0_0_0)
abbrev W1 := View.ld (iblk m c 3 t : FVec Ideal S4x512x512 .bf16) (Rect.unit ![1, 0, 0] ![1, 512, 512] inb_S4x512x512_S1x512x512_1_0_0)
abbrev W2 := View.ld (iblk m c 3 t : FVec Ideal S4x512x512 .bf16) (Rect.unit ![2, 0, 0] ![1, 512, 512] inb_S4x512x512_S1x512x512_2_0_0)
abbrev W3 := View.ld (iblk m c 3 t : FVec Ideal S4x512x512 .bf16) (Rect.unit ![3, 0, 0] ![1, 512, 512] inb_S4x512x512_S1x512x512_3_0_0)
abbrev P0 := View.ld (iblk m c 4 t : FVec Ideal S1x2048 .f32) (Rect.unit ![0, 0] ![1, 512] inb_S1x2048_S1x512_0_0)
abbrev P1 := View.ld (iblk m c 4 t : FVec Ideal S1x2048 .f32) (Rect.unit ![0, 512] ![1, 512] inb_S1x2048_S1x512_0_512)
abbrev P2 := View.ld (iblk m c 4 t : FVec Ideal S1x2048 .f32) (Rect.unit ![0, 1024] ![1, 512] inb_S1x2048_S1x512_0_1024)
abbrev P3 := View.ld (iblk m c 4 t : FVec Ideal S1x2048 .f32) (Rect.unit ![0, 1536] ![1, 512] inb_S1x2048_S1x512_0_1536)

/-- The four quarters' entries. -/
theorem y0 (a e : Fin 512) : k0_pay8 (wi t) (R0 m c t) (O0 m c t) (W0 m c t) (P0 m c t) (ix2 a e) = yv (xa m c) (ga m c) (wa m c) (sa m c) 0 (bt t) (rw' t a) e :=
  (pay8_at _ _ _ _ (fun r x => hz (xa m c) (ga m c) (bt t) (col 0 x) (t.val % 8 * 512 + r)) (fun r x => quarter m c t 0 0 rfl _ r x) _ _ a e (wi_pos t a)).trans
    (tile_eq m c t 0 _ _ _ _ a e (fun n x => rfl) (fun x => own m c t 0 0 rfl _ a x) (fun x => wq m c t 0 0 rfl _ x e) (sq m c t 0 0 rfl _ e))

theorem y1 (a e : Fin 512) : k0_pay11 (k0_pay7 (wi t)) (R1 m c t) (O1 m c t) (W1 m c t) (P1 m c t) (ix2 a e) = yv (xa m c) (ga m c) (wa m c) (sa m c) 1 (bt t) (rw' t a) e :=
  (pay11_at _ _ _ _ (fun r x => hz (xa m c) (ga m c) (bt t) (col 1 x) (t.val % 8 * 512 + r)) (fun r x => quarter m c t 1 512 rfl _ r x) _ _ a e (wi_col t a)).trans
    (tile_eq m c t 1 _ _ _ _ a e (fun n x => rfl) (fun x => own m c t 1 512 rfl _ a x) (fun x => wq m c t 1 1 rfl _ x e) (sq m c t 1 512 rfl _ e))

theorem y2 (a e : Fin 512) : k0_pay15 (k0_pay7 (wi t)) (k0_pay14 (R2 m c t)) (O2 m c t) (W2 m c t) (P2 m c t) (ix2 a e) = yv (xa m c) (ga m c) (wa m c) (sa m c) 2 (bt t) (rw' t a) e :=
  (pay15_at _ _ _ _ (fun r x => hz (xa m c) (ga m c) (bt t) (col 2 x) (t.val % 8 * 512 + r)) (fun r x => quarter m c t 2 1024 rfl _ r x) _ _ a e (wi_col t a)).trans
    (tile_eq m c t 2 _ _ _ _ a e (fun n x => rfl) (fun x => own m c t 2 1024 rfl _ a x) (fun x => wq m c t 2 2 rfl _ x e) (sq m c t 2 1024 rfl _ e))

theorem y3 (a e : Fin 512) : k0_pay20 (k0_pay7 (wi t)) (k0_pay18 (R3 m c t)) (k0_pay19 (R3 m c t)) (O3 m c t) (W3 m c t) (P3 m c t) (ix2 a e) = yv (xa m c) (ga m c) (wa m c) (sa m c) 3 (bt t) (rw' t a) e :=
  (pay20_at _ _ _ _ (fun r x => hz (xa m c) (ga m c) (bt t) (col 3 x) (t.val % 8 * 512 + r)) (fun r x => quarter m c t 3 1536 rfl _ r x) _ _ a e (wi_col t a)).trans
    (tile_eq m c t 3 _ _ _ _ a e (fun n x => rfl) (fun x => own m c t 3 1536 rfl _ a x) (fun x => wq m c t 3 3 rfl _ x e) (sq m c t 3 1536 rfl _ e))

/-- The output block before the norm: the four quarters side by side. -/
abbrev yP : List (View.Piece (Elt Ideal) S1x512x2048 .f32) :=
  [⟨Rect.unit ![0, 0, 1536] ![1, 512, 512] inb_S1x512x2048_S1x512x512_0_0_1536, k0_pay21 (k0_pay7 (wi t)) (k0_pay18 (R3 m c t)) (k0_pay19 (R3 m c t)) (O3 m c t) (W3 m c t) (P3 m c t)⟩,
    ⟨Rect.unit ![0, 0, 1024] ![1, 512, 512] inb_S1x512x2048_S1x512x512_0_0_1024, k0_pay17 (k0_pay7 (wi t)) (k0_pay14 (R2 m c t)) (O2 m c t) (W2 m c t) (P2 m c t)⟩,
    ⟨Rect.unit ![0, 0, 512] ![1, 512, 512] inb_S1x512x2048_S1x512x512_0_0_512, k0_pay13 (k0_pay7 (wi t)) (R1 m c t) (O1 m c t) (W1 m c t) (P1 m c t)⟩,
    ⟨Rect.unit ![0, 0, 0] ![1, 512, 512] inb_S1x512x2048_S1x512x512_0_0_0, k0_pay10 (wi t) (R0 m c t) (O0 m c t) (W0 m c t) (P0 m c t)⟩]

/-- The last store at an entry it holds, and at one it does not. -/
theorem canon_in (p : FVec Ideal S1x512x512 .f32) (L : List (View.Piece (Elt Ideal) S1x512x2048 .f32)) (off : Nat) (inb : ∀ a, (![0, 0, off] : Fin 3 → Nat) a + (![1, 512, 512] : Fin 3 → Nat) a ≤ S1x512x2048.size a) (a : Fin 512) (k : Fin 2048)
    (h : off ≤ k.val ∧ k.val < off + 512) : View.canon (⟨Rect.unit ![0, 0, off] ![1, 512, 512] inb, p⟩ :: L) (ix3 0 a k) = p (ix3 0 a ⟨k.val - off, by omega⟩) := by
  have he : (ix3 0 a k : S1x512x2048.Idx) = (Rect.unit (s := S1x512x2048) ![0, 0, off] ![1, 512, 512] inb).emb (ix3 0 a (⟨k.val - off, by omega⟩ : Fin 512) : (⟨3, ![1, 512, 512]⟩ : Shape).Idx) := by
    blk_ext
  rw [he]
  exact View.canon_cons_emb _ _ _ _

theorem canon_out (p : FVec Ideal S1x512x512 .f32) (L : List (View.Piece (Elt Ideal) S1x512x2048 .f32)) (off : Nat) (inb : ∀ a, (![0, 0, off] : Fin 3 → Nat) a + (![1, 512, 512] : Fin 3 → Nat) a ≤ S1x512x2048.size a) (a : Fin 512) (k : Fin 2048)
    (h : ¬ (off ≤ k.val ∧ k.val < off + 512)) : View.canon (⟨Rect.unit ![0, 0, off] ![1, 512, 512] inb, p⟩ :: L) (ix3 0 a k) = View.canon L (ix3 0 a k) :=
  View.canon_cons_of_not_mem _ _ fun hm => by
    rw [Rect.mem_set_unit] at hm
    exact h (hm 2)

/-- Four blocks of 512 columns side by side, at an entry. -/
theorem canon_four (p3 p2 p1 p0 : FVec Ideal S1x512x512 .f32) (Y : Fin 4 → Fin 512 → EReal) (a : Fin 512) (h0 : ∀ e, p0 (ix3 0 a e) = Y 0 e) (h1 : ∀ e, p1 (ix3 0 a e) = Y 1 e) (h2 : ∀ e, p2 (ix3 0 a e) = Y 2 e) (h3 : ∀ e, p3 (ix3 0 a e) = Y 3 e) (k : Fin 2048) :
    View.canon (Val := Elt Ideal) (s := S1x512x2048) (e := .f32) [⟨Rect.unit ![0, 0, 1536] ![1, 512, 512] inb_S1x512x2048_S1x512x512_0_0_1536, p3⟩, ⟨Rect.unit ![0, 0, 1024] ![1, 512, 512] inb_S1x512x2048_S1x512x512_0_0_1024, p2⟩,
      ⟨Rect.unit ![0, 0, 512] ![1, 512, 512] inb_S1x512x2048_S1x512x512_0_0_512, p1⟩, ⟨Rect.unit ![0, 0, 0] ![1, 512, 512] inb_S1x512x2048_S1x512x512_0_0_0, p0⟩] (ix3 0 a k) = Y ⟨k.val / 512, by omega⟩ ⟨k.val % 512, by omega⟩ := by
  have at' : ∀ (q : Fin 4) (e : Fin 512), k.val = 512 * q.val + e.val → Y q e = Y ⟨k.val / 512, by omega⟩ ⟨k.val % 512, by omega⟩ := fun q e h => by
    have e1 : (⟨k.val / 512, by omega⟩ : Fin 4) = q := Fin.ext (by simp only; omega)
    have e2 : (⟨k.val % 512, by omega⟩ : Fin 512) = e := Fin.ext (by simp only; omega)
    rw [e1, e2]
  by_cases c3 : 1536 ≤ k.val ∧ k.val < 1536 + 512
  · rw [canon_in _ _ _ _ a k c3, h3]
    exact at' 3 _ (show k.val = 512 * 3 + (k.val - 1536) by omega)
  rw [canon_out _ _ _ _ a k c3]
  by_cases c2 : 1024 ≤ k.val ∧ k.val < 1024 + 512
  · rw [canon_in _ _ _ _ a k c2, h2]
    exact at' 2 _ (show k.val = 512 * 2 + (k.val - 1024) by omega)
  rw [canon_out _ _ _ _ a k c2]
  by_cases c1 : 512 ≤ k.val ∧ k.val < 512 + 512
  · rw [canon_in _ _ _ _ a k c1, h1]
    exact at' 1 _ (show k.val = 512 * 1 + (k.val - 512) by omega)
  rw [canon_out _ _ _ _ a k c1, canon_in _ _ _ _ a k (by omega), h0]
  exact at' 0 _ (show k.val = 512 * 0 + (k.val - 0) by omega)

theorem yP_at (a : Fin 512) (k : Fin 2048) :
    View.canon (yP m c t) (ix3 0 a k) = yv (xa m c) (ga m c) (wa m c) (sa m c) ⟨k.val / 512, by omega⟩ (bt t) (rw' t a) ⟨k.val % 512, by omega⟩ :=
  canon_four _ _ _ _ (fun q e => yv (xa m c) (ga m c) (wa m c) (sa m c) q (bt t) (rw' t a) e) a
    (fun e => (pay10_at _ _ _ _ _ _ _).trans (y0 m c t a e)) (fun e => (pay13_at _ _ _ _ _ _ _).trans (y1 m c t a e)) (fun e => (pay17_at _ _ _ _ _ _ _).trans (y2 m c t a e)) (fun e => (pay21_at _ _ _ _ _ _ _ _).trans (y3 m c t a e)) k

/-- The output block of a point. -/
theorem block_at (a : Fin 512) (k : Fin 2048) :
    k0_pay1 (k0_pay2 (iblk m c 0 t)) (k0_pay22 (k0_pay7 (wi t)) (k0_pay16 (k0_pay7 (wi t)) (k0_pay12 (k0_pay7 (wi t)) (k0_pay9 (wi t) (R0 m c t) (O0 m c t) (W0 m c t) (P0 m c t)) (R1 m c t) (O1 m c t) (W1 m c t) (P1 m c t))
      (k0_pay14 (R2 m c t)) (O2 m c t) (W2 m c t) (P2 m c t)) (k0_pay18 (R3 m c t)) (k0_pay19 (R3 m c t)) (O3 m c t) (W3 m c t) (P3 m c t)
      ((ms0_6 t).view.readCov (yP m c t) (Rect.unit (s := S1x512x2048) ![0, 0, 0] ![1, 512, 2048] inb_S1x512x2048_S1x512x2048_0_0_0).toLoadRect)) (iblk m c 5 t) (ix3 0 a k)
      = spec (xa m c) (ga m c) (wa m c) (sa m c) (oa m c) (bt t) (rw' t a) k := by
  rw [pay1_at, pay16_at, pay12_at, pay9_at, pay2_at]
  have hy : (ms0_6 t).view.readCov (yP m c t) (Rect.unit (s := S1x512x2048) ![0, 0, 0] ![1, 512, 2048] inb_S1x512x2048_S1x512x2048_0_0_0).toLoadRect (ix3 0 a k : (⟨3, ![1, 512, 2048]⟩ : Shape).Idx) = yv (xa m c) (ga m c) (wa m c) (sa m c) ⟨k.val / 512, by omega⟩ (bt t) (rw' t a) ⟨k.val % 512, by omega⟩ := by
    rw [View.readCov_eq_canon']
    refine Eq.trans (congrArg (View.canon (yP m c t)) ?_) (yP_at m c t a k)
    show (Rect.unit (s := S1x512x2048) ![0, 0, 0] ![1, 512, 2048] inb_S1x512x2048_S1x512x2048_0_0_0).emb (ix3 0 a k : (⟨3, ![1, 512, 2048]⟩ : Shape).Idx) = _
    blk_ext
  simp only [y0 m c t, y1 m c t, y2 m c t, y3 m c t]
  have hx := x_read m c t a k (bt t) (rw' t a) rfl rfl
  have ho := o_read m c t k
  unfold spec ssq
  exact congrArg₂ (· + ·) hx (congrArg₂ (· * ·) (congrArg (· * _) hy) ho)

end

theorem out_at (t : Fin cfg0.N) (a : Fin 512) (k : Fin 2048) :
    (outsAt0 m c t : FVec Ideal S1x512x2048 .f32) (ix3 0 a k) = spec (xa m c) (ga m c) (wa m c) (sa m c) (oa m c) (bt t) (rw' t a) k := by
  unfold outsAt0
  frame_out
  exact block_at m c t a k

/-- The result array after the run. -/
theorem final : (dats m 0 c).arrAt 6 (cfgs 0).N = out (xa m c) (ga m c) (wa m c) (sa m c) (oa m c) := by
  refine (dats m 0 c).arrAt_eq_of_covers 6 _ (by decide +kernel) fun t _ y => ?_
  blk_simp
  rw [after0_6]
  have h0 : (y 0).val < 1 := (y 0).isLt
  have h1 : (y 1).val < 512 := (y 1).isLt
  have h2 : (y 2).val < 2048 := (y 2).isLt
  have hy : (((cfg0.win 6).blk t).view.emb y : S4x4096x2048.Idx) = ix3 (bt t) (rw' t ⟨(y 1).val, h1⟩) ⟨(y 2).val, h2⟩ := by
    blk_ext [idx t]
  refine Eq.trans ?_ (congrArg (out (xa m c) (ga m c) (wa m c) (sa m c) (oa m c)) hy.symm)
  have hy' : (y : S1x512x2048.Idx) = ix3 0 ⟨(y 1).val, h1⟩ ⟨(y 2).val, h2⟩ := by blk_ext
  exact (congrArg (outsAt0 m c t : FVec Ideal S1x512x2048 .f32) hy').trans (out_at m c t _ _)

end Cert.Kernel3Ideal.Pool

end
-- ==== Proof.Pool.Sums.lean ====
/-
  Running sums down the positions, and the sum over a window as the difference of two of them, where the rows are real
  numbers.
-/
module

public import proofs.«01_k».proof.Proof.Pool.Spec

@[expose] public section

set_option maxRecDepth 16384

noncomputable section

open Idealize.ShloMosaic

namespace Cert.Pool

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem sum_window (f : ℕ → EReal) (L j : ℕ) (hj : j ≤ L) :
    (∑ w ∈ Finset.range (L + 1), if L ≤ j + w then f (j + w - L) else 0) = ∑ i ∈ Finset.range (j + 1), f i := by
  obtain ⟨d, rfl⟩ : ∃ d, L = j + d := ⟨L - j, by omega⟩
  rw [show j + d + 1 = d + (j + 1) by omega, Finset.sum_range_add]
  rw [Finset.sum_eq_zero fun w hw => if_neg (by have := Finset.mem_range.1 hw; omega), zero_add]
  refine Finset.sum_congr rfl fun i _ => ?_
  rw [if_pos (by omega), show j + (d + i) - (j + d) = i by omega]

theorem numel_col {N : ℕ} : (⟨4, ![1, N, 1, 1]⟩ : Shape).numel = N := by
  simp [Shape.numel, Fin.prod_univ_succ]

theorem symm_col {N : ℕ} (n : Fin (⟨4, ![1, N, 1, 1]⟩ : Shape).numel) : (⟨4, ![1, N, 1, 1]⟩ : Shape).rowMajor.symm n = ix4 (0 : Fin 1) (n.cast numel_col) (0 : Fin 1) (0 : Fin 1) :=
  ((⟨4, ![1, N, 1, 1]⟩ : Shape).rowMajor.symm_apply_eq).2 (Fin.ext (by
    rw [Shape.rowMajor_val_four]
    show n.val = ((0 * N + n.val) * 1 + 0) * 1 + 0
    omega))

/-- A running sum down the second axis, at an entry. -/
theorem cumsum4 {A N C D L : ℕ} (hL : L + 1 = N) (x : FVec Ideal ⟨4, ![A, N, C, D]⟩ .f32) (F : ℕ → EReal) (b : Fin A) (c : Fin C) (d : Fin D) (hx : ∀ n : Fin N, x (ix4 b n c d) = F n.val)
    (h : (⟨4, ![A, N, C, D]⟩ : Shape).ReduceWindows ![1, N, 1, 1] ![1, 1, 1, 1] ![0, L, 0, 0] ![0, 0, 0, 0] ⟨4, ![A, N, C, D]⟩) (j : Fin N) :
    Ideal.hostReduceWindowAdd ![1, N, 1, 1] ![1, 1, 1, 1] ![0, L, 0, 0] ![0, 0, 0, 0] h x (0 : EReal) (ix4 b j c d) = ∑ i ∈ Finset.range (j.val + 1), F i := by
  have hj := j.isLt
  unfold Ideal.hostReduceWindowAdd Host.reduceWindow
  dsimp only
  refine (foldl_add _ _ _).trans ?_
  rw [zero_add]
  refine (congrArg List.sum (List.map_congr_left (g := fun n => (fun w => if L ≤ j.val + w then F (j.val + w - L) else 0) n.val) fun n _ => ?_)).trans ?_
  · have w0 : ((⟨4, ![1, N, 1, 1]⟩ : Shape).rowMajor.symm n 0).val = 0 := by rw [symm_col]; rfl
    have w1 : ((⟨4, ![1, N, 1, 1]⟩ : Shape).rowMajor.symm n 1).val = n.val := by rw [symm_col]; rfl
    have w2 : ((⟨4, ![1, N, 1, 1]⟩ : Shape).rowMajor.symm n 2).val = 0 := by rw [symm_col]; rfl
    have w3 : ((⟨4, ![1, N, 1, 1]⟩ : Shape).rowMajor.symm n 3).val = 0 := by rw [symm_col]; rfl
    have hn : n.val < N := (n.cast numel_col).isLt
    have hb := b.isLt
    have hc := c.isLt
    have hd := d.isLt
    dsimp only
    split
    · next hin =>
      have h1 := hin 1
      change L ≤ j.val * 1 + ((⟨4, ![1, N, 1, 1]⟩ : Shape).rowMajor.symm n 1).val ∧ j.val * 1 + ((⟨4, ![1, N, 1, 1]⟩ : Shape).rowMajor.symm n 1).val - L < N at h1
      rw [w1] at h1
      rw [if_pos (by omega)]
      refine (congrArg x (funext fun a => Fin.ext ?_)).trans (hx ⟨j.val + n.val - L, by omega⟩)
      match a with
      | ⟨0, _⟩ =>
        show b.val * 1 + ((⟨4, ![1, N, 1, 1]⟩ : Shape).rowMajor.symm n 0).val - 0 = b.val
        rw [w0]; omega
      | ⟨1, _⟩ =>
        show j.val * 1 + ((⟨4, ![1, N, 1, 1]⟩ : Shape).rowMajor.symm n 1).val - L = j.val + n.val - L
        rw [w1]; omega
      | ⟨2, _⟩ =>
        show c.val * 1 + ((⟨4, ![1, N, 1, 1]⟩ : Shape).rowMajor.symm n 2).val - 0 = c.val
        rw [w2]; omega
      | ⟨3, _⟩ =>
        show d.val * 1 + ((⟨4, ![1, N, 1, 1]⟩ : Shape).rowMajor.symm n 3).val - 0 = d.val
        rw [w3]; omega
    · next hin =>
      rw [if_neg fun hle => hin fun a => by
        match a with
        | ⟨0, _⟩ =>
          show 0 ≤ b.val * 1 + ((⟨4, ![1, N, 1, 1]⟩ : Shape).rowMajor.symm n 0).val ∧ b.val * 1 + ((⟨4, ![1, N, 1, 1]⟩ : Shape).rowMajor.symm n 0).val - 0 < A
          rw [w0]; omega
        | ⟨1, _⟩ =>
          show L ≤ j.val * 1 + ((⟨4, ![1, N, 1, 1]⟩ : Shape).rowMajor.symm n 1).val ∧ j.val * 1 + ((⟨4, ![1, N, 1, 1]⟩ : Shape).rowMajor.symm n 1).val - L < N
          rw [w1]; omega
        | ⟨2, _⟩ =>
          show 0 ≤ c.val * 1 + ((⟨4, ![1, N, 1, 1]⟩ : Shape).rowMajor.symm n 2).val ∧ c.val * 1 + ((⟨4, ![1, N, 1, 1]⟩ : Shape).rowMajor.symm n 2).val - 0 < C
          rw [w2]; omega
        | ⟨3, _⟩ =>
          show 0 ≤ d.val * 1 + ((⟨4, ![1, N, 1, 1]⟩ : Shape).rowMajor.symm n 3).val ∧ d.val * 1 + ((⟨4, ![1, N, 1, 1]⟩ : Shape).rowMajor.symm n 3).val - 0 < D
          rw [w3]; omega]
  rw [← Fin.sum_univ_def, Fin.sum_univ_eq_sum_range (fun w => if L ≤ j.val + w then F (j.val + w - L) else 0), numel_col]
  exact (congrArg (fun M => ∑ w ∈ Finset.range M, if L ≤ j.val + w then F (j.val + w - L) else 0) hL.symm).trans (sum_window F L j.val (by omega))

/-! ## Windows of real numbers -/

/-- The sum of the values before `n`. -/
def pre (z : ℕ → ℝ) (n : ℕ) : ℝ := ∑ i ∈ Finset.range n, z i

theorem dbl_step (z : ℕ → ℝ) (g : ℕ → EReal) (d : ℕ) (hg : ∀ n, d ≤ n + 1 → g n = ((pre z (n + 1) - pre z (n + 1 - d) : ℝ) : EReal)) (n : ℕ) (hn : 2 * d ≤ n + 1) (hd : 1 ≤ d) :
    dbl g d n = ((pre z (n + 1) - pre z (n + 1 - 2 * d) : ℝ) : EReal) := by
  unfold dbl
  rw [hg n (by omega), hg (n - d) (by omega), ← EReal.coe_add, show n - d + 1 = n + 1 - d by omega, show n + 1 - d - d = n + 1 - 2 * d by omega, sub_add_sub_cancel]

/-- The window's length. -/
def wl (q : Fin 4) : ℕ :=
  match q with
  | 0 => 2
  | 1 => 4
  | 2 => 8
  | 3 => 16

theorem wsum_real (z : ℕ → ℝ) (q : Fin 4) (n : ℕ) (hn : 15 ≤ n) :
    wsum q (fun j => (z j : EReal)) n = ((pre z (n + 1) - pre z (n + 1 - wl q) : ℝ) : EReal) := by
  have h1 : ∀ n, 1 ≤ n + 1 → (fun j => (z j : EReal)) n = ((pre z (n + 1) - pre z (n + 1 - 1) : ℝ) : EReal) := fun n _ => by
    unfold pre
    rw [Finset.sum_range_succ, Nat.add_sub_cancel, add_sub_cancel_left]
  have h2 := fun n hn => dbl_step z _ 1 h1 n hn (by omega)
  have h4 := fun n hn => dbl_step z _ 2 h2 n hn (by omega)
  have h8 := fun n hn => dbl_step z _ 4 h4 n hn (by omega)
  have h16 := fun n hn => dbl_step z _ 8 h8 n hn (by omega)
  match q with
  | 0 => exact h2 n (by omega)
  | 1 => exact h4 n (by omega)
  | 2 => exact h8 n (by omega)
  | 3 => exact h16 n (by omega)

/-- Where the first sixteen values are zero, a running sum from the seventeenth less the one a window before is the window's sum. -/
theorem run_diff (z : ℕ → ℝ) (hz : ∀ n, n < 16 → z n = 0) (q : Fin 4) (s : ℕ) :
    (∑ i ∈ Finset.range (s + 1), (z (16 + i) : EReal)) - (if wl q ≤ s then ∑ i ∈ Finset.range (s - wl q + 1), (z (16 + i) : EReal) else 0)
      = wsum q (fun j => (z j : EReal)) (16 + s) := by
  have z0 : ∀ n, n ≤ 16 → pre z n = 0 := fun n hn => Finset.sum_eq_zero fun i hi => hz i (by have := Finset.mem_range.1 hi; omega)
  have hs : ∀ n, (∑ i ∈ Finset.range n, (z (16 + i) : EReal)) = ((pre z (16 + n) : ℝ) : EReal) := fun n => by
    have e : pre z (16 + n) = ∑ i ∈ Finset.range n, z (16 + i) := by
      have := z0 16 le_rfl
      unfold pre at this ⊢
      rw [Finset.sum_range_add, this, zero_add]
    rw [e]
    clear e
    induction n with
    | zero => rfl
    | succ n ih => rw [Finset.sum_range_succ, Finset.sum_range_succ, ih, EReal.coe_add]
  have hw : 1 ≤ wl q ∧ wl q ≤ 16 := by fin_cases q <;> decide
  rw [wsum_real z q (16 + s) (by omega), hs]
  split
  · next h => rw [hs, ← EReal.coe_sub, show 16 + (s - wl q + 1) = 16 + s + 1 - wl q by omega]; rfl
  · next h => rw [z0 (16 + s + 1 - wl q) (by omega), sub_zero, sub_zero]; rfl

/-! ## The normalised rows are real numbers -/

theorem c2048 : Ideal.ofBits .f32 0x45000000#32 = ((2048 : ℝ) : EReal) := by
  simp [Ideal.ofBits, Ideal.ieee]
  rw [← EReal.coe_mul]
  norm_num

theorem ceps : ∃ r : ℝ, 0 < r ∧ Ideal.ofBits .f32 0x358637BD#32 = r := by
  refine ⟨8796093 * (2 ^ 43)⁻¹, by norm_num, ?_⟩
  rw [EReal.coe_mul]
  simp [Ideal.ofBits, Ideal.ieee]

theorem sum_coe {n : ℕ} (f : Fin n → ℝ) : (∑ i, (f i : EReal)) = ((∑ i, f i : ℝ) : EReal) := by
  classical
  induction (Finset.univ : Finset (Fin n)) using Finset.induction_on with
  | empty => rfl
  | insert a s ha ih => rw [Finset.sum_insert ha, Finset.sum_insert ha, ih, EReal.coe_add]

theorem sq_nonneg' (x : EReal) : 0 ≤ x * x := by
  rcases le_total 0 x with hx | hx
  · exact mul_nonneg hx hx
  · rw [← neg_mul_neg]
    exact mul_nonneg (EReal.neg_nonneg.mpr hx) (EReal.neg_nonneg.mpr hx)

/-- With a real gain the normalised row is real: a row holding an infinity is normalised to zeros. -/
theorem nrm_real {n : ℕ} (o : Fin n → EReal) (k : Fin n) (g : ℝ) :
    ∃ r : ℝ, o k * Ideal.rsqrt (Ideal.div (∑ x, o x * o x) (Ideal.ofBits .f32 0x45000000#32) + Ideal.ofBits .f32 0x358637BD#32) * (g : EReal) = r := by
  obtain ⟨ε, hε, he⟩ := ceps
  rw [c2048, he, Ideal.div_coe (by norm_num)]
  by_cases h : ∃ e, o e = ⊤ ∨ o e = ⊥
  · obtain ⟨e, h⟩ := h
    have h1 : o e * o e = ⊤ := by
      rcases h with h | h <;> rw [h]
      · exact EReal.top_mul_top
      · exact EReal.bot_mul_bot
    have hs : ∑ x, o x * o x = ⊤ :=
      top_le_iff.mp (h1 ▸ Finset.single_le_sum (f := fun x => o x * o x) (fun x _ => sq_nonneg' (o x)) (Finset.mem_univ e))
    refine ⟨0, ?_⟩
    rw [hs, EReal.top_mul_coe_of_pos (by norm_num), EReal.top_add_coe, Ideal.rsqrt_top, mul_zero, zero_mul]
    rfl
  · have hr : ∀ e, ∃ r : ℝ, o e = r := fun e => by
      induction hx : o e using EReal.rec with
      | bot => exact absurd ⟨e, Or.inr hx⟩ h
      | top => exact absurd ⟨e, Or.inl hx⟩ h
      | coe r => exact ⟨r, rfl⟩
    choose r hr using hr
    have hs : ∑ x, o x * o x = ((∑ x, r x * r x : ℝ) : EReal) := by
      rw [← sum_coe]
      exact Finset.sum_congr rfl fun x _ => by rw [hr x, EReal.coe_mul]
    have h0 : 0 ≤ ∑ x, r x * r x := Finset.sum_nonneg fun x _ => mul_self_nonneg _
    have hp : 0 < (∑ x, r x * r x) * (1 / 2048) + ε := by positivity
    rw [hs, ← EReal.coe_mul, ← EReal.coe_add, Ideal.rsqrt_coe, if_neg (not_lt.mpr hp.le), if_neg hp.ne', hr k, ← EReal.coe_mul, ← EReal.coe_mul]
    exact ⟨_, rfl⟩

/-- The rows counted from sixteen rows of zeros, as real numbers. -/
theorem hz_real (X : FVec Ideal ⟨3, ![4, 4096, 2048]⟩ .f32) (g : FVec Ideal ⟨1, ![2048]⟩ .f32) (r : Shape.Idx ⟨1, ![2048]⟩ → ℝ) (hg : g = fun i => (r i : EReal)) (b : Fin 4) (k : Fin 2048) :
    ∃ z : ℕ → ℝ, (∀ n, n < 16 → z n = 0) ∧ hz X g b k = fun n => (z n : EReal) := by
  have h : ∀ n, ∃ v : ℝ, hz X g b k n = v := fun n => by
    unfold hz
    split
    · unfold hid
      rw [hg]
      exact nrm_real (fun x => X (ix3 b _ x)) k _
    · exact ⟨0, rfl⟩
  choose z hzz using h
  refine ⟨z, fun n hn => ?_, funext hzz⟩
  have e := hzz n
  unfold hz at e
  rw [dif_neg (by omega)] at e
  exact_mod_cast e.symm

/-- The difference of two running sums of the rows, a window apart, is the sum over the window. -/
theorem hz_diff (X : FVec Ideal ⟨3, ![4, 4096, 2048]⟩ .f32) (g : FVec Ideal ⟨1, ![2048]⟩ .f32) (r : Shape.Idx ⟨1, ![2048]⟩ → ℝ) (hg : g = fun i => (r i : EReal)) (b : Fin 4) (k : Fin 2048) (q : Fin 4) (s : ℕ) :
    (∑ i ∈ Finset.range (s + 1), hz X g b k (16 + i)) - (if wl q ≤ s then ∑ i ∈ Finset.range (s - wl q + 1), hz X g b k (16 + i) else 0) = wsum q (hz X g b k) (16 + s) := by
  obtain ⟨z, h0, h⟩ := hz_real X g r hg b k
  rw [h]
  exact run_diff z h0 q s

/-- The number of rows in a window is a real number other than zero, so dividing by it is multiplying by its inverse. -/
theorem cnt_real (q : Fin 4) (s : Fin 4096) : ∃ r : ℝ, r ≠ 0 ∧ cnt (wd q) s.val = r := by
  have h : ∀ (q : Fin 4) (s : Fin 4096), (IntOp.minsi (IntOp.addi (BitVec.ofNat 32 s.val) 1#32) (wd q)).toInt ≠ 0 := by decide +kernel
  exact ⟨((IntOp.minsi (IntOp.addi (BitVec.ofNat 32 s.val) 1#32) (wd q)).toInt : ℝ), by exact_mod_cast h q s, rfl⟩

theorem div_cnt (q : Fin 4) (s : Fin 4096) (x : EReal) : Ideal.div x (cnt (wd q) s.val) = x * Ideal.div 1 (cnt (wd q) s.val) := by
  obtain ⟨r, h, e⟩ := cnt_real q s
  rw [e, Ideal.div_coe h, Ideal.div_coe h, one_mul]

/-- A sum over all the columns is the sum over the four quarters. -/
theorem sum_cols (Y : Fin 4 → Fin 512 → EReal) :
    (∑ j : Fin 2048, Y ⟨j.val / 512, by omega⟩ ⟨j.val % 512, by omega⟩) = (((∑ e, Y 0 e) + ∑ e, Y 1 e) + ∑ e, Y 2 e) + ∑ e, Y 3 e := by
  have h := Fin.sum_univ_univ_mul_add 4 512 fun n => if h : n < 2048 then Y ⟨n / 512, by omega⟩ ⟨n % 512, by omega⟩ else 0
  rw [Fin.sum_univ_four] at h
  refine Eq.trans ?_ (h.symm.trans ?_)
  · refine Finset.sum_congr rfl fun j _ => ?_
    rw [dif_pos j.isLt]
  · have e : ∀ (q : Fin 4) (x : Fin 512), (if h : q.val * 512 + x.val < 2048 then Y ⟨(q.val * 512 + x.val) / 512, by omega⟩ ⟨(q.val * 512 + x.val) % 512, by omega⟩ else 0) = Y q x := fun q x => by
      rw [dif_pos (by omega)]
      exact congrArg₂ Y (Fin.ext (by simp only; omega)) (Fin.ext (by simp only; omega))
    exact congrArg₂ (· + ·) (congrArg₂ (· + ·) (congrArg₂ (· + ·) (Finset.sum_congr rfl fun x _ => e 0 x) (Finset.sum_congr rfl fun x _ => e 1 x)) (Finset.sum_congr rfl fun x _ => e 2 x)) (Finset.sum_congr rfl fun x _ => e 3 x)

end Cert.Pool

end
-- ==== Proof.Pool.Ref.lean ====
/-
  The reference's pooling, stage by stage, at an entry.
-/
module

public import proofs.«01_k».proof.Proof.Gen.Reference3Ideal.Run
public import proofs.«01_k».proof.Proof.Pool.Sums
public import Idealize.ShloMosaic.Lib.Pipeline.ValueKit
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Pool

open Cert.Pool Cert.Reference3Ideal Cert.Reference3Ideal.Gen

/-- The normalised rows, four quarters of 512 columns. -/
def hA (x : FVec Ideal S4x4096x2048 .f32) (g : FVec Ideal S2048 .f32) : FVec Ideal S4x4096x4x512 .f32 :=
  (shapeCast _ (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) shapeCasts_S4x4096x2048_S4x4096x4x512)

/-- The running sums down the positions. -/
def csA (h : FVec Ideal S4x4096x4x512 .f32) : FVec Ideal S4x4096x4x512 .f32 :=
  (Host.reduceWindowAdd ![1, 4096, 1, 1] ![1, 1, 1, 1] ![0, 4095, 0, 0] ![0, 0, 0, 0] h (broadcastInDim S_ ![] bcast_S_S_ (constant S_ .f32 0x00000000#32)) reduceWindows_S4x4096x4x512_S4x4096x4x512_w1s1p0_0_w4096s1p4095_0_w1s1p0_0_w1s1p0_0 h_S_)

/-- The mean over the window of quarter 0: the running sum less the one a window before, over the count. -/
def mean0 (cs : FVec Ideal S4x4096x4x512 .f32) : FVec Ideal S4x4096x512 .f32 :=
  (Host.divf (subf (shapeCast _ (extractStridedSlice S4x4096x1x512 ![0, 0, 0, 0] cs slices_S4x4096x4x512_S4x4096x1x512_0_0_0_0) shapeCasts_S4x4096x1x512_S4x4096x512) (extractStridedSlice S4x4096x512 ![0, 0, 0] (pad S4x4098x512 ![0, 2, 0] ![0, 0, 0] ![0, 0, 0] (shapeCast _ (extractStridedSlice S4x4096x1x512 ![0, 0, 0, 0] cs slices_S4x4096x4x512_S4x4096x1x512_0_0_0_0) shapeCasts_S4x4096x1x512_S4x4096x512) (sitofp .f32 (constantI S_ 32 0#32)) pads_S4x4096x512_S4x4098x512_000_200_000 h_S_) slices_S4x4098x512_S4x4096x512_0_0_0)) (broadcastInDim S4x4096x512 ![0, 1, 2] bcast_S1x4096x1_S4x4096x512_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 2#32)))))))

/-- The mean over the window of quarter 1: the running sum less the one a window before, over the count. -/
def mean1 (cs : FVec Ideal S4x4096x4x512 .f32) : FVec Ideal S4x4096x512 .f32 :=
  (Host.divf (subf (shapeCast _ (extractStridedSlice S4x4096x1x512 ![0, 0, 1, 0] cs slices_S4x4096x4x512_S4x4096x1x512_0_0_1_0) shapeCasts_S4x4096x1x512_S4x4096x512) (extractStridedSlice S4x4096x512 ![0, 0, 0] (pad S4x4100x512 ![0, 4, 0] ![0, 0, 0] ![0, 0, 0] (shapeCast _ (extractStridedSlice S4x4096x1x512 ![0, 0, 1, 0] cs slices_S4x4096x4x512_S4x4096x1x512_0_0_1_0) shapeCasts_S4x4096x1x512_S4x4096x512) (sitofp .f32 (constantI S_ 32 0#32)) pads_S4x4096x512_S4x4100x512_000_400_000 h_S_) slices_S4x4100x512_S4x4096x512_0_0_0)) (broadcastInDim S4x4096x512 ![0, 1, 2] bcast_S1x4096x1_S4x4096x512_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 4#32)))))))

/-- The mean over the window of quarter 2: the running sum less the one a window before, over the count. -/
def mean2 (cs : FVec Ideal S4x4096x4x512 .f32) : FVec Ideal S4x4096x512 .f32 :=
  (Host.divf (subf (shapeCast _ (extractStridedSlice S4x4096x1x512 ![0, 0, 2, 0] cs slices_S4x4096x4x512_S4x4096x1x512_0_0_2_0) shapeCasts_S4x4096x1x512_S4x4096x512) (extractStridedSlice S4x4096x512 ![0, 0, 0] (pad S4x4104x512 ![0, 8, 0] ![0, 0, 0] ![0, 0, 0] (shapeCast _ (extractStridedSlice S4x4096x1x512 ![0, 0, 2, 0] cs slices_S4x4096x4x512_S4x4096x1x512_0_0_2_0) shapeCasts_S4x4096x1x512_S4x4096x512) (sitofp .f32 (constantI S_ 32 0#32)) pads_S4x4096x512_S4x4104x512_000_800_000 h_S_) slices_S4x4104x512_S4x4096x512_0_0_0)) (broadcastInDim S4x4096x512 ![0, 1, 2] bcast_S1x4096x1_S4x4096x512_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 8#32)))))))

/-- The mean over the window of quarter 3: the running sum less the one a window before, over the count. -/
def mean3 (cs : FVec Ideal S4x4096x4x512 .f32) : FVec Ideal S4x4096x512 .f32 :=
  (Host.divf (subf (shapeCast _ (extractStridedSlice S4x4096x1x512 ![0, 0, 3, 0] cs slices_S4x4096x4x512_S4x4096x1x512_0_0_3_0) shapeCasts_S4x4096x1x512_S4x4096x512) (extractStridedSlice S4x4096x512 ![0, 0, 0] (pad S4x4112x512 ![0, 16, 0] ![0, 0, 0] ![0, 0, 0] (shapeCast _ (extractStridedSlice S4x4096x1x512 ![0, 0, 3, 0] cs slices_S4x4096x4x512_S4x4096x1x512_0_0_3_0) shapeCasts_S4x4096x1x512_S4x4096x512) (sitofp .f32 (constantI S_ 32 0#32)) pads_S4x4096x512_S4x4112x512_000_1600_000 h_S_) slices_S4x4112x512_S4x4096x512_0_0_0)) (broadcastInDim S4x4096x512 ![0, 1, 2] bcast_S1x4096x1_S4x4096x512_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 16#32)))))))

/-- The means less the rows. -/
def mxA (g0 g1 g2 g3 : FVec Ideal S4x4096x512 .f32) (h : FVec Ideal S4x4096x4x512 .f32) : FVec Ideal S4x4096x4x512 .f32 :=
  (subf ((concatenate S4x4096x4x512 2 [⟨S4x4096x1x512, ((broadcastInDim S4x4096x1x512 ![0, 1, 3] bcast_S4x4096x512_S4x4096x1x512_0_1_3 g0) : (⟨S4x4096x1x512, .f32⟩ : BufTy).Contents (Elt Ideal))⟩, ⟨S4x4096x1x512, ((broadcastInDim S4x4096x1x512 ![0, 1, 3] bcast_S4x4096x512_S4x4096x1x512_0_1_3 g1) : (⟨S4x4096x1x512, .f32⟩ : BufTy).Contents (Elt Ideal))⟩, ⟨S4x4096x1x512, ((broadcastInDim S4x4096x1x512 ![0, 1, 3] bcast_S4x4096x512_S4x4096x1x512_0_1_3 g2) : (⟨S4x4096x1x512, .f32⟩ : BufTy).Contents (Elt Ideal))⟩, ⟨S4x4096x1x512, ((broadcastInDim S4x4096x1x512 ![0, 1, 3] bcast_S4x4096x512_S4x4096x1x512_0_1_3 g3) : (⟨S4x4096x1x512, .f32⟩ : BufTy).Contents (Elt Ideal))⟩] concatenates_S4x4096x1x512_S4x4096x1x512_S4x4096x1x512_S4x4096x1x512_S4x4096x4x512_d2 : (⟨S4x4096x4x512, .f32⟩ : BufTy).Contents (Elt Ideal))) h)

/-- Each quarter through its matrix and scales. -/
def yA (w : FVec Ideal S4x512x512 .f32) (ps : FVec Ideal S2048 .f32) (mm : FVec Ideal S4x4096x4x512 .f32) : FVec Ideal S4x4096x2048 .f32 :=
  (mulf (shapeCast _ (transpose S4x4096x4x512 [2, 3, 0, 1] (Host.dotGeneral dot_S4x512x512_S4x4096x4x512_S4x512x4x4096_1_3_2_01_0_2 none w mm) transposes_S4x512x4x4096_S4x4096x4x512_2_3_0_1) shapeCasts_S4x4096x4x512_S4x4096x2048) (broadcastInDim S4x4096x2048 ![0, 1, 2] bcast_S1x1x2048_S4x4096x2048_0_1_2 (broadcastInDim S1x1x2048 ![2] bcast_S2048_S1x1x2048_2 ps)))

/-- The residual plus the normed result. -/
def outA (x : FVec Ideal S4x4096x2048 .f32) (gp : FVec Ideal S2048 .f32) (yy : FVec Ideal S4x4096x2048 .f32) : FVec Ideal S4x4096x2048 .f32 :=
  addf x (mulf (mulf yy (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf yy yy) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 gp)))

theorem res_eq (m : (ℓ : Loc nD τ sig) → Buf (Elt Ideal) ℓ) (c : Dev nD) :
    Value.res_main_v93 m c = outA (m ((c.tc : Thread nD τ).loc main_arg0)) (m ((c.tc : Thread nD τ).loc main_arg4)) (yA (m ((c.tc : Thread nD τ).loc main_arg2)) (m ((c.tc : Thread nD τ).loc main_arg3))
      (let h := hA (m ((c.tc : Thread nD τ).loc main_arg0)) (m ((c.tc : Thread nD τ).loc main_arg1)); mxA (mean0 (csA h)) (mean1 (csA h)) (mean2 (csA h)) (mean3 (csA h)) h)) := by
  unfold Value.res_main_v93 outA yA mxA mean0 mean1 mean2 mean3 csA hA
  rfl

theorem hA_at (x : FVec Ideal S4x4096x2048 .f32) (g : FVec Ideal S2048 .f32) (b : Fin 4) (s : Fin 4096) (q : Fin 4) (e : Fin 512) : hA x g (ix4 b s q e) = hid x g b s (col q e) := by
  have hc : (⟨q.val * 512 + e.val, by omega⟩ : Fin 2048) = col q e := Fin.ext (by simp only; omega)
  unfold hA
  pointwise
  unfold hid
  rw [hc]

theorem window_add {A N C D L : ℕ} {u : Shape} (hL : L + 1 = N) (x : FVec Ideal ⟨4, ![A, N, C, D]⟩ .f32) (init : FVec Ideal u .f32) (F : ℕ → EReal) (b : Fin A) (c : Fin C) (d : Fin D) (hx : ∀ n : Fin N, x (ix4 b n c d) = F n.val)
    (h : (⟨4, ![A, N, C, D]⟩ : Shape).ReduceWindows ![1, N, 1, 1] ![1, 1, 1, 1] ![0, L, 0, 0] ![0, 0, 0, 0] ⟨4, ![A, N, C, D]⟩) (hu : 0 < u.numel) (h0 : init (Shape.Idx.first hu) = (0 : EReal)) (j : Fin N) :
    Host.reduceWindowAdd ![1, N, 1, 1] ![1, 1, 1, 1] ![0, L, 0, 0] ![0, 0, 0, 0] x init h hu (ix4 b j c d) = ∑ i ∈ Finset.range (j.val + 1), F i := by
  refine Eq.trans ?_ (cumsum4 hL x F b c d hx h j)
  rw [← h0]
  rfl

theorem csA_gen (h : FVec Ideal S4x4096x4x512 .f32) (F : ℕ → EReal) (b : Fin 4) (s : Fin 4096) (q : Fin 4) (e : Fin 512) (hF : ∀ n : Fin 4096, h (ix4 b n q e) = F n.val) :
    csA h (ix4 b s q e) = ∑ i ∈ Finset.range (s.val + 1), F i := by
  unfold csA
  exact window_add (A := 4) (N := 4096) (C := 4) (D := 512) (L := 4095) (by norm_num) h _ F b q e hF _ _ (by
    show Ideal.ofBits .f32 0x00000000#32 = 0
    simp [Ideal.ofBits, Ideal.ieee]) s

theorem csA_at (x : FVec Ideal S4x4096x2048 .f32) (g : FVec Ideal S2048 .f32) (b : Fin 4) (s : Fin 4096) (q : Fin 4) (e : Fin 512) :
    csA (hA x g) (ix4 b s q e) = ∑ i ∈ Finset.range (s.val + 1), hz x g b (col q e) (16 + i) := by
  refine csA_gen (hA x g) (fun i => hz x g b (col q e) (16 + i)) b s q e fun n => ?_
  rw [hA_at]
  unfold hz
  rw [dif_pos (by omega)]
  exact congrArg (fun s => hid x g b s (col q e)) (Fin.ext (by simp only; omega))

/-- A mean from the running sums. -/
theorem mean_val (x : FVec Ideal S4x4096x2048 .f32) (g : FVec Ideal S2048 .f32) (r : Shape.Idx ⟨1, ![2048]⟩ → ℝ) (hg : g = fun i => (r i : EReal)) (q : Fin 4) (w : ℕ) (hw : w = wl q) (b : Fin 4) (s : Fin 4096) (e : Fin 512) (d : EReal) (hd : d = cnt (wd q) s.val) :
    Ideal.div (csA (hA x g) (ix4 b s q e) - if h : w ≤ s.val ∧ s.val - w < 4096 then csA (hA x g) (ix4 b ⟨s.val - w, h.2⟩ q e) else FloatOps.sitofp (F := Ideal) .f32 0#32) d
      = wsum q (hz x g b (col q e)) (16 + s.val) * Ideal.div 1 (cnt (wd q) s.val) := by
  subst hw hd
  rw [div_cnt, ← hz_diff x g r hg b (col q e) q s.val, csA_at]
  refine congrArg (fun v : EReal => (_ - v) * _) ?_
  by_cases h : wl q ≤ s.val
  · rw [dif_pos ⟨h, by omega⟩, if_pos h, csA_at]
  · rw [dif_neg fun h' => h h'.1, if_neg h]
    show (((0#32 : BitVec 32).toInt : ℝ) : EReal) = 0
    simp

theorem mean0_eq (cs : FVec Ideal S4x4096x4x512 .f32) (b : Fin 4) (s : Fin 4096) (e : Fin 512) :
    mean0 cs (ix3 b s e) = Ideal.div (cs (ix4 b s 0 e) - if h : 2 ≤ s.val ∧ s.val - 2 < 4096 then cs (ix4 b ⟨s.val - 2, h.2⟩ 0 e) else FloatOps.sitofp (F := Ideal) .f32 0#32)
      (FloatOps.sitofp (F := Ideal) .f32 (IntOp.minsi (IntOp.addi (BitVec.ofNat 32 s.val) 1#32) 2#32)) := by
  unfold mean0
  pointwise

theorem mean0_at (x : FVec Ideal S4x4096x2048 .f32) (g : FVec Ideal S2048 .f32) (r : Shape.Idx ⟨1, ![2048]⟩ → ℝ) (hg : g = fun i => (r i : EReal)) (b : Fin 4) (s : Fin 4096) (e : Fin 512) :
    mean0 (csA (hA x g)) (ix3 b s e) = wsum 0 (hz x g b (col 0 e)) (16 + s.val) * Ideal.div 1 (cnt (wd 0) s.val) := by
  rw [mean0_eq]
  exact mean_val x g r hg 0 2 rfl b s e _ (by unfold cnt wd; rfl)

theorem mean1_eq (cs : FVec Ideal S4x4096x4x512 .f32) (b : Fin 4) (s : Fin 4096) (e : Fin 512) :
    mean1 cs (ix3 b s e) = Ideal.div (cs (ix4 b s 1 e) - if h : 4 ≤ s.val ∧ s.val - 4 < 4096 then cs (ix4 b ⟨s.val - 4, h.2⟩ 1 e) else FloatOps.sitofp (F := Ideal) .f32 0#32)
      (FloatOps.sitofp (F := Ideal) .f32 (IntOp.minsi (IntOp.addi (BitVec.ofNat 32 s.val) 1#32) 4#32)) := by
  unfold mean1
  pointwise

theorem mean1_at (x : FVec Ideal S4x4096x2048 .f32) (g : FVec Ideal S2048 .f32) (r : Shape.Idx ⟨1, ![2048]⟩ → ℝ) (hg : g = fun i => (r i : EReal)) (b : Fin 4) (s : Fin 4096) (e : Fin 512) :
    mean1 (csA (hA x g)) (ix3 b s e) = wsum 1 (hz x g b (col 1 e)) (16 + s.val) * Ideal.div 1 (cnt (wd 1) s.val) := by
  rw [mean1_eq]
  exact mean_val x g r hg 1 4 rfl b s e _ (by unfold cnt wd; rfl)

theorem mean2_eq (cs : FVec Ideal S4x4096x4x512 .f32) (b : Fin 4) (s : Fin 4096) (e : Fin 512) :
    mean2 cs (ix3 b s e) = Ideal.div (cs (ix4 b s 2 e) - if h : 8 ≤ s.val ∧ s.val - 8 < 4096 then cs (ix4 b ⟨s.val - 8, h.2⟩ 2 e) else FloatOps.sitofp (F := Ideal) .f32 0#32)
      (FloatOps.sitofp (F := Ideal) .f32 (IntOp.minsi (IntOp.addi (BitVec.ofNat 32 s.val) 1#32) 8#32)) := by
  unfold mean2
  pointwise

theorem mean2_at (x : FVec Ideal S4x4096x2048 .f32) (g : FVec Ideal S2048 .f32) (r : Shape.Idx ⟨1, ![2048]⟩ → ℝ) (hg : g = fun i => (r i : EReal)) (b : Fin 4) (s : Fin 4096) (e : Fin 512) :
    mean2 (csA (hA x g)) (ix3 b s e) = wsum 2 (hz x g b (col 2 e)) (16 + s.val) * Ideal.div 1 (cnt (wd 2) s.val) := by
  rw [mean2_eq]
  exact mean_val x g r hg 2 8 rfl b s e _ (by unfold cnt wd; rfl)

theorem mean3_eq (cs : FVec Ideal S4x4096x4x512 .f32) (b : Fin 4) (s : Fin 4096) (e : Fin 512) :
    mean3 cs (ix3 b s e) = Ideal.div (cs (ix4 b s 3 e) - if h : 16 ≤ s.val ∧ s.val - 16 < 4096 then cs (ix4 b ⟨s.val - 16, h.2⟩ 3 e) else FloatOps.sitofp (F := Ideal) .f32 0#32)
      (FloatOps.sitofp (F := Ideal) .f32 (IntOp.minsi (IntOp.addi (BitVec.ofNat 32 s.val) 1#32) 16#32)) := by
  unfold mean3
  pointwise

theorem mean3_at (x : FVec Ideal S4x4096x2048 .f32) (g : FVec Ideal S2048 .f32) (r : Shape.Idx ⟨1, ![2048]⟩ → ℝ) (hg : g = fun i => (r i : EReal)) (b : Fin 4) (s : Fin 4096) (e : Fin 512) :
    mean3 (csA (hA x g)) (ix3 b s e) = wsum 3 (hz x g b (col 3 e)) (16 + s.val) * Ideal.div 1 (cnt (wd 3) s.val) := by
  rw [mean3_eq]
  exact mean_val x g r hg 3 16 rfl b s e _ (by unfold cnt wd; rfl)

theorem mxA_eq (g0 g1 g2 g3 : FVec Ideal S4x4096x512 .f32) (h : FVec Ideal S4x4096x4x512 .f32) (b : Fin 4) (s : Fin 4096) (q : Fin 4) (e : Fin 512) (Y : Fin 4 → EReal)
    (h0 : g0 (ix3 b s e) = Y 0) (h1 : g1 (ix3 b s e) = Y 1) (h2 : g2 (ix3 b s e) = Y 2) (h3 : g3 (ix3 b s e) = Y 3) : mxA g0 g1 g2 g3 h (ix4 b s q e) = Y q - h (ix4 b s q e) := by
  unfold mxA
  pointwise
  refine congrArg (· - h (ix4 b s q e)) ?_
  rw [h0, h1, h2, h3]
  match q with
  | 0 => rw [dif_pos (by decide)]
  | 1 => rw [dif_neg (by decide), dif_pos (by decide)]
  | 2 => rw [dif_neg (by decide), dif_neg (by decide), dif_pos (by decide)]
  | 3 => rw [dif_neg (by decide), dif_neg (by decide), dif_neg (by decide)]

theorem mxA_at (x : FVec Ideal S4x4096x2048 .f32) (g : FVec Ideal S2048 .f32) (r : Shape.Idx ⟨1, ![2048]⟩ → ℝ) (hg : g = fun i => (r i : EReal)) (b : Fin 4) (s : Fin 4096) (q : Fin 4) (e : Fin 512) :
    mxA (mean0 (csA (hA x g))) (mean1 (csA (hA x g))) (mean2 (csA (hA x g))) (mean3 (csA (hA x g))) (hA x g) (ix4 b s q e) = mx x g q b s e := by
  rw [mxA_eq _ _ _ _ _ b s q e (fun q => wsum q (hz x g b (col q e)) (16 + s.val) * Ideal.div 1 (cnt (wd q) s.val)) (mean0_at x g r hg b s e) (mean1_at x g r hg b s e) (mean2_at x g r hg b s e) (mean3_at x g r hg b s e), hA_at]
  rfl

theorem yA_at (w : FVec Ideal S4x512x512 .f32) (ps : FVec Ideal S2048 .f32) (mm : FVec Ideal S4x4096x4x512 .f32) (b : Fin 4) (s : Fin 4096) (k : Fin 2048) :
    yA w ps mm (ix3 b s k) = (∑ x : Fin 512, mm (ix4 b s ⟨k.val / 512, by omega⟩ x) * w (ix3 ⟨k.val / 512, by omega⟩ x ⟨k.val % 512, by omega⟩)) * ps (ix1 k) := by
  unfold yA
  pointwise
  exact congrArg (· * _) (Finset.sum_congr rfl fun x _ => mul_comm _ _)

theorem outA_at (x : FVec Ideal S4x4096x2048 .f32) (gp : FVec Ideal S2048 .f32) (yy : FVec Ideal S4x4096x2048 .f32) (b : Fin 4) (s : Fin 4096) (k : Fin 2048) :
    outA x gp yy (ix3 b s k) = x (ix3 b s k) + yy (ix3 b s k) * Ideal.rsqrt (Ideal.div (∑ j : Fin 2048, yy (ix3 b s j) * yy (ix3 b s j)) (Ideal.ofBits .f32 0x45000000#32) + Ideal.ofBits .f32 0x358637BD#32) * gp (ix1 k) := by
  unfold outA
  pointwise
  try rfl

/-- The reference's result is the pooling's. -/
theorem res_out (m : (ℓ : Loc nD τ sig) → Buf (Elt Ideal) ℓ) (c : Dev nD) (r : Shape.Idx ⟨1, ![2048]⟩ → ℝ) (hg : (m ((c.tc : Thread nD τ).loc main_arg1) : FVec Ideal S2048 .f32) = fun i => (r i : EReal)) :
    Value.res_main_v93 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [res_eq]
  dsimp only
  have hm := mxA_at (m ((c.tc : Thread nD τ).loc main_arg0)) (m ((c.tc : Thread nD τ).loc main_arg1)) r hg
  generalize mxA (mean0 (csA (hA (m ((c.tc : Thread nD τ).loc main_arg0)) (m ((c.tc : Thread nD τ).loc main_arg1))))) (mean1 (csA (hA (m ((c.tc : Thread nD τ).loc main_arg0)) (m ((c.tc : Thread nD τ).loc main_arg1))))) (mean2 (csA (hA (m ((c.tc : Thread nD τ).loc main_arg0)) (m ((c.tc : Thread nD τ).loc main_arg1))))) (mean3 (csA (hA (m ((c.tc : Thread nD τ).loc main_arg0)) (m ((c.tc : Thread nD τ).loc main_arg1))))) (hA (m ((c.tc : Thread nD τ).loc main_arg0)) (m ((c.tc : Thread nD τ).loc main_arg1))) = M at hm ⊢
  have hy : ∀ (b : Fin 4) (s : Fin 4096) (k : Fin 2048), yA (m ((c.tc : Thread nD τ).loc main_arg2)) (m ((c.tc : Thread nD τ).loc main_arg3)) M (ix3 b s k)
      = yv (m ((c.tc : Thread nD τ).loc main_arg0)) (m ((c.tc : Thread nD τ).loc main_arg1)) (m ((c.tc : Thread nD τ).loc main_arg2)) (m ((c.tc : Thread nD τ).loc main_arg3)) ⟨k.val / 512, by omega⟩ b s ⟨k.val % 512, by omega⟩ := fun b s k => by
    have hc : col ⟨k.val / 512, by omega⟩ ⟨k.val % 512, by omega⟩ = k := Fin.ext (by simp only; omega)
    rw [yA_at]
    unfold yv
    simp only [hm, hc]
  generalize yA (m ((c.tc : Thread nD τ).loc main_arg2)) (m ((c.tc : Thread nD τ).loc main_arg3)) M = Y at hy ⊢
  have hk : ∀ (b : Fin 4) (s : Fin 4096) (k : Fin 2048), outA (m ((c.tc : Thread nD τ).loc main_arg0)) (m ((c.tc : Thread nD τ).loc main_arg4)) Y (ix3 b s k) = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s k := fun b s k => by
    rw [outA_at]
    unfold spec ssq
    simp only [hy]
    rw [sum_cols fun q e => yv (m ((c.tc : Thread nD τ).loc main_arg0)) (m ((c.tc : Thread nD τ).loc main_arg1)) (m ((c.tc : Thread nD τ).loc main_arg2)) (m ((c.tc : Thread nD τ).loc main_arg3)) q b s e * yv (m ((c.tc : Thread nD τ).loc main_arg0)) (m ((c.tc : Thread nD τ).loc main_arg1)) (m ((c.tc : Thread nD τ).loc main_arg2)) (m ((c.tc : Thread nD τ).loc main_arg3)) q b s e]
  funext i
  have he : i = ix3 (i 0) (i 1) (i 2) := by blk_ext
  exact (congrArg _ he).trans (hk (i 0) (i 1) (i 2))

end Cert.Reference3Ideal.Pool

end
-- ==== Proof.Pool.Value.lean ====
/-
  The pooling call's result array is the reference's own composed term, where the gain of the norm before the pooling
  holds real numbers: then every normalised row is real, and the difference of two running sums is the sum over the
  window between them.
-/
module

public import proofs.«01_k».proof.Proof.Pool.Out
public import proofs.«01_k».proof.Proof.Pool.Ref
public import proofs.«01_k».proof.Proof.Gen.Pre_finite_gain
public import proofs.«01_k».proof.Proof.Attn.Pre
public import proofs.«01_k».proof.Defs

@[expose] public section

set_option maxRecDepth 16384

noncomputable section

open Idealize.ShloMosaic Idealize.ShloMosaic.TcCoe Idealize.SL.Sem
open Idealize.ShloMosaic.Pipeline (Dat)

namespace Cert.Pre_finite_gain

/-- The gain holds real numbers. -/
theorem reals (a0 : FVec Ideal S4x4096x2048 .f32) (a1 : FVec Ideal S2048 .f32) (a2 : FVec Ideal S4x512x512 .f32) (a3 a4 : FVec Ideal S2048 .f32)
    (h : fn (F := Ideal) a0 a1 a2 a3 a4 = fun _ => 1#1) : ∃ r : S2048.Idx → ℝ, a1 = fun i => (r i : EReal) := by
  have e := congrFun h fun a => a.elim0
  unfold fn at e
  exact Cert.Pre_finite.all_real _ _ _ _ _ _ e

end Cert.Pre_finite_gain

namespace Cert.Kernel3Ideal.Pool

open Cert.Pool Cert.Kernel3Ideal Cert.Kernel3Ideal.Gen

/-- Kernel and reference end with the same array. -/
theorem algebraic : Cert.algebraic_Kernel3Ideal_Reference3Ideal_pre_finite_gain := by
  pair_intro
  · run_from Cert.Kernel3Ideal.Gen.run_main m g
  · have hf : ∀ c : Dev nD, (dats m 0 c).arrAt 6 (cfgs 0).N = out (xa m c) (ga m c) (wa m c) (sa m c) (oa m c) := fun c => final m c
    run_from Cert.Reference3Ideal.Value.run m' g'
    obtain ⟨r, hr⟩ := Cert.Pre_finite_gain.reals _ _ _ _ _ (hpre c)
    obtain ⟨e0, e1, e2, e3, e4⟩ := hagree c
    refine (Cert.Reference3Ideal.Pool.res_out m' c r (e1.trans hr)).trans (Eq.trans ?_ (hf c).symm)
    rw [e0, e1, e2, e3, e4]

end Cert.Kernel3Ideal.Pool

end
-- ==== Proof.lean ====
/-
  The claims: for the attention call, the feed-forward call, the pooling call and the out-projection call, the frames of
  the kernel as written, of its ideal reading and of the reference, and the equality of kernel and reference in exact
  arithmetic; for attention also that its one named constant reads as written, its equality being claimed of finite
  values and factor vectors; for pooling the equality is claimed of a finite gain before the pooling.
-/
module

public import proofs.«01_k».proof.Defs
public import proofs.«01_k».proof.Proof.Attn.Run
public import proofs.«01_k».proof.Proof.Attn.Value
public import proofs.«01_k».proof.Proof.AttnBits.Run
public import proofs.«01_k».proof.Proof.Gen.ReferenceIdeal.Run
public import proofs.«01_k».proof.Proof.Gen.Pre_finite
public import proofs.«01_k».proof.Proof.Gen.Pre_finite_gain
public import proofs.«01_k».proof.Proof.Gen.Kernel2.Frame
public import proofs.«01_k».proof.Proof.Gen.Kernel4.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel2Ideal.Value
public import proofs.«01_k».proof.Proof.Gen.Kernel4Ideal.Value
public import proofs.«01_k».proof.Proof.Gen.Reference2Ideal.Run
public import proofs.«01_k».proof.Proof.Gen.Reference4Ideal.Run
public import proofs.«01_k».proof.Proof.Ffn.Value
public import proofs.«01_k».proof.Proof.Oproj.Value
public import proofs.«01_k».proof.Proof.Pool.Value
public import Idealize.ShloMosaic.Adequacy
public import Idealize.ShloMosaic.Init

@[expose] public section

noncomputable section

namespace Cert.Proof

open Idealize.ShloMosaic Idealize.SL.Sem

/-- The references declare no semaphore, and their runs write no argument. -/
theorem frame_ref : Cert.quiescent_ReferenceIdeal := fun m ρ _ =>
  (θ_run Cert.ReferenceIdeal.defs _ _).mono (fun r h => ⟨fun c => (h c).2.2.2.2, sem_eq_zero_of_no_sems (by decide) r.2⟩) (Cert.ReferenceIdeal.Value.run (F := Ideal) m ρ)

/-- Minus infinity is the value the ideal reading gives the kernel's mask literal. -/
theorem mask_named : Cert.preserves_Kernel_KernelIdeal :=
  IdealRules.named_const.statement Cert.KernelIdeal.κ "mask" .f32 0xF149F2CA#32 ⊥ rfl

theorem frame_ref2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem frame_ref3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem frame_ref4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_finite_gain.Gen.facts,
  fun m g _ => Cert.Kernel.Attn.frame (F := Bits) m g, fun m g _ => Cert.KernelIdeal.Attn.frame (F := Ideal) m g, fun m g _ => Cert.KernelIdeal.Attn.frame (F := Ideal) m g,
  frame_ref, fun m g _ => frame_ref m g trivial,
  fun m g _ => Cert.Kernel2.Gen.frame m g, fun m g _ => Cert.Kernel2Ideal.Gen.frame m g, frame_ref2,
  fun m g _ => Cert.Kernel3.Gen.frame m g, fun m g _ => Cert.Kernel3Ideal.Gen.frame m g, fun m g _ => Cert.Kernel3Ideal.Gen.frame m g,
  frame_ref3, fun m g _ => frame_ref3 m g trivial,
  fun m g _ => Cert.Kernel4.Gen.frame m g, fun m g _ => Cert.Kernel4Ideal.Gen.frame m g, frame_ref4,
  mask_named, Cert.KernelIdeal.Attn.algebraic, trivial, Cert.Kernel2Ideal.Ffn.algebraic, trivial, Cert.Kernel3Ideal.Pool.algebraic, trivial, Cert.Kernel4Ideal.Oproj.algebraic⟩

end Cert.Proof

end
